-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S100000x128 : Shape := ⟨2, ![100000, 128]⟩
abbrev S100000 : Shape := ⟨1, ![100000]⟩
abbrev S100x128 : Shape := ⟨2, ![100, 128]⟩
abbrev S256x128 : Shape := ⟨2, ![256, 128]⟩
abbrev S128 : Shape := ⟨1, ![128]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x128 .f32) (main_arg1 : IVec S100000 32) (main_arg2 : FVec F S100x128 .f32) (main_arg3 : FVec F S256x128 .f32) (main_arg4 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 100#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg1
  let main_v8 : IVec S99999 32 := (extractStridedSlice S99999 ![1] · slices_S100000_S99999_1) main_arg1
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x128 : Shape := ⟨2, ![100000, 128]⟩
abbrev S100000 : Shape := ⟨1, ![100000]⟩
abbrev S100x128 : Shape := ⟨2, ![100, 128]⟩
abbrev S256x128 : Shape := ⟨2, ![256, 128]⟩
abbrev S128 : Shape := ⟨1, ![128]⟩
abbrev S_ : Shape := ⟨0, ![]⟩
abbrev S106496 : Shape := ⟨1, ![106496]⟩
abbrev S1 : Shape := ⟨1, ![1]⟩
abbrev S106496x1 : Shape := ⟨2, ![106496, 1]⟩
abbrev S416 : Shape := ⟨1, ![416]⟩
abbrev S128x128 : Shape := ⟨2, ![128, 128]⟩
abbrev S1x128 : Shape := ⟨2, ![1, 128]⟩
abbrev S8192x128 : Shape := ⟨2, ![8192, 128]⟩
abbrev S8192x1 : Shape := ⟨2, ![8192, 1]⟩
abbrev S256x1 : Shape := ⟨2, ![256, 1]⟩
abbrev S128x1 : Shape := ⟨2, ![128, 1]⟩

abbrev nBuf : Space → Nat
  | .hbm => 21
  | .vmem => 10
  | .smem => 2
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100x128, .f32⟩
  | .hbm, ⟨3, _⟩ => ⟨S256x128, .f32⟩
  | .hbm, ⟨4, _⟩ => ⟨S128, .f32⟩
  | .hbm, ⟨5, _⟩ => ⟨S_, .i32⟩
  | .hbm, ⟨6, _⟩ => ⟨S106496, .i32⟩
  | .hbm, ⟨7, _⟩ => ⟨S_, .i32⟩
  | .hbm, ⟨8, _⟩ => ⟨S1, .i32⟩
  | .hbm, ⟨9, _⟩ => ⟨S106496, .i32⟩
  | .hbm, ⟨10, _⟩ => ⟨S106496x1, .i32⟩
  | .hbm, ⟨11, _⟩ => ⟨S_, .f32⟩
  | .hbm, ⟨12, _⟩ => ⟨S128x128, .f32⟩
  | .hbm, ⟨13, _⟩ => ⟨S_, .i32⟩
  | .hbm, ⟨14, _⟩ => ⟨S1, .i32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S1x128, .f32⟩
  | .hbm, ⟨19, _⟩ => ⟨S128x128, .f32⟩
  | .hbm, ⟨20, _⟩ => ⟨S100x128, .f32⟩
  | .local _ .vmem, ⟨0, _⟩ => ⟨S8192x128, .f32⟩
  | .local _ .vmem, ⟨1, _⟩ => ⟨S8192x128, .f32⟩
  | .local _ .vmem, ⟨2, _⟩ => ⟨S8192x1, .i32⟩
  | .local _ .vmem, ⟨3, _⟩ => ⟨S8192x1, .i32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .smem, ⟨0, _⟩ => ⟨S416, .i32⟩
  | .local _ .smem, ⟨1, _⟩ => ⟨S416, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v4 : Ref sig .tc := ⟨.smem, 0, rfl⟩
abbrev main_v5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![13], ![false]⟩

abbrev pre0 : Pipeline.Prefetch sig := ⟨2, ![main_v4.idx, main_v5.idx], fun | 0 => main_v4.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v6 : BitVec 32 := Scalar.muli arg0 c32_i32
  let c0_i32_4 : BitVec 32 := 0#32
  let v7 : BitVec 32 := Scalar.addi v6 c0_i32_4
  let v8 : Index := Scalar.indexCast v7
  ![v8.toNat]
def k0_off2 (v9 : BitVec 32) : Fin 2 → Nat :=
  let v488 : Index := Scalar.indexCast v9
  let c0_195 : Index := 0#32
  ![v488.toNat, 0]
def k0_cond2 (v9 : BitVec 32) (v11 : BitVec 32) : BitVec 1 :=
  let v12 : BitVec 1 := Scalar.cmpi .eq v9 v11
  let v13 : BitVec 32 := Scalar.extui v12
  let c0_i32_5 : BitVec 32 := 0#32
  let v14 : BitVec 1 := Scalar.cmpi .ne v13 c0_i32_5
  v14

@[reducible] def k0_t1_loop (v9 : BitVec 32) (v11 : BitVec 32) : Scf.Loop 32 :=
  let c1_i32_195 : BitVec 32 := 1#32
  let v486 : BitVec 32 := Scalar.addi v11 c1_i32_195
  let v487 : BitVec 32 := Scalar.subi v486 v9
  let c1_i32_197 : BitVec 32 := 1#32
  let v489 : BitVec 32 := Scalar.divsi v487 c1_i32_197
  let v490 : BitVec 32 := Scalar.muli v489 c1_i32_197
  let v491 : BitVec 32 := Scalar.addi v9 v490
  let c1_i32_198 : BitVec 32 := 1#32
  ⟨v9, v491, c1_i32_198⟩
def k0_cond3 (v9 : BitVec 32) (v11 : BitVec 32) : BitVec 1 :=
  let v15 : BitVec 1 := Scalar.cmpi .ne v9 v11
  let v16 : BitVec 32 := Scalar.extui v15
  let c0_i32_6 : BitVec 32 := 0#32
  let v17 : BitVec 1 := Scalar.cmpi .ne v16 c0_i32_6
  v17

def k0_off3 (v9 : BitVec 32) (v11 : BitVec 32) (k0_t1 : Fin (k0_t1_loop v9 v11).trips) : Fin 2 → Nat :=
  let c1_i32_198 : BitVec 32 := 1#32
  let arg11 : BitVec 32 := Scf.iv v9 c1_i32_198 k0_t1
  let v502 : Index := Scalar.indexCast arg11
  let c0_201 : Index := 0#32
  ![v502.toNat, 0]
@[reducible] def k0_t2_loop (v9 : BitVec 32) (v11 : BitVec 32) : Scf.Loop 32 :=
  let c1_i32_195 : BitVec 32 := 1#32
  let v486 : BitVec 32 := Scalar.addi v11 c1_i32_195
  let v487 : BitVec 32 := Scalar.subi v486 v9
  let c1_i32_197 : BitVec 32 := 1#32
  let v489 : BitVec 32 := Scalar.divsi v487 c1_i32_197
  let v490 : BitVec 32 := Scalar.muli v489 c1_i32_197
  let v491 : BitVec 32 := Scalar.addi v9 v490
  let v488 : BitVec 32 := Scalar.addi v9 v487
  let c1_i32_199 : BitVec 32 := 1#32
  ⟨v491, v488, c1_i32_199⟩
def k0_off4 (v9 : BitVec 32) (v11 : BitVec 32) (k0_t2 : Fin (k0_t2_loop v9 v11).trips) : Fin 2 → Nat :=
  let c1_i32_195 : BitVec 32 := 1#32
  let v486 : BitVec 32 := Scalar.addi v11 c1_i32_195
  let v487 : BitVec 32 := Scalar.subi v486 v9
  let c1_i32_197 : BitVec 32 := 1#32
  let v489 : BitVec 32 := Scalar.divsi v487 c1_i32_197
  let v490 : BitVec 32 := Scalar.muli v489 c1_i32_197
  let v491 : BitVec 32 := Scalar.addi v9 v490
  let c1_i32_199 : BitVec 32 := 1#32
  let arg11 : BitVec 32 := Scf.iv v491 c1_i32_199 k0_t2
  let v502 : Index := Scalar.indexCast arg11
  let c0_201 : Index := 0#32
  ![v502.toNat, 0]

def k0_chk1 (v9 : BitVec 32) (v11 : BitVec 32) : Prop :=
  (∀ (k0_h2 : k0_cond2 v9 v11 = 1#1), ∀ a, (k0_off2 v9) a + S1x128.size a ≤ S128x128.size a) ∧
  (∀ (k0_h3 : k0_cond3 v9 v11 = 1#1), (k0_t1_loop v9 v11).OK) ∧
  (∀ k0_t1 : Fin (k0_t1_loop v9 v11).trips, ∀ (k0_h3 : k0_cond3 v9 v11 = 1#1), ∀ a, (k0_off3 v9 v11 k0_t1) a + S1x128.size a ≤ S128x128.size a) ∧
  (∀ (k0_h3 : k0_cond3 v9 v11 = 1#1), (k0_t2_loop v9 v11).OK) ∧
  (∀ k0_t2 : Fin (k0_t2_loop v9 v11).trips, ∀ (k0_h3 : k0_cond3 v9 v11 = 1#1), ∀ a, (k0_off4 v9 v11 k0_t2) a + S1x128.size a ≤ S128x128.size a)
theorem k0_off2_inb : ∀ (v9 : BitVec 32) (v11 : BitVec 32) (k0_hw1 : k0_chk1 v9 v11), ∀ (k0_h2 : k0_cond2 v9 v11 = 1#1), ∀ a, (k0_off2 v9) a + S1x128.size a ≤ S128x128.size a := fun v9 v11 k0_hw1 k0_h2 => k0_hw1.1 k0_h2
theorem k0_t1_ok : ∀ (v9 : BitVec 32) (v11 : BitVec 32) (k0_hw1 : k0_chk1 v9 v11), ∀ (k0_h3 : k0_cond3 v9 v11 = 1#1), (k0_t1_loop v9 v11).OK := fun v9 v11 k0_hw1 k0_h3 => k0_hw1.2.1 k0_h3
theorem k0_off3_inb : ∀ (v9 : BitVec 32) (v11 : BitVec 32) (k0_hw1 : k0_chk1 v9 v11) (k0_t1 : Fin (k0_t1_loop v9 v11).trips), ∀ (k0_h3 : k0_cond3 v9 v11 = 1#1), ∀ a, (k0_off3 v9 v11 k0_t1) a + S1x128.size a ≤ S128x128.size a := fun v9 v11 k0_hw1 k0_t1 k0_h3 => k0_hw1.2.2.1 k0_t1 k0_h3
theorem k0_t2_ok : ∀ (v9 : BitVec 32) (v11 : BitVec 32) (k0_hw1 : k0_chk1 v9 v11), ∀ (k0_h3 : k0_cond3 v9 v11 = 1#1), (k0_t2_loop v9 v11).OK := fun v9 v11 k0_hw1 k0_h3 => k0_hw1.2.2.2.1 k0_h3
theorem k0_off4_inb : ∀ (v9 : BitVec 32) (v11 : BitVec 32) (k0_hw1 : k0_chk1 v9 v11) (k0_t2 : Fin (k0_t2_loop v9 v11).trips), ∀ (k0_h3 : k0_cond3 v9 v11 = 1#1), ∀ a, (k0_off4 v9 v11 k0_t2) a + S1x128.size a ≤ S128x128.size a := fun v9 v11 k0_hw1 k0_t2 k0_h3 => k0_hw1.2.2.2.2 k0_t2 k0_h3

def k0_off5 (i : grid0.Coords) : Fin 1 → Nat :=
  let arg0 : BitVec 32 := BitVec.ofNat 32 (i 0).val
  let c32_i32_10 : BitVec 32 := 32#32
  let v21 : BitVec 32 := Scalar.muli arg0 c32_i32_10
  let c1_i32 : BitVec 32 := 1#32
  let v22 : BitVec 32 := Scalar.addi v21 c1_i32
  let v23 : Index := Scalar.indexCast v22
  ![v23.toNat]
def k0_off6 (v24 : BitVec 32) : Fin 2 → Nat :=
  let v488 : Index := Scalar.indexCast v24
  let c0_195 : Index := 0#32
  ![v488.toNat, 0]
def k0_cond4 (v24 : BitVec 32) (v26 : BitVec 32) : BitVec 1 :=
  let v27 : BitVec 1 := Scalar.cmpi .eq v24 v26
  let v28 : BitVec 32 := Scalar.extui v27
  let c0_i32_11 : BitVec 32 := 0#32
  let v29 : BitVec 1 := Scalar.cmpi .ne v28 c0_i32_11
  v29

@[reducible] def k0_t3_loop (v24 : BitVec 32) (v26 : BitVec 32) : Scf.Loop 32 :=
  let c1_i32_195 : BitVec 32 := 1#32
  let v486 : BitVec 32 := Scalar.addi v26 c1_i32_195
  let v487 : BitVec 32 := Scalar.subi v486 v24
  let c1_i32_197 : BitVec 32 := 1#32
  let v489 : BitVec 32 := Scalar.divsi v487 c1_i32_197
  let v490 : BitVec 32 := Scalar.muli v489 c1_i32_197
  let v491 : BitVec 32 := Scalar.addi v24 v490
  let c1_i32_198 : BitVec 32 := 1#32
  ⟨v24, v491, c1_i32_198⟩
def k0_cond5 (v24 : BitVec 32) (v26 : BitVec 32) : BitVec 1 :=
  let v30 : BitVec 1 := Scalar.cmpi .ne v24 v26
  let v31 : BitVec 32 := Scalar.extui v30
  let c0_i32_12 : BitVec 32 := 0#32
  let v32 : BitVec 1 := Scalar.cmpi .ne v31 c0_i32_12
  v32

def k0_off7 (v24 : BitVec 32) (v26 : BitVec 32) (k0_t3 : Fin (k0_t3_loop v24 v26).trips) : Fin 2 → Nat :=
  let c1_i32_198 : BitVec 32 := 1#32
  let arg11 : BitVec 32 := Scf.iv v24 c1_i32_198 k0_t3
  let v502 : Index := Scalar.indexCast arg11
  let c0_201 : Index := 0#32
  ![v502.toNat, 0]
@[reducible] def k0_t4_loop (v24 : BitVec 32) (v26 : BitVec 32) : Scf.Loop 32 :=
  let c1_i32_195 : BitVec 32 := 1#32
  let v486 : BitVec 32 := Scalar.addi v26 c1_i32_195
  let v487 : BitVec 32 := Scalar.subi v486 v24
  let c1_i32_197 : BitVec 32 := 1#32
  let v489 : BitVec 32 := Scalar.divsi v487 c1_i32_197
  let v490 : BitVec 32 := Scalar.muli v489 c1_i32_197
  let v491 : BitVec 32 := Scalar.addi v24 v490
  let v488 : BitVec 32 := Scalar.addi v24 v487
  let c1_i32_199 : BitVec 32 := 1#32
  ⟨v491, v488, c1_i32_199⟩
def k0_off8 (v24 : BitVec 32) (v26 : BitVec 32) (k0_t4 : Fin (k0_t4_loop v24 v26).trips) : Fin 2 → Nat :=
  let c1_i32_195 : BitVec 32 := 1#32
  let v486 : BitVec 32 := Scalar.addi v26 c1_i32_195
  let v487 : BitVec 32 := Scalar.subi v486 v24
  let c1_i32_197 : BitVec 32 := 1#32
  let v489 : BitVec 32 := Scalar.divsi v487 c1_i32_197
  let v490 : BitVec 32 := Scalar.muli v489 c1_i32_197
  let v491 : BitVec 32 := Scalar.addi v24 v490
  let c1_i32_199 : BitVec 32 := 1#32
  let arg11 : BitVec 32 := Scf.iv v491 c1_i32_199 k0_t4
  let v502 : Index := Scalar.indexCast arg11
  let c0_201 : Index := 0#32
  ![v502.toNat, 0]

def k0_chk2 (v24 : BitVec 32) (v26 : BitVec 32) : Prop :=
  (∀ (k0_h4 : k0_cond4 v24 v26 = 1#1), ∀ a, (k0_off6 v24) a + S1x128.size a ≤ S128x128.size a) ∧
  (∀ (k0_h5 : k0_cond5 v24 v26 = 1#1), (k0_t3_loop v24 v26).OK) ∧
  (∀ k0_t3 : Fin (k0_t3_loop v24 v26).trips, ∀ (k0_h5 : k0_cond5 v24 v26 = 1#1), ∀ a, (k0_off7 v24 v26 k0_t3) a + S1x128.size a ≤ S128x128.size a) ∧
  (∀ (k0_h5 : k0_cond5 v24 v26 = 1#1), (k0_t4_loop v24 v26).OK) ∧
  (∀ k0_t4 : Fin (k0_t4_loop v24 v26).trips, ∀ (k0_h5 : k0_cond5 v24 v26 = 1#1), ∀ a, (k0_off8 v24 v26 k0_t4) a + S1x128.size a ≤ S128x128.size a)
theorem k0_off6_inb : ∀ (v24 : BitVec 32) (v26 : BitVec 32) (k0_hw2 : k0_chk2 v24 v26), ∀ (k0_h4 : k0_cond4 v24 v26 = 1#1), ∀ a, (k0_off6 v24) a + S1x128.size a ≤ S128x128.size a := fun v24 v26 k0_hw2 k0_h4 => k0_hw2.1 k0_h4
theorem k0_t3_ok : ∀ (v24 : BitVec 32) (v26 : BitVec 32) (k0_hw2 : k0_chk2 v24 v26), ∀ (k0_h5 : k0_cond5 v24 v26 = 1#1), (k0_t3_loop v24 v26).OK := fun v24 v26 k0_hw2 k0_h5 => k0_hw2.2.1 k0_h5
theorem k0_off7_inb : ∀ (v24 : BitVec 32) (v26 : BitVec 32) (k0_hw2 : k0_chk2 v24 v26) (k0_t3 : Fin (k0_t3_loop v24 v26).trips), ∀ (k0_h5 : k0_cond5 v24 v26 = 1#1), ∀ a, (k0_off7 v24 v26 k0_t3) a + S1x128.size a ≤ S128x128.size a := fun v24 v26 k0_hw2 k0_t3 k0_h5 => k0_hw2.2.2.1 k0_t3 k0_h5
theorem k0_t4_ok : ∀ (v24 : BitVec 32) (v26 : BitVec 32) (k0_hw2 : k0_chk2 v24 v26), ∀ (k0_h5 : k0_cond5 v24 v26 = 1#1), (k0_t4_loop v24 v26).OK := fun v24 v26 k0_hw2 k0_h5 => k0_hw2.2.2.2.1 k0_h5
theorem k0_off8_inb : ∀ (v24 : BitVec 32) (v26 : BitVec 32) (k0_hw2 : k0_chk2 v24 v26) (k0_t4 : Fin (k0_t4_loop v24 v26).trips), ∀ (k0_h5 : k0_cond5 v24 v26 = 1#1), ∀ a, (k0_off8 v24 v26 k0_t4) a + S1x128.size a ≤ S128x128.size a := fun v24 v26 k0_hw2 k0_t4 k0_h5 => k0_hw2.2.2.2.2 k0_t4 k0_h5

def k0_off9 (i : grid0.Coords) : Fin 1 → Nat :=
  let arg0 : BitVec 32 := BitVec.ofNat 32 (i 0).val
  let c32_i32_16 : BitVec 32 := 32#32
  let v36 : BitVec 32 := Scalar.muli arg0 c32_i32_16
  let c2_i32 : BitVec 32 := 2#32
  let v37 : BitVec 32 := Scalar.addi v36 c2_i32
  let v38 : Index := Scalar.indexCast v37
  ![v38.toNat]
def k0_off10 (v39 : BitVec 32) : Fin 2 → Nat :=
  let v488 : Index := Scalar.indexCast v39
  let c0_195 : Index := 0#32
  ![v488.toNat, 0]
def k0_cond6 (v39 : BitVec 32) (v41 : BitVec 32) : BitVec 1 :=
  let v42 : BitVec 1 := Scalar.cmpi .eq v39 v41
  let v43 : BitVec 32 := Scalar.extui v42
  let c0_i32_17 : BitVec 32 := 0#32
  let v44 : BitVec 1 := Scalar.cmpi .ne v43 c0_i32_17
  v44

@[reducible] def k0_t5_loop (v39 : BitVec 32) (v41 : BitVec 32) : Scf.Loop 32 :=
  let c1_i32_195 : BitVec 32 := 1#32
  let v486 : BitVec 32 := Scalar.addi v41 c1_i32_195
  let v487 : BitVec 32 := Scalar.subi v486 v39
  let c1_i32_197 : BitVec 32 := 1#32
  let v489 : BitVec 32 := Scalar.divsi v487 c1_i32_197
  let v490 : BitVec 32 := Scalar.muli v489 c1_i32_197
  let v491 : BitVec 32 := Scalar.addi v39 v490
  let c1_i32_198 : BitVec 32 := 1#32
  ⟨v39, v491, c1_i32_198⟩
def k0_cond7 (v39 : BitVec 32) (v41 : BitVec 32) : BitVec 1 :=
  let v45 : BitVec 1 := Scalar.cmpi .ne v39 v41
  let v46 : BitVec 32 := Scalar.extui v45
  let c0_i32_18 : BitVec 32 := 0#32
  let v47 : BitVec 1 := Scalar.cmpi .ne v46 c0_i32_18
  v47

def k0_off11 (v39 : BitVec 32) (v41 : BitVec 32) (k0_t5 : Fin (k0_t5_loop v39 v41).trips) : Fin 2 → Nat :=
  let c1_i32_198 : BitVec 32 := 1#32
  let arg11 : BitVec 32 := Scf.iv v39 c1_i32_198 k0_t5
  let v502 : Index := Scalar.indexCast arg11
  let c0_201 : Index := 0#32
  ![v502.toNat, 0]
@[reducible] def k0_t6_loop (v39 : BitVec 32) (v41 : BitVec 32) : Scf.Loop 32 :=
  let c1_i32_195 : BitVec 32 := 1#32
  let v486 : BitVec 32 := Scalar.addi v41 c1_i32_195
  let v487 : BitVec 32 := Scalar.subi v486 v39
  let c1_i32_197 : BitVec 32 := 1#32
  let v489 : BitVec 32 := Scalar.divsi v487 c1_i32_197
  let v490 : BitVec 32 := Scalar.muli v489 c1_i32_197
  let v491 : BitVec 32 := Scalar.addi v39 v490
  let v488 : BitVec 32 := Scalar.addi v39 v487
  let c1_i32_199 : BitVec 32 := 1#32
  ⟨v491, v488, c1_i32_199⟩
def k0_off12 (v39 : BitVec 32) (v41 : BitVec 32) (k0_t6 : Fin (k0_t6_loop v39 v41).trips) : Fin 2 → Nat :=
  let c1_i32_195 : BitVec 32 := 1#32
  let v486 : BitVec 32 := Scalar.addi v41 c1_i32_195
  let v487 : BitVec 32 := Scalar.subi v486 v39
  let c1_i32_197 : BitVec 32 := 1#32
  let v489 : BitVec 32 := Scalar.divsi v487 c1_i32_197
  let v490 : BitVec 32 := Scalar.muli v489 c1_i32_197
  let v491 : BitVec 32 := Scalar.addi v39 v490
  let c1_i32_199 : BitVec 32 := 1#32
  let arg11 : BitVec 32 := Scf.iv v491 c1_i32_199 k0_t6
  let v502 : Index := Scalar.indexCast arg11
  let c0_201 : Index := 0#32
  ![v502.toNat, 0]

def k0_chk3 (v39 : BitVec 32) (v41 : BitVec 32) : Prop :=
  (∀ (k0_h6 : k0_cond6 v39 v41 = 1#1), ∀ a, (k0_off10 v39) a + S1x128.size a ≤ S128x128.size a) ∧
  (∀ (k0_h7 : k0_cond7 v39 v41 = 1#1), (k0_t5_loop v39 v41).OK) ∧
  (∀ k0_t5 : Fin (k0_t5_loop v39 v41).trips, ∀ (k0_h7 : k0_cond7 v39 v41 = 1#1), ∀ a, (k0_off11 v39 v41 k0_t5) a + S1x128.size a ≤ S128x128.size a) ∧
  (∀ (k0_h7 : k0_cond7 v39 v41 = 1#1), (k0_t6_loop v39 v41).OK) ∧
  (∀ k0_t6 : Fin (k0_t6_loop v39 v41).trips, ∀ (k0_h7 : k0_cond7 v39 v41 = 1#1), ∀ a, (k0_off12 v39 v41 k0_t6) a + S1x128.size a ≤ S128x128.size a)
theorem k0_off10_inb : ∀ (v39 : BitVec 32) (v41 : BitVec 32) (k0_hw3 : k0_chk3 v39 v41), ∀ (k0_h6 : k0_cond6 v39 v41 = 1#1), ∀ a, (k0_off10 v39) a + S1x128.size a ≤ S128x128.size a := fun v39 v41 k0_hw3 k0_h6 => k0_hw3.1 k0_h6
theorem k0_t5_ok : ∀ (v39 : BitVec 32) (v41 : BitVec 32) (k0_hw3 : k0_chk3 v39 v41), ∀ (k0_h7 : k0_cond7 v39 v41 = 1#1), (k0_t5_loop v39 v41).OK := fun v39 v41 k0_hw3 k0_h7 => k0_hw3.2.1 k0_h7
theorem k0_off11_inb : ∀ (v39 : BitVec 32) (v41 : BitVec 32) (k0_hw3 : k0_chk3 v39 v41) (k0_t5 : Fin (k0_t5_loop v39 v41).trips), ∀ (k0_h7 : k0_cond7 v39 v41 = 1#1), ∀ a, (k0_off11 v39 v41 k0_t5) a + S1x128.size a ≤ S128x128.size a := fun v39 v41 k0_hw3 k0_t5 k0_h7 => k0_hw3.2.2.1 k0_t5 k0_h7
theorem k0_t6_ok : ∀ (v39 : BitVec 32) (v41 : BitVec 32) (k0_hw3 : k0_chk3 v39 v41), ∀ (k0_h7 : k0_cond7 v39 v41 = 1#1), (k0_t6_loop v39 v41).OK := fun v39 v41 k0_hw3 k0_h7 => k0_hw3.2.2.2.1 k0_h7
theorem k0_off12_inb : ∀ (v39 : BitVec 32) (v41 : BitVec 32) (k0_hw3 : k0_chk3 v39 v41) (k0_t6 : Fin (k0_t6_loop v39 v41).trips), ∀ (k0_h7 : k0_cond7 v39 v41 = 1#1), ∀ a, (k0_off12 v39 v41 k0_t6) a + S1x128.size a ≤ S128x128.size a := fun v39 v41 k0_hw3 k0_t6 k0_h7 => k0_hw3.2.2.2.2 k0_t6 k0_h7

def k0_off13 (i : grid0.Coords) : Fin 1 → Nat :=
  let arg0 : BitVec 32 := BitVec.ofNat 32 (i 0).val
  let c32_i32_22 : BitVec 32 := 32#32
  let v51 : BitVec 32 := Scalar.muli arg0 c32_i32_22
  let c3_i32 : BitVec 32 := 3#32
  let v52 : BitVec 32 := Scalar.addi v51 c3_i32
  let v53 : Index := Scalar.indexCast v52
  ![v53.toNat]
def k0_off14 (v54 : BitVec 32) : Fin 2 → Nat :=
  let v488 : Index := Scalar.indexCast v54
  let c0_195 : Index := 0#32
  ![v488.toNat, 0]
def k0_cond8 (v54 : BitVec 32) (v56 : BitVec 32) : BitVec 1 :=
  let v57 : BitVec 1 := Scalar.cmpi .eq v54 v56
  let v58 : BitVec 32 := Scalar.extui v57
  let c0_i32_23 : BitVec 32 := 0#32
  let v59 : BitVec 1 := Scalar.cmpi .ne v58 c0_i32_23
  v59

@[reducible] def k0_t7_loop (v54 : BitVec 32) (v56 : BitVec 32) : Scf.Loop 32 :=
  let c1_i32_195 : BitVec 32 := 1#32
  let v486 : BitVec 32 := Scalar.addi v56 c1_i32_195
  let v487 : BitVec 32 := Scalar.subi v486 v54
  let c1_i32_197 : BitVec 32 := 1#32
  let v489 : BitVec 32 := Scalar.divsi v487 c1_i32_197
  let v490 : BitVec 32 := Scalar.muli v489 c1_i32_197
  let v491 : BitVec 32 := Scalar.addi v54 v490
  let c1_i32_198 : BitVec 32 := 1#32
  ⟨v54, v491, c1_i32_198⟩
def k0_cond9 (v54 : BitVec 32) (v56 : BitVec 32) : BitVec 1 :=
  let v60 : BitVec 1 := Scalar.cmpi .ne v54 v56
  let v61 : BitVec 32 := Scalar.extui v60
  let c0_i32_24 : BitVec 32 := 0#32
  let v62 : BitVec 1 := Scalar.cmpi .ne v61 c0_i32_24
  v62

def k0_off15 (v54 : BitVec 32) (v56 : BitVec 32) (k0_t7 : Fin (k0_t7_loop v54 v56).trips) : Fin 2 → Nat :=
  let c1_i32_198 : BitVec 32 := 1#32
  let arg11 : BitVec 32 := Scf.iv v54 c1_i32_198 k0_t7
  let v502 : Index := Scalar.indexCast arg11
  let c0_201 : Index := 0#32
  ![v502.toNat, 0]
@[reducible] def k0_t8_loop (v54 : BitVec 32) (v56 : BitVec 32) : Scf.Loop 32 :=
  let c1_i32_195 : BitVec 32 := 1#32
  let v486 : BitVec 32 := Scalar.addi v56 c1_i32_195
  let v487 : BitVec 32 := Scalar.subi v486 v54
  let c1_i32_197 : BitVec 32 := 1#32
  let v489 : BitVec 32 := Scalar.divsi v487 c1_i32_197
  let v490 : BitVec 32 := Scalar.muli v489 c1_i32_197
  let v491 : BitVec 32 := Scalar.addi v54 v490
  let v488 : BitVec 32 := Scalar.addi v54 v487
  let c1_i32_199 : BitVec 32 := 1#32
  ⟨v491, v488, c1_i32_199⟩
def k0_off16 (v54 : BitVec 32) (v56 : BitVec 32) (k0_t8 : Fin (k0_t8_loop v54 v56).trips) : Fin 2 → Nat :=
  let c1_i32_195 : BitVec 32 := 1#32
  let v486 : BitVec 32 := Scalar.addi v56 c1_i32_195
  let v487 : BitVec 32 := Scalar.subi v486 v54
  let c1_i32_197 : BitVec 32 := 1#32
  let v489 : BitVec 32 := Scalar.divsi v487 c1_i32_197
  let v490 : BitVec 32 := Scalar.muli v489 c1_i32_197
  let v491 : BitVec 32 := Scalar.addi v54 v490
  let c1_i32_199 : BitVec 32 := 1#32
  let arg11 : BitVec 32 := Scf.iv v491 c1_i32_199 k0_t8
  let v502 : Index := Scalar.indexCast arg11
  let c0_201 : Index := 0#32
  ![v502.toNat, 0]

def k0_chk4 (v54 : BitVec 32) (v56 : BitVec 32) : Prop :=
  (∀ (k0_h8 : k0_cond8 v54 v56 = 1#1), ∀ a, (k0_off14 v54) a + S1x128.size a ≤ S128x128.size a) ∧
  (∀ (k0_h9 : k0_cond9 v54 v56 = 1#1), (k0_t7_loop v54 v56).OK) ∧
  (∀ k0_t7 : Fin (k0_t7_loop v54 v56).trips, ∀ (k0_h9 : k0_cond9 v54 v56 = 1#1), ∀ a, (k0_off15 v54 v56 k0_t7) a + S1x128.size a ≤ S128x128.size a) ∧
  (∀ (k0_h9 : k0_cond9 v54 v56 = 1#1), (k0_t8_loop v54 v56).OK) ∧
  (∀ k0_t8 : Fin (k0_t8_loop v54 v56).trips, ∀ (k0_h9 : k0_cond9 v54 v56 = 1#1), ∀ a, (k0_off16 v54 v56 k0_t8) a + S1x128.size a ≤ S128x128.size a)
theorem k0_off14_inb : ∀ (v54 : BitVec 32) (v56 : BitVec 32) (k0_hw4 : k0_chk4 v54 v56), ∀ (k0_h8 : k0_cond8 v54 v56 = 1#1), ∀ a, (k0_off14 v54) a + S1x128.size a ≤ S128x128.size a := fun v54 v56 k0_hw4 k0_h8 => k0_hw4.1 k0_h8
theorem k0_t7_ok : ∀ (v54 : BitVec 32) (v56 : BitVec 32) (k0_hw4 : k0_chk4 v54 v56), ∀ (k0_h9 : k0_cond9 v54 v56 = 1#1), (k0_t7_loop v54 v56).OK := fun v54 v56 k0_hw4 k0_h9 => k0_hw4.2.1 k0_h9
theorem k0_off15_inb : ∀ (v54 : BitVec 32) (v56 : BitVec 32) (k0_hw4 : k0_chk4 v54 v56) (k0_t7 : Fin (k0_t7_loop v54 v56).trips), ∀ (k0_h9 : k0_cond9 v54 v56 = 1#1), ∀ a, (k0_off15 v54 v56 k0_t7) a + S1x128.size a ≤ S128x128.size a := fun v54 v56 k0_hw4 k0_t7 k0_h9 => k0_hw4.2.2.1 k0_t7 k0_h9
theorem k0_t8_ok : ∀ (v54 : BitVec 32) (v56 : BitVec 32) (k0_hw4 : k0_chk4 v54 v56), ∀ (k0_h9 : k0_cond9 v54 v56 = 1#1), (k0_t8_loop v54 v56).OK := fun v54 v56 k0_hw4 k0_h9 => k0_hw4.2.2.2.1 k0_h9
theorem k0_off16_inb : ∀ (v54 : BitVec 32) (v56 : BitVec 32) (k0_hw4 : k0_chk4 v54 v56) (k0_t8 : Fin (k0_t8_loop v54 v56).trips), ∀ (k0_h9 : k0_cond9 v54 v56 = 1#1), ∀ a, (k0_off16 v54 v56 k0_t8) a + S1x128.size a ≤ S128x128.size a := fun v54 v56 k0_hw4 k0_t8 k0_h9 => k0_hw4.2.2.2.2 k0_t8 k0_h9

def k0_off17 (i : grid0.Coords) : Fin 1 → Nat :=
  let arg0 : BitVec 32 := BitVec.ofNat 32 (i 0).val
  let c32_i32_28 : BitVec 32 := 32#32
  let v66 : BitVec 32 := Scalar.muli arg0 c32_i32_28
  let c4_i32 : BitVec 32 := 4#32
  let v67 : BitVec 32 := Scalar.addi v66 c4_i32
  let v68 : Index := Scalar.indexCast v67
  ![v68.toNat]
def k0_off18 (v69 : BitVec 32) : Fin 2 → Nat :=
  let v488 : Index := Scalar.indexCast v69
  let c0_195 : Index := 0#32
  ![v488.toNat, 0]
def k0_cond10 (v69 : BitVec 32) (v71 : BitVec 32) : BitVec 1 :=
  let v72 : BitVec 1 := Scalar.cmpi .eq v69 v71
  let v73 : BitVec 32 := Scalar.extui v72
  let c0_i32_29 : BitVec 32 := 0#32
  let v74 : BitVec 1 := Scalar.cmpi .ne v73 c0_i32_29
  v74

@[reducible] def k0_t9_loop (v69 : BitVec 32) (v71 : BitVec 32) : Scf.Loop 32 :=
  let c1_i32_195 : BitVec 32 := 1#32
  let v486 : BitVec 32 := Scalar.addi v71 c1_i32_195
  let v487 : BitVec 32 := Scalar.subi v486 v69
  let c1_i32_197 : BitVec 32 := 1#32
  let v489 : BitVec 32 := Scalar.divsi v487 c1_i32_197
  let v490 : BitVec 32 := Scalar.muli v489 c1_i32_197
  let v491 : BitVec 32 := Scalar.addi v69 v490
  let c1_i32_198 : BitVec 32 := 1#32
  ⟨v69, v491, c1_i32_198⟩
def k0_cond11 (v69 : BitVec 32) (v71 : BitVec 32) : BitVec 1 :=
  let v75 : BitVec 1 := Scalar.cmpi .ne v69 v71
  let v76 : BitVec 32 := Scalar.extui v75
  let c0_i32_30 : BitVec 32 := 0#32
  let v77 : BitVec 1 := Scalar.cmpi .ne v76 c0_i32_30
  v77

def k0_off19 (v69 : BitVec 32) (v71 : BitVec 32) (k0_t9 : Fin (k0_t9_loop v69 v71).trips) : Fin 2 → Nat :=
  let c1_i32_198 : BitVec 32 := 1#32
  let arg11 : BitVec 32 := Scf.iv v69 c1_i32_198 k0_t9
  let v502 : Index := Scalar.indexCast arg11
  let c0_201 : Index := 0#32
  ![v502.toNat, 0]
@[reducible] def k0_t10_loop (v69 : BitVec 32) (v71 : BitVec 32) : Scf.Loop 32 :=
  let c1_i32_195 : BitVec 32 := 1#32
  let v486 : BitVec 32 := Scalar.addi v71 c1_i32_195
  let v487 : BitVec 32 := Scalar.subi v486 v69
  let c1_i32_197 : BitVec 32 := 1#32
  let v489 : BitVec 32 := Scalar.divsi v487 c1_i32_197
  let v490 : BitVec 32 := Scalar.muli v489 c1_i32_197
  let v491 : BitVec 32 := Scalar.addi v69 v490
  let v488 : BitVec 32 := Scalar.addi v69 v487
  let c1_i32_199 : BitVec 32 := 1#32
  ⟨v491, v488, c1_i32_199⟩
def k0_off20 (v69 : BitVec 32) (v71 : BitVec 32) (k0_t10 : Fin (k0_t10_loop v69 v71).trips) : Fin 2 → Nat :=
  let c1_i32_195 : BitVec 32 := 1#32
  let v486 : BitVec 32 := Scalar.addi v71 c1_i32_195
  let v487 : BitVec 32 := Scalar.subi v486 v69
  let c1_i32_197 : BitVec 32 := 1#32
  let v489 : BitVec 32 := Scalar.divsi v487 c1_i32_197
  let v490 : BitVec 32 := Scalar.muli v489 c1_i32_197
  let v491 : BitVec 32 := Scalar.addi v69 v490
  let c1_i32_199 : BitVec 32 := 1#32
  let arg11 : BitVec 32 := Scf.iv v491 c1_i32_199 k0_t10
  let v502 : Index := Scalar.indexCast arg11
  let c0_201 : Index := 0#32
  ![v502.toNat, 0]

def k0_chk5 (v69 : BitVec 32) (v71 : BitVec 32) : Prop :=
  (∀ (k0_h10 : k0_cond10 v69 v71 = 1#1), ∀ a, (k0_off18 v69) a + S1x128.size a ≤ S128x128.size a) ∧
  (∀ (k0_h11 : k0_cond11 v69 v71 = 1#1), (k0_t9_loop v69 v71).OK) ∧
  (∀ k0_t9 : Fin (k0_t9_loop v69 v71).trips, ∀ (k0_h11 : k0_cond11 v69 v71 = 1#1), ∀ a, (k0_off19 v69 v71 k0_t9) a + S1x128.size a ≤ S128x128.size a) ∧
  (∀ (k0_h11 : k0_cond11 v69 v71 = 1#1), (k0_t10_loop v69 v71).OK) ∧
  (∀ k0_t10 : Fin (k0_t10_loop v69 v71).trips, ∀ (k0_h11 : k0_cond11 v69 v71 = 1#1), ∀ a, (k0_off20 v69 v71 k0_t10) a + S1x128.size a ≤ S128x128.size a)
theorem k0_off18_inb : ∀ (v69 : BitVec 32) (v71 : BitVec 32) (k0_hw5 : k0_chk5 v69 v71), ∀ (k0_h10 : k0_cond10 v69 v71 = 1#1), ∀ a, (k0_off18 v69) a + S1x128.size a ≤ S128x128.size a := fun v69 v71 k0_hw5 k0_h10 => k0_hw5.1 k0_h10
theorem k0_t9_ok : ∀ (v69 : BitVec 32) (v71 : BitVec 32) (k0_hw5 : k0_chk5 v69 v71), ∀ (k0_h11 : k0_cond11 v69 v71 = 1#1), (k0_t9_loop v69 v71).OK := fun v69 v71 k0_hw5 k0_h11 => k0_hw5.2.1 k0_h11
theorem k0_off19_inb : ∀ (v69 : BitVec 32) (v71 : BitVec 32) (k0_hw5 : k0_chk5 v69 v71) (k0_t9 : Fin (k0_t9_loop v69 v71).trips), ∀ (k0_h11 : k0_cond11 v69 v71 = 1#1), ∀ a, (k0_off19 v69 v71 k0_t9) a + S1x128.size a ≤ S128x128.size a := fun v69 v71 k0_hw5 k0_t9 k0_h11 => k0_hw5.2.2.1 k0_t9 k0_h11
theorem k0_t10_ok : ∀ (v69 : BitVec 32) (v71 : BitVec 32) (k0_hw5 : k0_chk5 v69 v71), ∀ (k0_h11 : k0_cond11 v69 v71 = 1#1), (k0_t10_loop v69 v71).OK := fun v69 v71 k0_hw5 k0_h11 => k0_hw5.2.2.2.1 k0_h11
theorem k0_off20_inb : ∀ (v69 : BitVec 32) (v71 : BitVec 32) (k0_hw5 : k0_chk5 v69 v71) (k0_t10 : Fin (k0_t10_loop v69 v71).trips), ∀ (k0_h11 : k0_cond11 v69 v71 = 1#1), ∀ a, (k0_off20 v69 v71 k0_t10) a + S1x128.size a ≤ S128x128.size a := fun v69 v71 k0_hw5 k0_t10 k0_h11 => k0_hw5.2.2.2.2 k0_t10 k0_h11

def k0_off21 (i : grid0.Coords) : Fin 1 → Nat :=
  let arg0 : BitVec 32 := BitVec.ofNat 32 (i 0).val
  let c32_i32_34 : BitVec 32 := 32#32
  let v81 : BitVec 32 := Scalar.muli arg0 c32_i32_34
  let c5_i32 : BitVec 32 := 5#32
  let v82 : BitVec 32 := Scalar.addi v81 c5_i32
  let v83 : Index := Scalar.indexCast v82
  ![v83.toNat]
def k0_off22 (v84 : BitVec 32) : Fin 2 → Nat :=
  let v488 : Index := Scalar.indexCast v84
  let c0_195 : Index := 0#32
  ![v488.toNat, 0]
def k0_cond12 (v84 : BitVec 32) (v86 : BitVec 32) : BitVec 1 :=
  let v87 : BitVec 1 := Scalar.cmpi .eq v84 v86
  let v88 : BitVec 32 := Scalar.extui v87
  let c0_i32_35 : BitVec 32 := 0#32
  let v89 : BitVec 1 := Scalar.cmpi .ne v88 c0_i32_35
  v89

@[reducible] def k0_t11_loop (v84 : BitVec 32) (v86 : BitVec 32) : Scf.Loop 32 :=
  let c1_i32_195 : BitVec 32 := 1#32
  let v486 : BitVec 32 := Scalar.addi v86 c1_i32_195
  let v487 : BitVec 32 := Scalar.subi v486 v84
  let c1_i32_197 : BitVec 32 := 1#32
  let v489 : BitVec 32 := Scalar.divsi v487 c1_i32_197
  let v490 : BitVec 32 := Scalar.muli v489 c1_i32_197
  let v491 : BitVec 32 := Scalar.addi v84 v490
  let c1_i32_198 : BitVec 32 := 1#32
  ⟨v84, v491, c1_i32_198⟩
def k0_cond13 (v84 : BitVec 32) (v86 : BitVec 32) : BitVec 1 :=
  let v90 : BitVec 1 := Scalar.cmpi .ne v84 v86
  let v91 : BitVec 32 := Scalar.extui v90
  let c0_i32_36 : BitVec 32 := 0#32
  let v92 : BitVec 1 := Scalar.cmpi .ne v91 c0_i32_36
  v92

def k0_off23 (v84 : BitVec 32) (v86 : BitVec 32) (k0_t11 : Fin (k0_t11_loop v84 v86).trips) : Fin 2 → Nat :=
  let c1_i32_198 : BitVec 32 := 1#32
  let arg11 : BitVec 32 := Scf.iv v84 c1_i32_198 k0_t11
  let v502 : Index := Scalar.indexCast arg11
  let c0_201 : Index := 0#32
  ![v502.toNat, 0]
@[reducible] def k0_t12_loop (v84 : BitVec 32) (v86 : BitVec 32) : Scf.Loop 32 :=
  let c1_i32_195 : BitVec 32 := 1#32
  let v486 : BitVec 32 := Scalar.addi v86 c1_i32_195
  let v487 : BitVec 32 := Scalar.subi v486 v84
  let c1_i32_197 : BitVec 32 := 1#32
  let v489 : BitVec 32 := Scalar.divsi v487 c1_i32_197
  let v490 : BitVec 32 := Scalar.muli v489 c1_i32_197
  let v491 : BitVec 32 := Scalar.addi v84 v490
  let v488 : BitVec 32 := Scalar.addi v84 v487
  let c1_i32_199 : BitVec 32 := 1#32
  ⟨v491, v488, c1_i32_199⟩
def k0_off24 (v84 : BitVec 32) (v86 : BitVec 32) (k0_t12 : Fin (k0_t12_loop v84 v86).trips) : Fin 2 → Nat :=
  let c1_i32_195 : BitVec 32 := 1#32
  let v486 : BitVec 32 := Scalar.addi v86 c1_i32_195
  let v487 : BitVec 32 := Scalar.subi v486 v84
  let c1_i32_197 : BitVec 32 := 1#32
  let v489 : BitVec 32 := Scalar.divsi v487 c1_i32_197
  let v490 : BitVec 32 := Scalar.muli v489 c1_i32_197
  let v491 : BitVec 32 := Scalar.addi v84 v490
  let c1_i32_199 : BitVec 32 := 1#32
  let arg11 : BitVec 32 := Scf.iv v491 c1_i32_199 k0_t12
  let v502 : Index := Scalar.indexCast arg11
  let c0_201 : Index := 0#32
  ![v502.toNat, 0]

def k0_chk6 (v84 : BitVec 32) (v86 : BitVec 32) : Prop :=
  (∀ (k0_h12 : k0_cond12 v84 v86 = 1#1), ∀ a, (k0_off22 v84) a + S1x128.size a ≤ S128x128.size a) ∧
  (∀ (k0_h13 : k0_cond13 v84 v86 = 1#1), (k0_t11_loop v84 v86).OK) ∧
  (∀ k0_t11 : Fin (k0_t11_loop v84 v86).trips, ∀ (k0_h13 : k0_cond13 v84 v86 = 1#1), ∀ a, (k0_off23 v84 v86 k0_t11) a + S1x128.size a ≤ S128x128.size a) ∧
  (∀ (k0_h13 : k0_cond13 v84 v86 = 1#1), (k0_t12_loop v84 v86).OK) ∧
  (∀ k0_t12 : Fin (k0_t12_loop v84 v86).trips, ∀ (k0_h13 : k0_cond13 v84 v86 = 1#1), ∀ a, (k0_off24 v84 v86 k0_t12) a + S1x128.size a ≤ S128x128.size a)
theorem k0_off22_inb : ∀ (v84 : BitVec 32) (v86 : BitVec 32) (k0_hw6 : k0_chk6 v84 v86), ∀ (k0_h12 : k0_cond12 v84 v86 = 1#1), ∀ a, (k0_off22 v84) a + S1x128.size a ≤ S128x128.size a := fun v84 v86 k0_hw6 k0_h12 => k0_hw6.1 k0_h12
theorem k0_t11_ok : ∀ (v84 : BitVec 32) (v86 : BitVec 32) (k0_hw6 : k0_chk6 v84 v86), ∀ (k0_h13 : k0_cond13 v84 v86 = 1#1), (k0_t11_loop v84 v86).OK := fun v84 v86 k0_hw6 k0_h13 => k0_hw6.2.1 k0_h13
theorem k0_off23_inb : ∀ (v84 : BitVec 32) (v86 : BitVec 32) (k0_hw6 : k0_chk6 v84 v86) (k0_t11 : Fin (k0_t11_loop v84 v86).trips), ∀ (k0_h13 : k0_cond13 v84 v86 = 1#1), ∀ a, (k0_off23 v84 v86 k0_t11) a + S1x128.size a ≤ S128x128.size a := fun v84 v86 k0_hw6 k0_t11 k0_h13 => k0_hw6.2.2.1 k0_t11 k0_h13
theorem k0_t12_ok : ∀ (v84 : BitVec 32) (v86 : BitVec 32) (k0_hw6 : k0_chk6 v84 v86), ∀ (k0_h13 : k0_cond13 v84 v86 = 1#1), (k0_t12_loop v84 v86).OK := fun v84 v86 k0_hw6 k0_h13 => k0_hw6.2.2.2.1 k0_h13
theorem k0_off24_inb : ∀ (v84 : BitVec 32) (v86 : BitVec 32) (k0_hw6 : k0_chk6 v84 v86) (k0_t12 : Fin (k0_t12_loop v84 v86).trips), ∀ (k0_h13 : k0_cond13 v84 v86 = 1#1), ∀ a, (k0_off24 v84 v86 k0_t12) a + S1x128.size a ≤ S128x128.size a := fun v84 v86 k0_hw6 k0_t12 k0_h13 => k0_hw6.2.2.2.2 k0_t12 k0_h13

def k0_off25 (i : grid0.Coords) : Fin 1 → Nat :=
  let arg0 : BitVec 32 := BitVec.ofNat 32 (i 0).val
  let c32_i32_40 : BitVec 32 := 32#32
  let v96 : BitVec 32 := Scalar.muli arg0 c32_i32_40
  let c6_i32 : BitVec 32 := 6#32
  let v97 : BitVec 32 := Scalar.addi v96 c6_i32
  let v98 : Index := Scalar.indexCast v97
  ![v98.toNat]
def k0_off26 (v99 : BitVec 32) : Fin 2 → Nat :=
  let v488 : Index := Scalar.indexCast v99
  let c0_195 : Index := 0#32
  ![v488.toNat, 0]
def k0_cond14 (v99 : BitVec 32) (v101 : BitVec 32) : BitVec 1 :=
  let v102 : BitVec 1 := Scalar.cmpi .eq v99 v101
  let v103 : BitVec 32 := Scalar.extui v102
  let c0_i32_41 : BitVec 32 := 0#32
  let v104 : BitVec 1 := Scalar.cmpi .ne v103 c0_i32_41
  v104

@[reducible] def k0_t13_loop (v99 : BitVec 32) (v101 : BitVec 32) : Scf.Loop 32 :=
  let c1_i32_195 : BitVec 32 := 1#32
  let v486 : BitVec 32 := Scalar.addi v101 c1_i32_195
  let v487 : BitVec 32 := Scalar.subi v486 v99
  let c1_i32_197 : BitVec 32 := 1#32
  let v489 : BitVec 32 := Scalar.divsi v487 c1_i32_197
  let v490 : BitVec 32 := Scalar.muli v489 c1_i32_197
  let v491 : BitVec 32 := Scalar.addi v99 v490
  let c1_i32_198 : BitVec 32 := 1#32
  ⟨v99, v491, c1_i32_198⟩
def k0_cond15 (v99 : BitVec 32) (v101 : BitVec 32) : BitVec 1 :=
  let v105 : BitVec 1 := Scalar.cmpi .ne v99 v101
  let v106 : BitVec 32 := Scalar.extui v105
  let c0_i32_42 : BitVec 32 := 0#32
  let v107 : BitVec 1 := Scalar.cmpi .ne v106 c0_i32_42
  v107

def k0_off27 (v99 : BitVec 32) (v101 : BitVec 32) (k0_t13 : Fin (k0_t13_loop v99 v101).trips) : Fin 2 → Nat :=
  let c1_i32_198 : BitVec 32 := 1#32
  let arg11 : BitVec 32 := Scf.iv v99 c1_i32_198 k0_t13
  let v502 : Index := Scalar.indexCast arg11
  let c0_201 : Index := 0#32
  ![v502.toNat, 0]
@[reducible] def k0_t14_loop (v99 : BitVec 32) (v101 : BitVec 32) : Scf.Loop 32 :=
  let c1_i32_195 : BitVec 32 := 1#32
  let v486 : BitVec 32 := Scalar.addi v101 c1_i32_195
  let v487 : BitVec 32 := Scalar.subi v486 v99
  let c1_i32_197 : BitVec 32 := 1#32
  let v489 : BitVec 32 := Scalar.divsi v487 c1_i32_197
  let v490 : BitVec 32 := Scalar.muli v489 c1_i32_197
  let v491 : BitVec 32 := Scalar.addi v99 v490
  let v488 : BitVec 32 := Scalar.addi v99 v487
  let c1_i32_199 : BitVec 32 := 1#32
  ⟨v491, v488, c1_i32_199⟩
def k0_off28 (v99 : BitVec 32) (v101 : BitVec 32) (k0_t14 : Fin (k0_t14_loop v99 v101).trips) : Fin 2 → Nat :=
  let c1_i32_195 : BitVec 32 := 1#32
  let v486 : BitVec 32 := Scalar.addi v101 c1_i32_195
  let v487 : BitVec 32 := Scalar.subi v486 v99
  let c1_i32_197 : BitVec 32 := 1#32
  let v489 : BitVec 32 := Scalar.divsi v487 c1_i32_197
  let v490 : BitVec 32 := Scalar.muli v489 c1_i32_197
  let v491 : BitVec 32 := Scalar.addi v99 v490
  let c1_i32_199 : BitVec 32 := 1#32
  let arg11 : BitVec 32 := Scf.iv v491 c1_i32_199 k0_t14
  let v502 : Index := Scalar.indexCast arg11
  let c0_201 : Index := 0#32
  ![v502.toNat, 0]

def k0_chk7 (v99 : BitVec 32) (v101 : BitVec 32) : Prop :=
  (∀ (k0_h14 : k0_cond14 v99 v101 = 1#1), ∀ a, (k0_off26 v99) a + S1x128.size a ≤ S128x128.size a) ∧
  (∀ (k0_h15 : k0_cond15 v99 v101 = 1#1), (k0_t13_loop v99 v101).OK) ∧
  (∀ k0_t13 : Fin (k0_t13_loop v99 v101).trips, ∀ (k0_h15 : k0_cond15 v99 v101 = 1#1), ∀ a, (k0_off27 v99 v101 k0_t13) a + S1x128.size a ≤ S128x128.size a) ∧
  (∀ (k0_h15 : k0_cond15 v99 v101 = 1#1), (k0_t14_loop v99 v101).OK) ∧
  (∀ k0_t14 : Fin (k0_t14_loop v99 v101).trips, ∀ (k0_h15 : k0_cond15 v99 v101 = 1#1), ∀ a, (k0_off28 v99 v101 k0_t14) a + S1x128.size a ≤ S128x128.size a)
theorem k0_off26_inb : ∀ (v99 : BitVec 32) (v101 : BitVec 32) (k0_hw7 : k0_chk7 v99 v101), ∀ (k0_h14 : k0_cond14 v99 v101 = 1#1), ∀ a, (k0_off26 v99) a + S1x128.size a ≤ S128x128.size a := fun v99 v101 k0_hw7 k0_h14 => k0_hw7.1 k0_h14
theorem k0_t13_ok : ∀ (v99 : BitVec 32) (v101 : BitVec 32) (k0_hw7 : k0_chk7 v99 v101), ∀ (k0_h15 : k0_cond15 v99 v101 = 1#1), (k0_t13_loop v99 v101).OK := fun v99 v101 k0_hw7 k0_h15 => k0_hw7.2.1 k0_h15
theorem k0_off27_inb : ∀ (v99 : BitVec 32) (v101 : BitVec 32) (k0_hw7 : k0_chk7 v99 v101) (k0_t13 : Fin (k0_t13_loop v99 v101).trips), ∀ (k0_h15 : k0_cond15 v99 v101 = 1#1), ∀ a, (k0_off27 v99 v101 k0_t13) a + S1x128.size a ≤ S128x128.size a := fun v99 v101 k0_hw7 k0_t13 k0_h15 => k0_hw7.2.2.1 k0_t13 k0_h15
theorem k0_t14_ok : ∀ (v99 : BitVec 32) (v101 : BitVec 32) (k0_hw7 : k0_chk7 v99 v101), ∀ (k0_h15 : k0_cond15 v99 v101 = 1#1), (k0_t14_loop v99 v101).OK := fun v99 v101 k0_hw7 k0_h15 => k0_hw7.2.2.2.1 k0_h15
theorem k0_off28_inb : ∀ (v99 : BitVec 32) (v101 : BitVec 32) (k0_hw7 : k0_chk7 v99 v101) (k0_t14 : Fin (k0_t14_loop v99 v101).trips), ∀ (k0_h15 : k0_cond15 v99 v101 = 1#1), ∀ a, (k0_off28 v99 v101 k0_t14) a + S1x128.size a ≤ S128x128.size a := fun v99 v101 k0_hw7 k0_t14 k0_h15 => k0_hw7.2.2.2.2 k0_t14 k0_h15

def k0_off29 (i : grid0.Coords) : Fin 1 → Nat :=
  let arg0 : BitVec 32 := BitVec.ofNat 32 (i 0).val
  let c32_i32_46 : BitVec 32 := 32#32
  let v111 : BitVec 32 := Scalar.muli arg0 c32_i32_46
  let c7_i32 : BitVec 32 := 7#32
  let v112 : BitVec 32 := Scalar.addi v111 c7_i32
  let v113 : Index := Scalar.indexCast v112
  ![v113.toNat]
def k0_off30 (v114 : BitVec 32) : Fin 2 → Nat :=
  let v488 : Index := Scalar.indexCast v114
  let c0_195 : Index := 0#32
  ![v488.toNat, 0]
def k0_cond16 (v114 : BitVec 32) (v116 : BitVec 32) : BitVec 1 :=
  let v117 : BitVec 1 := Scalar.cmpi .eq v114 v116
  let v118 : BitVec 32 := Scalar.extui v117
  let c0_i32_47 : BitVec 32 := 0#32
  let v119 : BitVec 1 := Scalar.cmpi .ne v118 c0_i32_47
  v119

@[reducible] def k0_t15_loop (v114 : BitVec 32) (v116 : BitVec 32) : Scf.Loop 32 :=
  let c1_i32_195 : BitVec 32 := 1#32
  let v486 : BitVec 32 := Scalar.addi v116 c1_i32_195
  let v487 : BitVec 32 := Scalar.subi v486 v114
  let c1_i32_197 : BitVec 32 := 1#32
  let v489 : BitVec 32 := Scalar.divsi v487 c1_i32_197
  let v490 : BitVec 32 := Scalar.muli v489 c1_i32_197
  let v491 : BitVec 32 := Scalar.addi v114 v490
  let c1_i32_198 : BitVec 32 := 1#32
  ⟨v114, v491, c1_i32_198⟩
def k0_cond17 (v114 : BitVec 32) (v116 : BitVec 32) : BitVec 1 :=
  let v120 : BitVec 1 := Scalar.cmpi .ne v114 v116
  let v121 : BitVec 32 := Scalar.extui v120
  let c0_i32_48 : BitVec 32 := 0#32
  let v122 : BitVec 1 := Scalar.cmpi .ne v121 c0_i32_48
  v122

def k0_off31 (v114 : BitVec 32) (v116 : BitVec 32) (k0_t15 : Fin (k0_t15_loop v114 v116).trips) : Fin 2 → Nat :=
  let c1_i32_198 : BitVec 32 := 1#32
  let arg11 : BitVec 32 := Scf.iv v114 c1_i32_198 k0_t15
  let v502 : Index := Scalar.indexCast arg11
  let c0_201 : Index := 0#32
  ![v502.toNat, 0]
@[reducible] def k0_t16_loop (v114 : BitVec 32) (v116 : BitVec 32) : Scf.Loop 32 :=
  let c1_i32_195 : BitVec 32 := 1#32
  let v486 : BitVec 32 := Scalar.addi v116 c1_i32_195
  let v487 : BitVec 32 := Scalar.subi v486 v114
  let c1_i32_197 : BitVec 32 := 1#32
  let v489 : BitVec 32 := Scalar.divsi v487 c1_i32_197
  let v490 : BitVec 32 := Scalar.muli v489 c1_i32_197
  let v491 : BitVec 32 := Scalar.addi v114 v490
  let v488 : BitVec 32 := Scalar.addi v114 v487
  let c1_i32_199 : BitVec 32 := 1#32
  ⟨v491, v488, c1_i32_199⟩
def k0_off32 (v114 : BitVec 32) (v116 : BitVec 32) (k0_t16 : Fin (k0_t16_loop v114 v116).trips) : Fin 2 → Nat :=
  let c1_i32_195 : BitVec 32 := 1#32
  let v486 : BitVec 32 := Scalar.addi v116 c1_i32_195
  let v487 : BitVec 32 := Scalar.subi v486 v114
  let c1_i32_197 : BitVec 32 := 1#32
  let v489 : BitVec 32 := Scalar.divsi v487 c1_i32_197
  let v490 : BitVec 32 := Scalar.muli v489 c1_i32_197
  let v491 : BitVec 32 := Scalar.addi v114 v490
  let c1_i32_199 : BitVec 32 := 1#32
  let arg11 : BitVec 32 := Scf.iv v491 c1_i32_199 k0_t16
  let v502 : Index := Scalar.indexCast arg11
  let c0_201 : Index := 0#32
  ![v502.toNat, 0]

def k0_chk8 (v114 : BitVec 32) (v116 : BitVec 32) : Prop :=
  (∀ (k0_h16 : k0_cond16 v114 v116 = 1#1), ∀ a, (k0_off30 v114) a + S1x128.size a ≤ S128x128.size a) ∧
  (∀ (k0_h17 : k0_cond17 v114 v116 = 1#1), (k0_t15_loop v114 v116).OK) ∧
  (∀ k0_t15 : Fin (k0_t15_loop v114 v116).trips, ∀ (k0_h17 : k0_cond17 v114 v116 = 1#1), ∀ a, (k0_off31 v114 v116 k0_t15) a + S1x128.size a ≤ S128x128.size a) ∧
  (∀ (k0_h17 : k0_cond17 v114 v116 = 1#1), (k0_t16_loop v114 v116).OK) ∧
  (∀ k0_t16 : Fin (k0_t16_loop v114 v116).trips, ∀ (k0_h17 : k0_cond17 v114 v116 = 1#1), ∀ a, (k0_off32 v114 v116 k0_t16) a + S1x128.size a ≤ S128x128.size a)
theorem k0_off30_inb : ∀ (v114 : BitVec 32) (v116 : BitVec 32) (k0_hw8 : k0_chk8 v114 v116), ∀ (k0_h16 : k0_cond16 v114 v116 = 1#1), ∀ a, (k0_off30 v114) a + S1x128.size a ≤ S128x128.size a := fun v114 v116 k0_hw8 k0_h16 => k0_hw8.1 k0_h16
theorem k0_t15_ok : ∀ (v114 : BitVec 32) (v116 : BitVec 32) (k0_hw8 : k0_chk8 v114 v116), ∀ (k0_h17 : k0_cond17 v114 v116 = 1#1), (k0_t15_loop v114 v116).OK := fun v114 v116 k0_hw8 k0_h17 => k0_hw8.2.1 k0_h17
theorem k0_off31_inb : ∀ (v114 : BitVec 32) (v116 : BitVec 32) (k0_hw8 : k0_chk8 v114 v116) (k0_t15 : Fin (k0_t15_loop v114 v116).trips), ∀ (k0_h17 : k0_cond17 v114 v116 = 1#1), ∀ a, (k0_off31 v114 v116 k0_t15) a + S1x128.size a ≤ S128x128.size a := fun v114 v116 k0_hw8 k0_t15 k0_h17 => k0_hw8.2.2.1 k0_t15 k0_h17
theorem k0_t16_ok : ∀ (v114 : BitVec 32) (v116 : BitVec 32) (k0_hw8 : k0_chk8 v114 v116), ∀ (k0_h17 : k0_cond17 v114 v116 = 1#1), (k0_t16_loop v114 v116).OK := fun v114 v116 k0_hw8 k0_h17 => k0_hw8.2.2.2.1 k0_h17
theorem k0_off32_inb : ∀ (v114 : BitVec 32) (v116 : BitVec 32) (k0_hw8 : k0_chk8 v114 v116) (k0_t16 : Fin (k0_t16_loop v114 v116).trips), ∀ (k0_h17 : k0_cond17 v114 v116 = 1#1), ∀ a, (k0_off32 v114 v116 k0_t16) a + S1x128.size a ≤ S128x128.size a := fun v114 v116 k0_hw8 k0_t16 k0_h17 => k0_hw8.2.2.2.2 k0_t16 k0_h17

def k0_off33 (i : grid0.Coords) : Fin 1 → Nat :=
  let arg0 : BitVec 32 := BitVec.ofNat 32 (i 0).val
  let c32_i32_52 : BitVec 32 := 32#32
  let v126 : BitVec 32 := Scalar.muli arg0 c32_i32_52
  let c8_i32 : BitVec 32 := 8#32
  let v127 : BitVec 32 := Scalar.addi v126 c8_i32
  let v128 : Index := Scalar.indexCast v127
  ![v128.toNat]
def k0_off34 (v129 : BitVec 32) : Fin 2 → Nat :=
  let v488 : Index := Scalar.indexCast v129
  let c0_195 : Index := 0#32
  ![v488.toNat, 0]
def k0_cond18 (v129 : BitVec 32) (v131 : BitVec 32) : BitVec 1 :=
  let v132 : BitVec 1 := Scalar.cmpi .eq v129 v131
  let v133 : BitVec 32 := Scalar.extui v132
  let c0_i32_53 : BitVec 32 := 0#32
  let v134 : BitVec 1 := Scalar.cmpi .ne v133 c0_i32_53
  v134

@[reducible] def k0_t17_loop (v129 : BitVec 32) (v131 : BitVec 32) : Scf.Loop 32 :=
  let c1_i32_195 : BitVec 32 := 1#32
  let v486 : BitVec 32 := Scalar.addi v131 c1_i32_195
  let v487 : BitVec 32 := Scalar.subi v486 v129
  let c1_i32_197 : BitVec 32 := 1#32
  let v489 : BitVec 32 := Scalar.divsi v487 c1_i32_197
  let v490 : BitVec 32 := Scalar.muli v489 c1_i32_197
  let v491 : BitVec 32 := Scalar.addi v129 v490
  let c1_i32_198 : BitVec 32 := 1#32
  ⟨v129, v491, c1_i32_198⟩
def k0_cond19 (v129 : BitVec 32) (v131 : BitVec 32) : BitVec 1 :=
  let v135 : BitVec 1 := Scalar.cmpi .ne v129 v131
  let v136 : BitVec 32 := Scalar.extui v135
  let c0_i32_54 : BitVec 32 := 0#32
  let v137 : BitVec 1 := Scalar.cmpi .ne v136 c0_i32_54
  v137

def k0_off35 (v129 : BitVec 32) (v131 : BitVec 32) (k0_t17 : Fin (k0_t17_loop v129 v131).trips) : Fin 2 → Nat :=
  let c1_i32_198 : BitVec 32 := 1#32
  let arg11 : BitVec 32 := Scf.iv v129 c1_i32_198 k0_t17
  let v502 : Index := Scalar.indexCast arg11
  let c0_201 : Index := 0#32
  ![v502.toNat, 0]
@[reducible] def k0_t18_loop (v129 : BitVec 32) (v131 : BitVec 32) : Scf.Loop 32 :=
  let c1_i32_195 : BitVec 32 := 1#32
  let v486 : BitVec 32 := Scalar.addi v131 c1_i32_195
  let v487 : BitVec 32 := Scalar.subi v486 v129
  let c1_i32_197 : BitVec 32 := 1#32
  let v489 : BitVec 32 := Scalar.divsi v487 c1_i32_197
  let v490 : BitVec 32 := Scalar.muli v489 c1_i32_197
  let v491 : BitVec 32 := Scalar.addi v129 v490
  let v488 : BitVec 32 := Scalar.addi v129 v487
  let c1_i32_199 : BitVec 32 := 1#32
  ⟨v491, v488, c1_i32_199⟩
def k0_off36 (v129 : BitVec 32) (v131 : BitVec 32) (k0_t18 : Fin (k0_t18_loop v129 v131).trips) : Fin 2 → Nat :=
  let c1_i32_195 : BitVec 32 := 1#32
  let v486 : BitVec 32 := Scalar.addi v131 c1_i32_195
  let v487 : BitVec 32 := Scalar.subi v486 v129
  let c1_i32_197 : BitVec 32 := 1#32
  let v489 : BitVec 32 := Scalar.divsi v487 c1_i32_197
  let v490 : BitVec 32 := Scalar.muli v489 c1_i32_197
  let v491 : BitVec 32 := Scalar.addi v129 v490
  let c1_i32_199 : BitVec 32 := 1#32
  let arg11 : BitVec 32 := Scf.iv v491 c1_i32_199 k0_t18
  let v502 : Index := Scalar.indexCast arg11
  let c0_201 : Index := 0#32
  ![v502.toNat, 0]

def k0_chk9 (v129 : BitVec 32) (v131 : BitVec 32) : Prop :=
  (∀ (k0_h18 : k0_cond18 v129 v131 = 1#1), ∀ a, (k0_off34 v129) a + S1x128.size a ≤ S128x128.size a) ∧
  (∀ (k0_h19 : k0_cond19 v129 v131 = 1#1), (k0_t17_loop v129 v131).OK) ∧
  (∀ k0_t17 : Fin (k0_t17_loop v129 v131).trips, ∀ (k0_h19 : k0_cond19 v129 v131 = 1#1), ∀ a, (k0_off35 v129 v131 k0_t17) a + S1x128.size a ≤ S128x128.size a) ∧
  (∀ (k0_h19 : k0_cond19 v129 v131 = 1#1), (k0_t18_loop v129 v131).OK) ∧
  (∀ k0_t18 : Fin (k0_t18_loop v129 v131).trips, ∀ (k0_h19 : k0_cond19 v129 v131 = 1#1), ∀ a, (k0_off36 v129 v131 k0_t18) a + S1x128.size a ≤ S128x128.size a)
theorem k0_off34_inb : ∀ (v129 : BitVec 32) (v131 : BitVec 32) (k0_hw9 : k0_chk9 v129 v131), ∀ (k0_h18 : k0_cond18 v129 v131 = 1#1), ∀ a, (k0_off34 v129) a + S1x128.size a ≤ S128x128.size a := fun v129 v131 k0_hw9 k0_h18 => k0_hw9.1 k0_h18
theorem k0_t17_ok : ∀ (v129 : BitVec 32) (v131 : BitVec 32) (k0_hw9 : k0_chk9 v129 v131), ∀ (k0_h19 : k0_cond19 v129 v131 = 1#1), (k0_t17_loop v129 v131).OK := fun v129 v131 k0_hw9 k0_h19 => k0_hw9.2.1 k0_h19
theorem k0_off35_inb : ∀ (v129 : BitVec 32) (v131 : BitVec 32) (k0_hw9 : k0_chk9 v129 v131) (k0_t17 : Fin (k0_t17_loop v129 v131).trips), ∀ (k0_h19 : k0_cond19 v129 v131 = 1#1), ∀ a, (k0_off35 v129 v131 k0_t17) a + S1x128.size a ≤ S128x128.size a := fun v129 v131 k0_hw9 k0_t17 k0_h19 => k0_hw9.2.2.1 k0_t17 k0_h19
theorem k0_t18_ok : ∀ (v129 : BitVec 32) (v131 : BitVec 32) (k0_hw9 : k0_chk9 v129 v131), ∀ (k0_h19 : k0_cond19 v129 v131 = 1#1), (k0_t18_loop v129 v131).OK := fun v129 v131 k0_hw9 k0_h19 => k0_hw9.2.2.2.1 k0_h19
theorem k0_off36_inb : ∀ (v129 : BitVec 32) (v131 : BitVec 32) (k0_hw9 : k0_chk9 v129 v131) (k0_t18 : Fin (k0_t18_loop v129 v131).trips), ∀ (k0_h19 : k0_cond19 v129 v131 = 1#1), ∀ a, (k0_off36 v129 v131 k0_t18) a + S1x128.size a ≤ S128x128.size a := fun v129 v131 k0_hw9 k0_t18 k0_h19 => k0_hw9.2.2.2.2 k0_t18 k0_h19

def k0_off37 (i : grid0.Coords) : Fin 1 → Nat :=
  let arg0 : BitVec 32 := BitVec.ofNat 32 (i 0).val
  let c32_i32_58 : BitVec 32 := 32#32
  let v141 : BitVec 32 := Scalar.muli arg0 c32_i32_58
  let c9_i32 : BitVec 32 := 9#32
  let v142 : BitVec 32 := Scalar.addi v141 c9_i32
  let v143 : Index := Scalar.indexCast v142
  ![v143.toNat]
def k0_off38 (v144 : BitVec 32) : Fin 2 → Nat :=
  let v488 : Index := Scalar.indexCast v144
  let c0_195 : Index := 0#32
  ![v488.toNat, 0]
def k0_cond20 (v144 : BitVec 32) (v146 : BitVec 32) : BitVec 1 :=
  let v147 : BitVec 1 := Scalar.cmpi .eq v144 v146
  let v148 : BitVec 32 := Scalar.extui v147
  let c0_i32_59 : BitVec 32 := 0#32
  let v149 : BitVec 1 := Scalar.cmpi .ne v148 c0_i32_59
  v149

@[reducible] def k0_t19_loop (v144 : BitVec 32) (v146 : BitVec 32) : Scf.Loop 32 :=
  let c1_i32_195 : BitVec 32 := 1#32
  let v486 : BitVec 32 := Scalar.addi v146 c1_i32_195
  let v487 : BitVec 32 := Scalar.subi v486 v144
  let c1_i32_197 : BitVec 32 := 1#32
  let v489 : BitVec 32 := Scalar.divsi v487 c1_i32_197
  let v490 : BitVec 32 := Scalar.muli v489 c1_i32_197
  let v491 : BitVec 32 := Scalar.addi v144 v490
  let c1_i32_198 : BitVec 32 := 1#32
  ⟨v144, v491, c1_i32_198⟩
def k0_cond21 (v144 : BitVec 32) (v146 : BitVec 32) : BitVec 1 :=
  let v150 : BitVec 1 := Scalar.cmpi .ne v144 v146
  let v151 : BitVec 32 := Scalar.extui v150
  let c0_i32_60 : BitVec 32 := 0#32
  let v152 : BitVec 1 := Scalar.cmpi .ne v151 c0_i32_60
  v152

def k0_off39 (v144 : BitVec 32) (v146 : BitVec 32) (k0_t19 : Fin (k0_t19_loop v144 v146).trips) : Fin 2 → Nat :=
  let c1_i32_198 : BitVec 32 := 1#32
  let arg11 : BitVec 32 := Scf.iv v144 c1_i32_198 k0_t19
  let v502 : Index := Scalar.indexCast arg11
  let c0_201 : Index := 0#32
  ![v502.toNat, 0]
@[reducible] def k0_t20_loop (v144 : BitVec 32) (v146 : BitVec 32) : Scf.Loop 32 :=
  let c1_i32_195 : BitVec 32 := 1#32
  let v486 : BitVec 32 := Scalar.addi v146 c1_i32_195
  let v487 : BitVec 32 := Scalar.subi v486 v144
  let c1_i32_197 : BitVec 32 := 1#32
  let v489 : BitVec 32 := Scalar.divsi v487 c1_i32_197
  let v490 : BitVec 32 := Scalar.muli v489 c1_i32_197
  let v491 : BitVec 32 := Scalar.addi v144 v490
  let v488 : BitVec 32 := Scalar.addi v144 v487
  let c1_i32_199 : BitVec 32 := 1#32
  ⟨v491, v488, c1_i32_199⟩
def k0_off40 (v144 : BitVec 32) (v146 : BitVec 32) (k0_t20 : Fin (k0_t20_loop v144 v146).trips) : Fin 2 → Nat :=
  let c1_i32_195 : BitVec 32 := 1#32
  let v486 : BitVec 32 := Scalar.addi v146 c1_i32_195
  let v487 : BitVec 32 := Scalar.subi v486 v144
  let c1_i32_197 : BitVec 32 := 1#32
  let v489 : BitVec 32 := Scalar.divsi v487 c1_i32_197
  let v490 : BitVec 32 := Scalar.muli v489 c1_i32_197
  let v491 : BitVec 32 := Scalar.addi v144 v490
  let c1_i32_199 : BitVec 32 := 1#32
  let arg11 : BitVec 32 := Scf.iv v491 c1_i32_199 k0_t20
  let v502 : Index := Scalar.indexCast arg11
  let c0_201 : Index := 0#32
  ![v502.toNat, 0]

def k0_chk10 (v144 : BitVec 32) (v146 : BitVec 32) : Prop :=
  (∀ (k0_h20 : k0_cond20 v144 v146 = 1#1), ∀ a, (k0_off38 v144) a + S1x128.size a ≤ S128x128.size a) ∧
  (∀ (k0_h21 : k0_cond21 v144 v146 = 1#1), (k0_t19_loop v144 v146).OK) ∧
  (∀ k0_t19 : Fin (k0_t19_loop v144 v146).trips, ∀ (k0_h21 : k0_cond21 v144 v146 = 1#1), ∀ a, (k0_off39 v144 v146 k0_t19) a + S1x128.size a ≤ S128x128.size a) ∧
  (∀ (k0_h21 : k0_cond21 v144 v146 = 1#1), (k0_t20_loop v144 v146).OK) ∧
  (∀ k0_t20 : Fin (k0_t20_loop v144 v146).trips, ∀ (k0_h21 : k0_cond21 v144 v146 = 1#1), ∀ a, (k0_off40 v144 v146 k0_t20) a + S1x128.size a ≤ S128x128.size a)
theorem k0_off38_inb : ∀ (v144 : BitVec 32) (v146 : BitVec 32) (k0_hw10 : k0_chk10 v144 v146), ∀ (k0_h20 : k0_cond20 v144 v146 = 1#1), ∀ a, (k0_off38 v144) a + S1x128.size a ≤ S128x128.size a := fun v144 v146 k0_hw10 k0_h20 => k0_hw10.1 k0_h20
theorem k0_t19_ok : ∀ (v144 : BitVec 32) (v146 : BitVec 32) (k0_hw10 : k0_chk10 v144 v146), ∀ (k0_h21 : k0_cond21 v144 v146 = 1#1), (k0_t19_loop v144 v146).OK := fun v144 v146 k0_hw10 k0_h21 => k0_hw10.2.1 k0_h21
theorem k0_off39_inb : ∀ (v144 : BitVec 32) (v146 : BitVec 32) (k0_hw10 : k0_chk10 v144 v146) (k0_t19 : Fin (k0_t19_loop v144 v146).trips), ∀ (k0_h21 : k0_cond21 v144 v146 = 1#1), ∀ a, (k0_off39 v144 v146 k0_t19) a + S1x128.size a ≤ S128x128.size a := fun v144 v146 k0_hw10 k0_t19 k0_h21 => k0_hw10.2.2.1 k0_t19 k0_h21
theorem k0_t20_ok : ∀ (v144 : BitVec 32) (v146 : BitVec 32) (k0_hw10 : k0_chk10 v144 v146), ∀ (k0_h21 : k0_cond21 v144 v146 = 1#1), (k0_t20_loop v144 v146).OK := fun v144 v146 k0_hw10 k0_h21 => k0_hw10.2.2.2.1 k0_h21
theorem k0_off40_inb : ∀ (v144 : BitVec 32) (v146 : BitVec 32) (k0_hw10 : k0_chk10 v144 v146) (k0_t20 : Fin (k0_t20_loop v144 v146).trips), ∀ (k0_h21 : k0_cond21 v144 v146 = 1#1), ∀ a, (k0_off40 v144 v146 k0_t20) a + S1x128.size a ≤ S128x128.size a := fun v144 v146 k0_hw10 k0_t20 k0_h21 => k0_hw10.2.2.2.2 k0_t20 k0_h21

def k0_off41 (i : grid0.Coords) : Fin 1 → Nat :=
  let arg0 : BitVec 32 := BitVec.ofNat 32 (i 0).val
  let c32_i32_64 : BitVec 32 := 32#32
  let v156 : BitVec 32 := Scalar.muli arg0 c32_i32_64
  let c10_i32 : BitVec 32 := 10#32
  let v157 : BitVec 32 := Scalar.addi v156 c10_i32
  let v158 : Index := Scalar.indexCast v157
  ![v158.toNat]
def k0_off42 (v159 : BitVec 32) : Fin 2 → Nat :=
  let v488 : Index := Scalar.indexCast v159
  let c0_195 : Index := 0#32
  ![v488.toNat, 0]
def k0_cond22 (v159 : BitVec 32) (v161 : BitVec 32) : BitVec 1 :=
  let v162 : BitVec 1 := Scalar.cmpi .eq v159 v161
  let v163 : BitVec 32 := Scalar.extui v162
  let c0_i32_65 : BitVec 32 := 0#32
  let v164 : BitVec 1 := Scalar.cmpi .ne v163 c0_i32_65
  v164

@[reducible] def k0_t21_loop (v159 : BitVec 32) (v161 : BitVec 32) : Scf.Loop 32 :=
  let c1_i32_195 : BitVec 32 := 1#32
  let v486 : BitVec 32 := Scalar.addi v161 c1_i32_195
  let v487 : BitVec 32 := Scalar.subi v486 v159
  let c1_i32_197 : BitVec 32 := 1#32
  let v489 : BitVec 32 := Scalar.divsi v487 c1_i32_197
  let v490 : BitVec 32 := Scalar.muli v489 c1_i32_197
  let v491 : BitVec 32 := Scalar.addi v159 v490
  let c1_i32_198 : BitVec 32 := 1#32
  ⟨v159, v491, c1_i32_198⟩
def k0_cond23 (v159 : BitVec 32) (v161 : BitVec 32) : BitVec 1 :=
  let v165 : BitVec 1 := Scalar.cmpi .ne v159 v161
  let v166 : BitVec 32 := Scalar.extui v165
  let c0_i32_66 : BitVec 32 := 0#32
  let v167 : BitVec 1 := Scalar.cmpi .ne v166 c0_i32_66
  v167

def k0_off43 (v159 : BitVec 32) (v161 : BitVec 32) (k0_t21 : Fin (k0_t21_loop v159 v161).trips) : Fin 2 → Nat :=
  let c1_i32_198 : BitVec 32 := 1#32
  let arg11 : BitVec 32 := Scf.iv v159 c1_i32_198 k0_t21
  let v502 : Index := Scalar.indexCast arg11
  let c0_201 : Index := 0#32
  ![v502.toNat, 0]
@[reducible] def k0_t22_loop (v159 : BitVec 32) (v161 : BitVec 32) : Scf.Loop 32 :=
  let c1_i32_195 : BitVec 32 := 1#32
  let v486 : BitVec 32 := Scalar.addi v161 c1_i32_195
  let v487 : BitVec 32 := Scalar.subi v486 v159
  let c1_i32_197 : BitVec 32 := 1#32
  let v489 : BitVec 32 := Scalar.divsi v487 c1_i32_197
  let v490 : BitVec 32 := Scalar.muli v489 c1_i32_197
  let v491 : BitVec 32 := Scalar.addi v159 v490
  let v488 : BitVec 32 := Scalar.addi v159 v487
  let c1_i32_199 : BitVec 32 := 1#32
  ⟨v491, v488, c1_i32_199⟩
def k0_off44 (v159 : BitVec 32) (v161 : BitVec 32) (k0_t22 : Fin (k0_t22_loop v159 v161).trips) : Fin 2 → Nat :=
  let c1_i32_195 : BitVec 32 := 1#32
  let v486 : BitVec 32 := Scalar.addi v161 c1_i32_195
  let v487 : BitVec 32 := Scalar.subi v486 v159
  let c1_i32_197 : BitVec 32 := 1#32
  let v489 : BitVec 32 := Scalar.divsi v487 c1_i32_197
  let v490 : BitVec 32 := Scalar.muli v489 c1_i32_197
  let v491 : BitVec 32 := Scalar.addi v159 v490
  let c1_i32_199 : BitVec 32 := 1#32
  let arg11 : BitVec 32 := Scf.iv v491 c1_i32_199 k0_t22
  let v502 : Index := Scalar.indexCast arg11
  let c0_201 : Index := 0#32
  ![v502.toNat, 0]

def k0_chk11 (v159 : BitVec 32) (v161 : BitVec 32) : Prop :=
  (∀ (k0_h22 : k0_cond22 v159 v161 = 1#1), ∀ a, (k0_off42 v159) a + S1x128.size a ≤ S128x128.size a) ∧
  (∀ (k0_h23 : k0_cond23 v159 v161 = 1#1), (k0_t21_loop v159 v161).OK) ∧
  (∀ k0_t21 : Fin (k0_t21_loop v159 v161).trips, ∀ (k0_h23 : k0_cond23 v159 v161 = 1#1), ∀ a, (k0_off43 v159 v161 k0_t21) a + S1x128.size a ≤ S128x128.size a) ∧
  (∀ (k0_h23 : k0_cond23 v159 v161 = 1#1), (k0_t22_loop v159 v161).OK) ∧
  (∀ k0_t22 : Fin (k0_t22_loop v159 v161).trips, ∀ (k0_h23 : k0_cond23 v159 v161 = 1#1), ∀ a, (k0_off44 v159 v161 k0_t22) a + S1x128.size a ≤ S128x128.size a)
theorem k0_off42_inb : ∀ (v159 : BitVec 32) (v161 : BitVec 32) (k0_hw11 : k0_chk11 v159 v161), ∀ (k0_h22 : k0_cond22 v159 v161 = 1#1), ∀ a, (k0_off42 v159) a + S1x128.size a ≤ S128x128.size a := fun v159 v161 k0_hw11 k0_h22 => k0_hw11.1 k0_h22
theorem k0_t21_ok : ∀ (v159 : BitVec 32) (v161 : BitVec 32) (k0_hw11 : k0_chk11 v159 v161), ∀ (k0_h23 : k0_cond23 v159 v161 = 1#1), (k0_t21_loop v159 v161).OK := fun v159 v161 k0_hw11 k0_h23 => k0_hw11.2.1 k0_h23
theorem k0_off43_inb : ∀ (v159 : BitVec 32) (v161 : BitVec 32) (k0_hw11 : k0_chk11 v159 v161) (k0_t21 : Fin (k0_t21_loop v159 v161).trips), ∀ (k0_h23 : k0_cond23 v159 v161 = 1#1), ∀ a, (k0_off43 v159 v161 k0_t21) a + S1x128.size a ≤ S128x128.size a := fun v159 v161 k0_hw11 k0_t21 k0_h23 => k0_hw11.2.2.1 k0_t21 k0_h23
theorem k0_t22_ok : ∀ (v159 : BitVec 32) (v161 : BitVec 32) (k0_hw11 : k0_chk11 v159 v161), ∀ (k0_h23 : k0_cond23 v159 v161 = 1#1), (k0_t22_loop v159 v161).OK := fun v159 v161 k0_hw11 k0_h23 => k0_hw11.2.2.2.1 k0_h23
theorem k0_off44_inb : ∀ (v159 : BitVec 32) (v161 : BitVec 32) (k0_hw11 : k0_chk11 v159 v161) (k0_t22 : Fin (k0_t22_loop v159 v161).trips), ∀ (k0_h23 : k0_cond23 v159 v161 = 1#1), ∀ a, (k0_off44 v159 v161 k0_t22) a + S1x128.size a ≤ S128x128.size a := fun v159 v161 k0_hw11 k0_t22 k0_h23 => k0_hw11.2.2.2.2 k0_t22 k0_h23

def k0_off45 (i : grid0.Coords) : Fin 1 → Nat :=
  let arg0 : BitVec 32 := BitVec.ofNat 32 (i 0).val
  let c32_i32_70 : BitVec 32 := 32#32
  let v171 : BitVec 32 := Scalar.muli arg0 c32_i32_70
  let c11_i32 : BitVec 32 := 11#32
  let v172 : BitVec 32 := Scalar.addi v171 c11_i32
  let v173 : Index := Scalar.indexCast v172
  ![v173.toNat]
def k0_off46 (v174 : BitVec 32) : Fin 2 → Nat :=
  let v488 : Index := Scalar.indexCast v174
  let c0_195 : Index := 0#32
  ![v488.toNat, 0]
def k0_cond24 (v174 : BitVec 32) (v176 : BitVec 32) : BitVec 1 :=
  let v177 : BitVec 1 := Scalar.cmpi .eq v174 v176
  let v178 : BitVec 32 := Scalar.extui v177
  let c0_i32_71 : BitVec 32 := 0#32
  let v179 : BitVec 1 := Scalar.cmpi .ne v178 c0_i32_71
  v179

@[reducible] def k0_t23_loop (v174 : BitVec 32) (v176 : BitVec 32) : Scf.Loop 32 :=
  let c1_i32_195 : BitVec 32 := 1#32
  let v486 : BitVec 32 := Scalar.addi v176 c1_i32_195
  let v487 : BitVec 32 := Scalar.subi v486 v174
  let c1_i32_197 : BitVec 32 := 1#32
  let v489 : BitVec 32 := Scalar.divsi v487 c1_i32_197
  let v490 : BitVec 32 := Scalar.muli v489 c1_i32_197
  let v491 : BitVec 32 := Scalar.addi v174 v490
  let c1_i32_198 : BitVec 32 := 1#32
  ⟨v174, v491, c1_i32_198⟩
def k0_cond25 (v174 : BitVec 32) (v176 : BitVec 32) : BitVec 1 :=
  let v180 : BitVec 1 := Scalar.cmpi .ne v174 v176
  let v181 : BitVec 32 := Scalar.extui v180
  let c0_i32_72 : BitVec 32 := 0#32
  let v182 : BitVec 1 := Scalar.cmpi .ne v181 c0_i32_72
  v182

def k0_off47 (v174 : BitVec 32) (v176 : BitVec 32) (k0_t23 : Fin (k0_t23_loop v174 v176).trips) : Fin 2 → Nat :=
  let c1_i32_198 : BitVec 32 := 1#32
  let arg11 : BitVec 32 := Scf.iv v174 c1_i32_198 k0_t23
  let v502 : Index := Scalar.indexCast arg11
  let c0_201 : Index := 0#32
  ![v502.toNat, 0]
@[reducible] def k0_t24_loop (v174 : BitVec 32) (v176 : BitVec 32) : Scf.Loop 32 :=
  let c1_i32_195 : BitVec 32 := 1#32
  let v486 : BitVec 32 := Scalar.addi v176 c1_i32_195
  let v487 : BitVec 32 := Scalar.subi v486 v174
  let c1_i32_197 : BitVec 32 := 1#32
  let v489 : BitVec 32 := Scalar.divsi v487 c1_i32_197
  let v490 : BitVec 32 := Scalar.muli v489 c1_i32_197
  let v491 : BitVec 32 := Scalar.addi v174 v490
  let v488 : BitVec 32 := Scalar.addi v174 v487
  let c1_i32_199 : BitVec 32 := 1#32
  ⟨v491, v488, c1_i32_199⟩
def k0_off48 (v174 : BitVec 32) (v176 : BitVec 32) (k0_t24 : Fin (k0_t24_loop v174 v176).trips) : Fin 2 → Nat :=
  let c1_i32_195 : BitVec 32 := 1#32
  let v486 : BitVec 32 := Scalar.addi v176 c1_i32_195
  let v487 : BitVec 32 := Scalar.subi v486 v174
  let c1_i32_197 : BitVec 32 := 1#32
  let v489 : BitVec 32 := Scalar.divsi v487 c1_i32_197
  let v490 : BitVec 32 := Scalar.muli v489 c1_i32_197
  let v491 : BitVec 32 := Scalar.addi v174 v490
  let c1_i32_199 : BitVec 32 := 1#32
  let arg11 : BitVec 32 := Scf.iv v491 c1_i32_199 k0_t24
  let v502 : Index := Scalar.indexCast arg11
  let c0_201 : Index := 0#32
  ![v502.toNat, 0]

def k0_chk12 (v174 : BitVec 32) (v176 : BitVec 32) : Prop :=
  (∀ (k0_h24 : k0_cond24 v174 v176 = 1#1), ∀ a, (k0_off46 v174) a + S1x128.size a ≤ S128x128.size a) ∧
  (∀ (k0_h25 : k0_cond25 v174 v176 = 1#1), (k0_t23_loop v174 v176).OK) ∧
  (∀ k0_t23 : Fin (k0_t23_loop v174 v176).trips, ∀ (k0_h25 : k0_cond25 v174 v176 = 1#1), ∀ a, (k0_off47 v174 v176 k0_t23) a + S1x128.size a ≤ S128x128.size a) ∧
  (∀ (k0_h25 : k0_cond25 v174 v176 = 1#1), (k0_t24_loop v174 v176).OK) ∧
  (∀ k0_t24 : Fin (k0_t24_loop v174 v176).trips, ∀ (k0_h25 : k0_cond25 v174 v176 = 1#1), ∀ a, (k0_off48 v174 v176 k0_t24) a + S1x128.size a ≤ S128x128.size a)
theorem k0_off46_inb : ∀ (v174 : BitVec 32) (v176 : BitVec 32) (k0_hw12 : k0_chk12 v174 v176), ∀ (k0_h24 : k0_cond24 v174 v176 = 1#1), ∀ a, (k0_off46 v174) a + S1x128.size a ≤ S128x128.size a := fun v174 v176 k0_hw12 k0_h24 => k0_hw12.1 k0_h24
theorem k0_t23_ok : ∀ (v174 : BitVec 32) (v176 : BitVec 32) (k0_hw12 : k0_chk12 v174 v176), ∀ (k0_h25 : k0_cond25 v174 v176 = 1#1), (k0_t23_loop v174 v176).OK := fun v174 v176 k0_hw12 k0_h25 => k0_hw12.2.1 k0_h25
theorem k0_off47_inb : ∀ (v174 : BitVec 32) (v176 : BitVec 32) (k0_hw12 : k0_chk12 v174 v176) (k0_t23 : Fin (k0_t23_loop v174 v176).trips), ∀ (k0_h25 : k0_cond25 v174 v176 = 1#1), ∀ a, (k0_off47 v174 v176 k0_t23) a + S1x128.size a ≤ S128x128.size a := fun v174 v176 k0_hw12 k0_t23 k0_h25 => k0_hw12.2.2.1 k0_t23 k0_h25
theorem k0_t24_ok : ∀ (v174 : BitVec 32) (v176 : BitVec 32) (k0_hw12 : k0_chk12 v174 v176), ∀ (k0_h25 : k0_cond25 v174 v176 = 1#1), (k0_t24_loop v174 v176).OK := fun v174 v176 k0_hw12 k0_h25 => k0_hw12.2.2.2.1 k0_h25
theorem k0_off48_inb : ∀ (v174 : BitVec 32) (v176 : BitVec 32) (k0_hw12 : k0_chk12 v174 v176) (k0_t24 : Fin (k0_t24_loop v174 v176).trips), ∀ (k0_h25 : k0_cond25 v174 v176 = 1#1), ∀ a, (k0_off48 v174 v176 k0_t24) a + S1x128.size a ≤ S128x128.size a := fun v174 v176 k0_hw12 k0_t24 k0_h25 => k0_hw12.2.2.2.2 k0_t24 k0_h25

def k0_off49 (i : grid0.Coords) : Fin 1 → Nat :=
  let arg0 : BitVec 32 := BitVec.ofNat 32 (i 0).val
  let c32_i32_76 : BitVec 32 := 32#32
  let v186 : BitVec 32 := Scalar.muli arg0 c32_i32_76
  let c12_i32 : BitVec 32 := 12#32
  let v187 : BitVec 32 := Scalar.addi v186 c12_i32
  let v188 : Index := Scalar.indexCast v187
  ![v188.toNat]
def k0_off50 (v189 : BitVec 32) : Fin 2 → Nat :=
  let v488 : Index := Scalar.indexCast v189
  let c0_195 : Index := 0#32
  ![v488.toNat, 0]
def k0_cond26 (v189 : BitVec 32) (v191 : BitVec 32) : BitVec 1 :=
  let v192 : BitVec 1 := Scalar.cmpi .eq v189 v191
  let v193 : BitVec 32 := Scalar.extui v192
  let c0_i32_77 : BitVec 32 := 0#32
  let v194 : BitVec 1 := Scalar.cmpi .ne v193 c0_i32_77
  v194

@[reducible] def k0_t25_loop (v189 : BitVec 32) (v191 : BitVec 32) : Scf.Loop 32 :=
  let c1_i32_195 : BitVec 32 := 1#32
  let v486 : BitVec 32 := Scalar.addi v191 c1_i32_195
  let v487 : BitVec 32 := Scalar.subi v486 v189
  let c1_i32_197 : BitVec 32 := 1#32
  let v489 : BitVec 32 := Scalar.divsi v487 c1_i32_197
  let v490 : BitVec 32 := Scalar.muli v489 c1_i32_197
  let v491 : BitVec 32 := Scalar.addi v189 v490
  let c1_i32_198 : BitVec 32 := 1#32
  ⟨v189, v491, c1_i32_198⟩
def k0_cond27 (v189 : BitVec 32) (v191 : BitVec 32) : BitVec 1 :=
  let v195 : BitVec 1 := Scalar.cmpi .ne v189 v191
  let v196 : BitVec 32 := Scalar.extui v195
  let c0_i32_78 : BitVec 32 := 0#32
  let v197 : BitVec 1 := Scalar.cmpi .ne v196 c0_i32_78
  v197

def k0_off51 (v189 : BitVec 32) (v191 : BitVec 32) (k0_t25 : Fin (k0_t25_loop v189 v191).trips) : Fin 2 → Nat :=
  let c1_i32_198 : BitVec 32 := 1#32
  let arg11 : BitVec 32 := Scf.iv v189 c1_i32_198 k0_t25
  let v502 : Index := Scalar.indexCast arg11
  let c0_201 : Index := 0#32
  ![v502.toNat, 0]
@[reducible] def k0_t26_loop (v189 : BitVec 32) (v191 : BitVec 32) : Scf.Loop 32 :=
  let c1_i32_195 : BitVec 32 := 1#32
  let v486 : BitVec 32 := Scalar.addi v191 c1_i32_195
  let v487 : BitVec 32 := Scalar.subi v486 v189
  let c1_i32_197 : BitVec 32 := 1#32
  let v489 : BitVec 32 := Scalar.divsi v487 c1_i32_197
  let v490 : BitVec 32 := Scalar.muli v489 c1_i32_197
  let v491 : BitVec 32 := Scalar.addi v189 v490
  let v488 : BitVec 32 := Scalar.addi v189 v487
  let c1_i32_199 : BitVec 32 := 1#32
  ⟨v491, v488, c1_i32_199⟩
def k0_off52 (v189 : BitVec 32) (v191 : BitVec 32) (k0_t26 : Fin (k0_t26_loop v189 v191).trips) : Fin 2 → Nat :=
  let c1_i32_195 : BitVec 32 := 1#32
  let v486 : BitVec 32 := Scalar.addi v191 c1_i32_195
  let v487 : BitVec 32 := Scalar.subi v486 v189
  let c1_i32_197 : BitVec 32 := 1#32
  let v489 : BitVec 32 := Scalar.divsi v487 c1_i32_197
  let v490 : BitVec 32 := Scalar.muli v489 c1_i32_197
  let v491 : BitVec 32 := Scalar.addi v189 v490
  let c1_i32_199 : BitVec 32 := 1#32
  let arg11 : BitVec 32 := Scf.iv v491 c1_i32_199 k0_t26
  let v502 : Index := Scalar.indexCast arg11
  let c0_201 : Index := 0#32
  ![v502.toNat, 0]

def k0_chk13 (v189 : BitVec 32) (v191 : BitVec 32) : Prop :=
  (∀ (k0_h26 : k0_cond26 v189 v191 = 1#1), ∀ a, (k0_off50 v189) a + S1x128.size a ≤ S128x128.size a) ∧
  (∀ (k0_h27 : k0_cond27 v189 v191 = 1#1), (k0_t25_loop v189 v191).OK) ∧
  (∀ k0_t25 : Fin (k0_t25_loop v189 v191).trips, ∀ (k0_h27 : k0_cond27 v189 v191 = 1#1), ∀ a, (k0_off51 v189 v191 k0_t25) a + S1x128.size a ≤ S128x128.size a) ∧
  (∀ (k0_h27 : k0_cond27 v189 v191 = 1#1), (k0_t26_loop v189 v191).OK) ∧
  (∀ k0_t26 : Fin (k0_t26_loop v189 v191).trips, ∀ (k0_h27 : k0_cond27 v189 v191 = 1#1), ∀ a, (k0_off52 v189 v191 k0_t26) a + S1x128.size a ≤ S128x128.size a)
theorem k0_off50_inb : ∀ (v189 : BitVec 32) (v191 : BitVec 32) (k0_hw13 : k0_chk13 v189 v191), ∀ (k0_h26 : k0_cond26 v189 v191 = 1#1), ∀ a, (k0_off50 v189) a + S1x128.size a ≤ S128x128.size a := fun v189 v191 k0_hw13 k0_h26 => k0_hw13.1 k0_h26
theorem k0_t25_ok : ∀ (v189 : BitVec 32) (v191 : BitVec 32) (k0_hw13 : k0_chk13 v189 v191), ∀ (k0_h27 : k0_cond27 v189 v191 = 1#1), (k0_t25_loop v189 v191).OK := fun v189 v191 k0_hw13 k0_h27 => k0_hw13.2.1 k0_h27
theorem k0_off51_inb : ∀ (v189 : BitVec 32) (v191 : BitVec 32) (k0_hw13 : k0_chk13 v189 v191) (k0_t25 : Fin (k0_t25_loop v189 v191).trips), ∀ (k0_h27 : k0_cond27 v189 v191 = 1#1), ∀ a, (k0_off51 v189 v191 k0_t25) a + S1x128.size a ≤ S128x128.size a := fun v189 v191 k0_hw13 k0_t25 k0_h27 => k0_hw13.2.2.1 k0_t25 k0_h27
theorem k0_t26_ok : ∀ (v189 : BitVec 32) (v191 : BitVec 32) (k0_hw13 : k0_chk13 v189 v191), ∀ (k0_h27 : k0_cond27 v189 v191 = 1#1), (k0_t26_loop v189 v191).OK := fun v189 v191 k0_hw13 k0_h27 => k0_hw13.2.2.2.1 k0_h27
theorem k0_off52_inb : ∀ (v189 : BitVec 32) (v191 : BitVec 32) (k0_hw13 : k0_chk13 v189 v191) (k0_t26 : Fin (k0_t26_loop v189 v191).trips), ∀ (k0_h27 : k0_cond27 v189 v191 = 1#1), ∀ a, (k0_off52 v189 v191 k0_t26) a + S1x128.size a ≤ S128x128.size a := fun v189 v191 k0_hw13 k0_t26 k0_h27 => k0_hw13.2.2.2.2 k0_t26 k0_h27

def k0_off53 (i : grid0.Coords) : Fin 1 → Nat :=
  let arg0 : BitVec 32 := BitVec.ofNat 32 (i 0).val
  let c32_i32_82 : BitVec 32 := 32#32
  let v201 : BitVec 32 := Scalar.muli arg0 c32_i32_82
  let c13_i32 : BitVec 32 := 13#32
  let v202 : BitVec 32 := Scalar.addi v201 c13_i32
  let v203 : Index := Scalar.indexCast v202
  ![v203.toNat]
def k0_off54 (v204 : BitVec 32) : Fin 2 → Nat :=
  let v488 : Index := Scalar.indexCast v204
  let c0_195 : Index := 0#32
  ![v488.toNat, 0]
def k0_cond28 (v204 : BitVec 32) (v206 : BitVec 32) : BitVec 1 :=
  let v207 : BitVec 1 := Scalar.cmpi .eq v204 v206
  let v208 : BitVec 32 := Scalar.extui v207
  let c0_i32_83 : BitVec 32 := 0#32
  let v209 : BitVec 1 := Scalar.cmpi .ne v208 c0_i32_83
  v209

@[reducible] def k0_t27_loop (v204 : BitVec 32) (v206 : BitVec 32) : Scf.Loop 32 :=
  let c1_i32_195 : BitVec 32 := 1#32
  let v486 : BitVec 32 := Scalar.addi v206 c1_i32_195
  let v487 : BitVec 32 := Scalar.subi v486 v204
  let c1_i32_197 : BitVec 32 := 1#32
  let v489 : BitVec 32 := Scalar.divsi v487 c1_i32_197
  let v490 : BitVec 32 := Scalar.muli v489 c1_i32_197
  let v491 : BitVec 32 := Scalar.addi v204 v490
  let c1_i32_198 : BitVec 32 := 1#32
  ⟨v204, v491, c1_i32_198⟩
def k0_cond29 (v204 : BitVec 32) (v206 : BitVec 32) : BitVec 1 :=
  let v210 : BitVec 1 := Scalar.cmpi .ne v204 v206
  let v211 : BitVec 32 := Scalar.extui v210
  let c0_i32_84 : BitVec 32 := 0#32
  let v212 : BitVec 1 := Scalar.cmpi .ne v211 c0_i32_84
  v212

def k0_off55 (v204 : BitVec 32) (v206 : BitVec 32) (k0_t27 : Fin (k0_t27_loop v204 v206).trips) : Fin 2 → Nat :=
  let c1_i32_198 : BitVec 32 := 1#32
  let arg11 : BitVec 32 := Scf.iv v204 c1_i32_198 k0_t27
  let v502 : Index := Scalar.indexCast arg11
  let c0_201 : Index := 0#32
  ![v502.toNat, 0]
@[reducible] def k0_t28_loop (v204 : BitVec 32) (v206 : BitVec 32) : Scf.Loop 32 :=
  let c1_i32_195 : BitVec 32 := 1#32
  let v486 : BitVec 32 := Scalar.addi v206 c1_i32_195
  let v487 : BitVec 32 := Scalar.subi v486 v204
  let c1_i32_197 : BitVec 32 := 1#32
  let v489 : BitVec 32 := Scalar.divsi v487 c1_i32_197
  let v490 : BitVec 32 := Scalar.muli v489 c1_i32_197
  let v491 : BitVec 32 := Scalar.addi v204 v490
  let v488 : BitVec 32 := Scalar.addi v204 v487
  let c1_i32_199 : BitVec 32 := 1#32
  ⟨v491, v488, c1_i32_199⟩
def k0_off56 (v204 : BitVec 32) (v206 : BitVec 32) (k0_t28 : Fin (k0_t28_loop v204 v206).trips) : Fin 2 → Nat :=
  let c1_i32_195 : BitVec 32 := 1#32
  let v486 : BitVec 32 := Scalar.addi v206 c1_i32_195
  let v487 : BitVec 32 := Scalar.subi v486 v204
  let c1_i32_197 : BitVec 32 := 1#32
  let v489 : BitVec 32 := Scalar.divsi v487 c1_i32_197
  let v490 : BitVec 32 := Scalar.muli v489 c1_i32_197
  let v491 : BitVec 32 := Scalar.addi v204 v490
  let c1_i32_199 : BitVec 32 := 1#32
  let arg11 : BitVec 32 := Scf.iv v491 c1_i32_199 k0_t28
  let v502 : Index := Scalar.indexCast arg11
  let c0_201 : Index := 0#32
  ![v502.toNat, 0]

def k0_chk14 (v204 : BitVec 32) (v206 : BitVec 32) : Prop :=
  (∀ (k0_h28 : k0_cond28 v204 v206 = 1#1), ∀ a, (k0_off54 v204) a + S1x128.size a ≤ S128x128.size a) ∧
  (∀ (k0_h29 : k0_cond29 v204 v206 = 1#1), (k0_t27_loop v204 v206).OK) ∧
  (∀ k0_t27 : Fin (k0_t27_loop v204 v206).trips, ∀ (k0_h29 : k0_cond29 v204 v206 = 1#1), ∀ a, (k0_off55 v204 v206 k0_t27) a + S1x128.size a ≤ S128x128.size a) ∧
  (∀ (k0_h29 : k0_cond29 v204 v206 = 1#1), (k0_t28_loop v204 v206).OK) ∧
  (∀ k0_t28 : Fin (k0_t28_loop v204 v206).trips, ∀ (k0_h29 : k0_cond29 v204 v206 = 1#1), ∀ a, (k0_off56 v204 v206 k0_t28) a + S1x128.size a ≤ S128x128.size a)
theorem k0_off54_inb : ∀ (v204 : BitVec 32) (v206 : BitVec 32) (k0_hw14 : k0_chk14 v204 v206), ∀ (k0_h28 : k0_cond28 v204 v206 = 1#1), ∀ a, (k0_off54 v204) a + S1x128.size a ≤ S128x128.size a := fun v204 v206 k0_hw14 k0_h28 => k0_hw14.1 k0_h28
theorem k0_t27_ok : ∀ (v204 : BitVec 32) (v206 : BitVec 32) (k0_hw14 : k0_chk14 v204 v206), ∀ (k0_h29 : k0_cond29 v204 v206 = 1#1), (k0_t27_loop v204 v206).OK := fun v204 v206 k0_hw14 k0_h29 => k0_hw14.2.1 k0_h29
theorem k0_off55_inb : ∀ (v204 : BitVec 32) (v206 : BitVec 32) (k0_hw14 : k0_chk14 v204 v206) (k0_t27 : Fin (k0_t27_loop v204 v206).trips), ∀ (k0_h29 : k0_cond29 v204 v206 = 1#1), ∀ a, (k0_off55 v204 v206 k0_t27) a + S1x128.size a ≤ S128x128.size a := fun v204 v206 k0_hw14 k0_t27 k0_h29 => k0_hw14.2.2.1 k0_t27 k0_h29
theorem k0_t28_ok : ∀ (v204 : BitVec 32) (v206 : BitVec 32) (k0_hw14 : k0_chk14 v204 v206), ∀ (k0_h29 : k0_cond29 v204 v206 = 1#1), (k0_t28_loop v204 v206).OK := fun v204 v206 k0_hw14 k0_h29 => k0_hw14.2.2.2.1 k0_h29
theorem k0_off56_inb : ∀ (v204 : BitVec 32) (v206 : BitVec 32) (k0_hw14 : k0_chk14 v204 v206) (k0_t28 : Fin (k0_t28_loop v204 v206).trips), ∀ (k0_h29 : k0_cond29 v204 v206 = 1#1), ∀ a, (k0_off56 v204 v206 k0_t28) a + S1x128.size a ≤ S128x128.size a := fun v204 v206 k0_hw14 k0_t28 k0_h29 => k0_hw14.2.2.2.2 k0_t28 k0_h29

def k0_off57 (i : grid0.Coords) : Fin 1 → Nat :=
  let arg0 : BitVec 32 := BitVec.ofNat 32 (i 0).val
  let c32_i32_88 : BitVec 32 := 32#32
  let v216 : BitVec 32 := Scalar.muli arg0 c32_i32_88
  let c14_i32 : BitVec 32 := 14#32
  let v217 : BitVec 32 := Scalar.addi v216 c14_i32
  let v218 : Index := Scalar.indexCast v217
  ![v218.toNat]
def k0_off58 (v219 : BitVec 32) : Fin 2 → Nat :=
  let v488 : Index := Scalar.indexCast v219
  let c0_195 : Index := 0#32
  ![v488.toNat, 0]
def k0_cond30 (v219 : BitVec 32) (v221 : BitVec 32) : BitVec 1 :=
  let v222 : BitVec 1 := Scalar.cmpi .eq v219 v221
  let v223 : BitVec 32 := Scalar.extui v222
  let c0_i32_89 : BitVec 32 := 0#32
  let v224 : BitVec 1 := Scalar.cmpi .ne v223 c0_i32_89
  v224

@[reducible] def k0_t29_loop (v219 : BitVec 32) (v221 : BitVec 32) : Scf.Loop 32 :=
  let c1_i32_195 : BitVec 32 := 1#32
  let v486 : BitVec 32 := Scalar.addi v221 c1_i32_195
  let v487 : BitVec 32 := Scalar.subi v486 v219
  let c1_i32_197 : BitVec 32 := 1#32
  let v489 : BitVec 32 := Scalar.divsi v487 c1_i32_197
  let v490 : BitVec 32 := Scalar.muli v489 c1_i32_197
  let v491 : BitVec 32 := Scalar.addi v219 v490
  let c1_i32_198 : BitVec 32 := 1#32
  ⟨v219, v491, c1_i32_198⟩
def k0_cond31 (v219 : BitVec 32) (v221 : BitVec 32) : BitVec 1 :=
  let v225 : BitVec 1 := Scalar.cmpi .ne v219 v221
  let v226 : BitVec 32 := Scalar.extui v225
  let c0_i32_90 : BitVec 32 := 0#32
  let v227 : BitVec 1 := Scalar.cmpi .ne v226 c0_i32_90
  v227

def k0_off59 (v219 : BitVec 32) (v221 : BitVec 32) (k0_t29 : Fin (k0_t29_loop v219 v221).trips) : Fin 2 → Nat :=
  let c1_i32_198 : BitVec 32 := 1#32
  let arg11 : BitVec 32 := Scf.iv v219 c1_i32_198 k0_t29
  let v502 : Index := Scalar.indexCast arg11
  let c0_201 : Index := 0#32
  ![v502.toNat, 0]
@[reducible] def k0_t30_loop (v219 : BitVec 32) (v221 : BitVec 32) : Scf.Loop 32 :=
  let c1_i32_195 : BitVec 32 := 1#32
  let v486 : BitVec 32 := Scalar.addi v221 c1_i32_195
  let v487 : BitVec 32 := Scalar.subi v486 v219
  let c1_i32_197 : BitVec 32 := 1#32
  let v489 : BitVec 32 := Scalar.divsi v487 c1_i32_197
  let v490 : BitVec 32 := Scalar.muli v489 c1_i32_197
  let v491 : BitVec 32 := Scalar.addi v219 v490
  let v488 : BitVec 32 := Scalar.addi v219 v487
  let c1_i32_199 : BitVec 32 := 1#32
  ⟨v491, v488, c1_i32_199⟩
def k0_off60 (v219 : BitVec 32) (v221 : BitVec 32) (k0_t30 : Fin (k0_t30_loop v219 v221).trips) : Fin 2 → Nat :=
  let c1_i32_195 : BitVec 32 := 1#32
  let v486 : BitVec 32 := Scalar.addi v221 c1_i32_195
  let v487 : BitVec 32 := Scalar.subi v486 v219
  let c1_i32_197 : BitVec 32 := 1#32
  let v489 : BitVec 32 := Scalar.divsi v487 c1_i32_197
  let v490 : BitVec 32 := Scalar.muli v489 c1_i32_197
  let v491 : BitVec 32 := Scalar.addi v219 v490
  let c1_i32_199 : BitVec 32 := 1#32
  let arg11 : BitVec 32 := Scf.iv v491 c1_i32_199 k0_t30
  let v502 : Index := Scalar.indexCast arg11
  let c0_201 : Index := 0#32
  ![v502.toNat, 0]

def k0_chk15 (v219 : BitVec 32) (v221 : BitVec 32) : Prop :=
  (∀ (k0_h30 : k0_cond30 v219 v221 = 1#1), ∀ a, (k0_off58 v219) a + S1x128.size a ≤ S128x128.size a) ∧
  (∀ (k0_h31 : k0_cond31 v219 v221 = 1#1), (k0_t29_loop v219 v221).OK) ∧
  (∀ k0_t29 : Fin (k0_t29_loop v219 v221).trips, ∀ (k0_h31 : k0_cond31 v219 v221 = 1#1), ∀ a, (k0_off59 v219 v221 k0_t29) a + S1x128.size a ≤ S128x128.size a) ∧
  (∀ (k0_h31 : k0_cond31 v219 v221 = 1#1), (k0_t30_loop v219 v221).OK) ∧
  (∀ k0_t30 : Fin (k0_t30_loop v219 v221).trips, ∀ (k0_h31 : k0_cond31 v219 v221 = 1#1), ∀ a, (k0_off60 v219 v221 k0_t30) a + S1x128.size a ≤ S128x128.size a)
theorem k0_off58_inb : ∀ (v219 : BitVec 32) (v221 : BitVec 32) (k0_hw15 : k0_chk15 v219 v221), ∀ (k0_h30 : k0_cond30 v219 v221 = 1#1), ∀ a, (k0_off58 v219) a + S1x128.size a ≤ S128x128.size a := fun v219 v221 k0_hw15 k0_h30 => k0_hw15.1 k0_h30
theorem k0_t29_ok : ∀ (v219 : BitVec 32) (v221 : BitVec 32) (k0_hw15 : k0_chk15 v219 v221), ∀ (k0_h31 : k0_cond31 v219 v221 = 1#1), (k0_t29_loop v219 v221).OK := fun v219 v221 k0_hw15 k0_h31 => k0_hw15.2.1 k0_h31
theorem k0_off59_inb : ∀ (v219 : BitVec 32) (v221 : BitVec 32) (k0_hw15 : k0_chk15 v219 v221) (k0_t29 : Fin (k0_t29_loop v219 v221).trips), ∀ (k0_h31 : k0_cond31 v219 v221 = 1#1), ∀ a, (k0_off59 v219 v221 k0_t29) a + S1x128.size a ≤ S128x128.size a := fun v219 v221 k0_hw15 k0_t29 k0_h31 => k0_hw15.2.2.1 k0_t29 k0_h31
theorem k0_t30_ok : ∀ (v219 : BitVec 32) (v221 : BitVec 32) (k0_hw15 : k0_chk15 v219 v221), ∀ (k0_h31 : k0_cond31 v219 v221 = 1#1), (k0_t30_loop v219 v221).OK := fun v219 v221 k0_hw15 k0_h31 => k0_hw15.2.2.2.1 k0_h31
theorem k0_off60_inb : ∀ (v219 : BitVec 32) (v221 : BitVec 32) (k0_hw15 : k0_chk15 v219 v221) (k0_t30 : Fin (k0_t30_loop v219 v221).trips), ∀ (k0_h31 : k0_cond31 v219 v221 = 1#1), ∀ a, (k0_off60 v219 v221 k0_t30) a + S1x128.size a ≤ S128x128.size a := fun v219 v221 k0_hw15 k0_t30 k0_h31 => k0_hw15.2.2.2.2 k0_t30 k0_h31

def k0_off61 (i : grid0.Coords) : Fin 1 → Nat :=
  let arg0 : BitVec 32 := BitVec.ofNat 32 (i 0).val
  let c32_i32_94 : BitVec 32 := 32#32
  let v231 : BitVec 32 := Scalar.muli arg0 c32_i32_94
  let c15_i32 : BitVec 32 := 15#32
  let v232 : BitVec 32 := Scalar.addi v231 c15_i32
  let v233 : Index := Scalar.indexCast v232
  ![v233.toNat]
def k0_off62 (v234 : BitVec 32) : Fin 2 → Nat :=
  let v488 : Index := Scalar.indexCast v234
  let c0_195 : Index := 0#32
  ![v488.toNat, 0]
def k0_cond32 (v234 : BitVec 32) (v236 : BitVec 32) : BitVec 1 :=
  let v237 : BitVec 1 := Scalar.cmpi .eq v234 v236
  let v238 : BitVec 32 := Scalar.extui v237
  let c0_i32_95 : BitVec 32 := 0#32
  let v239 : BitVec 1 := Scalar.cmpi .ne v238 c0_i32_95
  v239

@[reducible] def k0_t31_loop (v234 : BitVec 32) (v236 : BitVec 32) : Scf.Loop 32 :=
  let c1_i32_195 : BitVec 32 := 1#32
  let v486 : BitVec 32 := Scalar.addi v236 c1_i32_195
  let v487 : BitVec 32 := Scalar.subi v486 v234
  let c1_i32_197 : BitVec 32 := 1#32
  let v489 : BitVec 32 := Scalar.divsi v487 c1_i32_197
  let v490 : BitVec 32 := Scalar.muli v489 c1_i32_197
  let v491 : BitVec 32 := Scalar.addi v234 v490
  let c1_i32_198 : BitVec 32 := 1#32
  ⟨v234, v491, c1_i32_198⟩
def k0_cond33 (v234 : BitVec 32) (v236 : BitVec 32) : BitVec 1 :=
  let v240 : BitVec 1 := Scalar.cmpi .ne v234 v236
  let v241 : BitVec 32 := Scalar.extui v240
  let c0_i32_96 : BitVec 32 := 0#32
  let v242 : BitVec 1 := Scalar.cmpi .ne v241 c0_i32_96
  v242

def k0_off63 (v234 : BitVec 32) (v236 : BitVec 32) (k0_t31 : Fin (k0_t31_loop v234 v236).trips) : Fin 2 → Nat :=
  let c1_i32_198 : BitVec 32 := 1#32
  let arg11 : BitVec 32 := Scf.iv v234 c1_i32_198 k0_t31
  let v502 : Index := Scalar.indexCast arg11
  let c0_201 : Index := 0#32
  ![v502.toNat, 0]
@[reducible] def k0_t32_loop (v234 : BitVec 32) (v236 : BitVec 32) : Scf.Loop 32 :=
  let c1_i32_195 : BitVec 32 := 1#32
  let v486 : BitVec 32 := Scalar.addi v236 c1_i32_195
  let v487 : BitVec 32 := Scalar.subi v486 v234
  let c1_i32_197 : BitVec 32 := 1#32
  let v489 : BitVec 32 := Scalar.divsi v487 c1_i32_197
  let v490 : BitVec 32 := Scalar.muli v489 c1_i32_197
  let v491 : BitVec 32 := Scalar.addi v234 v490
  let v488 : BitVec 32 := Scalar.addi v234 v487
  let c1_i32_199 : BitVec 32 := 1#32
  ⟨v491, v488, c1_i32_199⟩
def k0_off64 (v234 : BitVec 32) (v236 : BitVec 32) (k0_t32 : Fin (k0_t32_loop v234 v236).trips) : Fin 2 → Nat :=
  let c1_i32_195 : BitVec 32 := 1#32
  let v486 : BitVec 32 := Scalar.addi v236 c1_i32_195
  let v487 : BitVec 32 := Scalar.subi v486 v234
  let c1_i32_197 : BitVec 32 := 1#32
  let v489 : BitVec 32 := Scalar.divsi v487 c1_i32_197
  let v490 : BitVec 32 := Scalar.muli v489 c1_i32_197
  let v491 : BitVec 32 := Scalar.addi v234 v490
  let c1_i32_199 : BitVec 32 := 1#32
  let arg11 : BitVec 32 := Scf.iv v491 c1_i32_199 k0_t32
  let v502 : Index := Scalar.indexCast arg11
  let c0_201 : Index := 0#32
  ![v502.toNat, 0]

def k0_chk16 (v234 : BitVec 32) (v236 : BitVec 32) : Prop :=
  (∀ (k0_h32 : k0_cond32 v234 v236 = 1#1), ∀ a, (k0_off62 v234) a + S1x128.size a ≤ S128x128.size a) ∧
  (∀ (k0_h33 : k0_cond33 v234 v236 = 1#1), (k0_t31_loop v234 v236).OK) ∧
  (∀ k0_t31 : Fin (k0_t31_loop v234 v236).trips, ∀ (k0_h33 : k0_cond33 v234 v236 = 1#1), ∀ a, (k0_off63 v234 v236 k0_t31) a + S1x128.size a ≤ S128x128.size a) ∧
  (∀ (k0_h33 : k0_cond33 v234 v236 = 1#1), (k0_t32_loop v234 v236).OK) ∧
  (∀ k0_t32 : Fin (k0_t32_loop v234 v236).trips, ∀ (k0_h33 : k0_cond33 v234 v236 = 1#1), ∀ a, (k0_off64 v234 v236 k0_t32) a + S1x128.size a ≤ S128x128.size a)
theorem k0_off62_inb : ∀ (v234 : BitVec 32) (v236 : BitVec 32) (k0_hw16 : k0_chk16 v234 v236), ∀ (k0_h32 : k0_cond32 v234 v236 = 1#1), ∀ a, (k0_off62 v234) a + S1x128.size a ≤ S128x128.size a := fun v234 v236 k0_hw16 k0_h32 => k0_hw16.1 k0_h32
theorem k0_t31_ok : ∀ (v234 : BitVec 32) (v236 : BitVec 32) (k0_hw16 : k0_chk16 v234 v236), ∀ (k0_h33 : k0_cond33 v234 v236 = 1#1), (k0_t31_loop v234 v236).OK := fun v234 v236 k0_hw16 k0_h33 => k0_hw16.2.1 k0_h33
theorem k0_off63_inb : ∀ (v234 : BitVec 32) (v236 : BitVec 32) (k0_hw16 : k0_chk16 v234 v236) (k0_t31 : Fin (k0_t31_loop v234 v236).trips), ∀ (k0_h33 : k0_cond33 v234 v236 = 1#1), ∀ a, (k0_off63 v234 v236 k0_t31) a + S1x128.size a ≤ S128x128.size a := fun v234 v236 k0_hw16 k0_t31 k0_h33 => k0_hw16.2.2.1 k0_t31 k0_h33
theorem k0_t32_ok : ∀ (v234 : BitVec 32) (v236 : BitVec 32) (k0_hw16 : k0_chk16 v234 v236), ∀ (k0_h33 : k0_cond33 v234 v236 = 1#1), (k0_t32_loop v234 v236).OK := fun v234 v236 k0_hw16 k0_h33 => k0_hw16.2.2.2.1 k0_h33
theorem k0_off64_inb : ∀ (v234 : BitVec 32) (v236 : BitVec 32) (k0_hw16 : k0_chk16 v234 v236) (k0_t32 : Fin (k0_t32_loop v234 v236).trips), ∀ (k0_h33 : k0_cond33 v234 v236 = 1#1), ∀ a, (k0_off64 v234 v236 k0_t32) a + S1x128.size a ≤ S128x128.size a := fun v234 v236 k0_hw16 k0_t32 k0_h33 => k0_hw16.2.2.2.2 k0_t32 k0_h33

def k0_off65 (i : grid0.Coords) : Fin 1 → Nat :=
  let arg0 : BitVec 32 := BitVec.ofNat 32 (i 0).val
  let c32_i32_100 : BitVec 32 := 32#32
  let v246 : BitVec 32 := Scalar.muli arg0 c32_i32_100
  let c16_i32 : BitVec 32 := 16#32
  let v247 : BitVec 32 := Scalar.addi v246 c16_i32
  let v248 : Index := Scalar.indexCast v247
  ![v248.toNat]
def k0_off66 (v249 : BitVec 32) : Fin 2 → Nat :=
  let v488 : Index := Scalar.indexCast v249
  let c0_195 : Index := 0#32
  ![v488.toNat, 0]
def k0_cond34 (v249 : BitVec 32) (v251 : BitVec 32) : BitVec 1 :=
  let v252 : BitVec 1 := Scalar.cmpi .eq v249 v251
  let v253 : BitVec 32 := Scalar.extui v252
  let c0_i32_101 : BitVec 32 := 0#32
  let v254 : BitVec 1 := Scalar.cmpi .ne v253 c0_i32_101
  v254

@[reducible] def k0_t33_loop (v249 : BitVec 32) (v251 : BitVec 32) : Scf.Loop 32 :=
  let c1_i32_195 : BitVec 32 := 1#32
  let v486 : BitVec 32 := Scalar.addi v251 c1_i32_195
  let v487 : BitVec 32 := Scalar.subi v486 v249
  let c1_i32_197 : BitVec 32 := 1#32
  let v489 : BitVec 32 := Scalar.divsi v487 c1_i32_197
  let v490 : BitVec 32 := Scalar.muli v489 c1_i32_197
  let v491 : BitVec 32 := Scalar.addi v249 v490
  let c1_i32_198 : BitVec 32 := 1#32
  ⟨v249, v491, c1_i32_198⟩
def k0_cond35 (v249 : BitVec 32) (v251 : BitVec 32) : BitVec 1 :=
  let v255 : BitVec 1 := Scalar.cmpi .ne v249 v251
  let v256 : BitVec 32 := Scalar.extui v255
  let c0_i32_102 : BitVec 32 := 0#32
  let v257 : BitVec 1 := Scalar.cmpi .ne v256 c0_i32_102
  v257

def k0_off67 (v249 : BitVec 32) (v251 : BitVec 32) (k0_t33 : Fin (k0_t33_loop v249 v251).trips) : Fin 2 → Nat :=
  let c1_i32_198 : BitVec 32 := 1#32
  let arg11 : BitVec 32 := Scf.iv v249 c1_i32_198 k0_t33
  let v502 : Index := Scalar.indexCast arg11
  let c0_201 : Index := 0#32
  ![v502.toNat, 0]
@[reducible] def k0_t34_loop (v249 : BitVec 32) (v251 : BitVec 32) : Scf.Loop 32 :=
  let c1_i32_195 : BitVec 32 := 1#32
  let v486 : BitVec 32 := Scalar.addi v251 c1_i32_195
  let v487 : BitVec 32 := Scalar.subi v486 v249
  let c1_i32_197 : BitVec 32 := 1#32
  let v489 : BitVec 32 := Scalar.divsi v487 c1_i32_197
  let v490 : BitVec 32 := Scalar.muli v489 c1_i32_197
  let v491 : BitVec 32 := Scalar.addi v249 v490
  let v488 : BitVec 32 := Scalar.addi v249 v487
  let c1_i32_199 : BitVec 32 := 1#32
  ⟨v491, v488, c1_i32_199⟩
def k0_off68 (v249 : BitVec 32) (v251 : BitVec 32) (k0_t34 : Fin (k0_t34_loop v249 v251).trips) : Fin 2 → Nat :=
  let c1_i32_195 : BitVec 32 := 1#32
  let v486 : BitVec 32 := Scalar.addi v251 c1_i32_195
  let v487 : BitVec 32 := Scalar.subi v486 v249
  let c1_i32_197 : BitVec 32 := 1#32
  let v489 : BitVec 32 := Scalar.divsi v487 c1_i32_197
  let v490 : BitVec 32 := Scalar.muli v489 c1_i32_197
  let v491 : BitVec 32 := Scalar.addi v249 v490
  let c1_i32_199 : BitVec 32 := 1#32
  let arg11 : BitVec 32 := Scf.iv v491 c1_i32_199 k0_t34
  let v502 : Index := Scalar.indexCast arg11
  let c0_201 : Index := 0#32
  ![v502.toNat, 0]

def k0_chk17 (v249 : BitVec 32) (v251 : BitVec 32) : Prop :=
  (∀ (k0_h34 : k0_cond34 v249 v251 = 1#1), ∀ a, (k0_off66 v249) a + S1x128.size a ≤ S128x128.size a) ∧
  (∀ (k0_h35 : k0_cond35 v249 v251 = 1#1), (k0_t33_loop v249 v251).OK) ∧
  (∀ k0_t33 : Fin (k0_t33_loop v249 v251).trips, ∀ (k0_h35 : k0_cond35 v249 v251 = 1#1), ∀ a, (k0_off67 v249 v251 k0_t33) a + S1x128.size a ≤ S128x128.size a) ∧
  (∀ (k0_h35 : k0_cond35 v249 v251 = 1#1), (k0_t34_loop v249 v251).OK) ∧
  (∀ k0_t34 : Fin (k0_t34_loop v249 v251).trips, ∀ (k0_h35 : k0_cond35 v249 v251 = 1#1), ∀ a, (k0_off68 v249 v251 k0_t34) a + S1x128.size a ≤ S128x128.size a)
theorem k0_off66_inb : ∀ (v249 : BitVec 32) (v251 : BitVec 32) (k0_hw17 : k0_chk17 v249 v251), ∀ (k0_h34 : k0_cond34 v249 v251 = 1#1), ∀ a, (k0_off66 v249) a + S1x128.size a ≤ S128x128.size a := fun v249 v251 k0_hw17 k0_h34 => k0_hw17.1 k0_h34
theorem k0_t33_ok : ∀ (v249 : BitVec 32) (v251 : BitVec 32) (k0_hw17 : k0_chk17 v249 v251), ∀ (k0_h35 : k0_cond35 v249 v251 = 1#1), (k0_t33_loop v249 v251).OK := fun v249 v251 k0_hw17 k0_h35 => k0_hw17.2.1 k0_h35
theorem k0_off67_inb : ∀ (v249 : BitVec 32) (v251 : BitVec 32) (k0_hw17 : k0_chk17 v249 v251) (k0_t33 : Fin (k0_t33_loop v249 v251).trips), ∀ (k0_h35 : k0_cond35 v249 v251 = 1#1), ∀ a, (k0_off67 v249 v251 k0_t33) a + S1x128.size a ≤ S128x128.size a := fun v249 v251 k0_hw17 k0_t33 k0_h35 => k0_hw17.2.2.1 k0_t33 k0_h35
theorem k0_t34_ok : ∀ (v249 : BitVec 32) (v251 : BitVec 32) (k0_hw17 : k0_chk17 v249 v251), ∀ (k0_h35 : k0_cond35 v249 v251 = 1#1), (k0_t34_loop v249 v251).OK := fun v249 v251 k0_hw17 k0_h35 => k0_hw17.2.2.2.1 k0_h35
theorem k0_off68_inb : ∀ (v249 : BitVec 32) (v251 : BitVec 32) (k0_hw17 : k0_chk17 v249 v251) (k0_t34 : Fin (k0_t34_loop v249 v251).trips), ∀ (k0_h35 : k0_cond35 v249 v251 = 1#1), ∀ a, (k0_off68 v249 v251 k0_t34) a + S1x128.size a ≤ S128x128.size a := fun v249 v251 k0_hw17 k0_t34 k0_h35 => k0_hw17.2.2.2.2 k0_t34 k0_h35

def k0_off69 (i : grid0.Coords) : Fin 1 → Nat :=
  let arg0 : BitVec 32 := BitVec.ofNat 32 (i 0).val
  let c32_i32_106 : BitVec 32 := 32#32
  let v261 : BitVec 32 := Scalar.muli arg0 c32_i32_106
  let c17_i32 : BitVec 32 := 17#32
  let v262 : BitVec 32 := Scalar.addi v261 c17_i32
  let v263 : Index := Scalar.indexCast v262
  ![v263.toNat]
def k0_off70 (v264 : BitVec 32) : Fin 2 → Nat :=
  let v488 : Index := Scalar.indexCast v264
  let c0_195 : Index := 0#32
  ![v488.toNat, 0]
def k0_cond36 (v264 : BitVec 32) (v266 : BitVec 32) : BitVec 1 :=
  let v267 : BitVec 1 := Scalar.cmpi .eq v264 v266
  let v268 : BitVec 32 := Scalar.extui v267
  let c0_i32_107 : BitVec 32 := 0#32
  let v269 : BitVec 1 := Scalar.cmpi .ne v268 c0_i32_107
  v269

@[reducible] def k0_t35_loop (v264 : BitVec 32) (v266 : BitVec 32) : Scf.Loop 32 :=
  let c1_i32_195 : BitVec 32 := 1#32
  let v486 : BitVec 32 := Scalar.addi v266 c1_i32_195
  let v487 : BitVec 32 := Scalar.subi v486 v264
  let c1_i32_197 : BitVec 32 := 1#32
  let v489 : BitVec 32 := Scalar.divsi v487 c1_i32_197
  let v490 : BitVec 32 := Scalar.muli v489 c1_i32_197
  let v491 : BitVec 32 := Scalar.addi v264 v490
  let c1_i32_198 : BitVec 32 := 1#32
  ⟨v264, v491, c1_i32_198⟩
def k0_cond37 (v264 : BitVec 32) (v266 : BitVec 32) : BitVec 1 :=
  let v270 : BitVec 1 := Scalar.cmpi .ne v264 v266
  let v271 : BitVec 32 := Scalar.extui v270
  let c0_i32_108 : BitVec 32 := 0#32
  let v272 : BitVec 1 := Scalar.cmpi .ne v271 c0_i32_108
  v272

def k0_off71 (v264 : BitVec 32) (v266 : BitVec 32) (k0_t35 : Fin (k0_t35_loop v264 v266).trips) : Fin 2 → Nat :=
  let c1_i32_198 : BitVec 32 := 1#32
  let arg11 : BitVec 32 := Scf.iv v264 c1_i32_198 k0_t35
  let v502 : Index := Scalar.indexCast arg11
  let c0_201 : Index := 0#32
  ![v502.toNat, 0]
@[reducible] def k0_t36_loop (v264 : BitVec 32) (v266 : BitVec 32) : Scf.Loop 32 :=
  let c1_i32_195 : BitVec 32 := 1#32
  let v486 : BitVec 32 := Scalar.addi v266 c1_i32_195
  let v487 : BitVec 32 := Scalar.subi v486 v264
  let c1_i32_197 : BitVec 32 := 1#32
  let v489 : BitVec 32 := Scalar.divsi v487 c1_i32_197
  let v490 : BitVec 32 := Scalar.muli v489 c1_i32_197
  let v491 : BitVec 32 := Scalar.addi v264 v490
  let v488 : BitVec 32 := Scalar.addi v264 v487
  let c1_i32_199 : BitVec 32 := 1#32
  ⟨v491, v488, c1_i32_199⟩
def k0_off72 (v264 : BitVec 32) (v266 : BitVec 32) (k0_t36 : Fin (k0_t36_loop v264 v266).trips) : Fin 2 → Nat :=
  let c1_i32_195 : BitVec 32 := 1#32
  let v486 : BitVec 32 := Scalar.addi v266 c1_i32_195
  let v487 : BitVec 32 := Scalar.subi v486 v264
  let c1_i32_197 : BitVec 32 := 1#32
  let v489 : BitVec 32 := Scalar.divsi v487 c1_i32_197
  let v490 : BitVec 32 := Scalar.muli v489 c1_i32_197
  let v491 : BitVec 32 := Scalar.addi v264 v490
  let c1_i32_199 : BitVec 32 := 1#32
  let arg11 : BitVec 32 := Scf.iv v491 c1_i32_199 k0_t36
  let v502 : Index := Scalar.indexCast arg11
  let c0_201 : Index := 0#32
  ![v502.toNat, 0]

def k0_chk18 (v264 : BitVec 32) (v266 : BitVec 32) : Prop :=
  (∀ (k0_h36 : k0_cond36 v264 v266 = 1#1), ∀ a, (k0_off70 v264) a + S1x128.size a ≤ S128x128.size a) ∧
  (∀ (k0_h37 : k0_cond37 v264 v266 = 1#1), (k0_t35_loop v264 v266).OK) ∧
  (∀ k0_t35 : Fin (k0_t35_loop v264 v266).trips, ∀ (k0_h37 : k0_cond37 v264 v266 = 1#1), ∀ a, (k0_off71 v264 v266 k0_t35) a + S1x128.size a ≤ S128x128.size a) ∧
  (∀ (k0_h37 : k0_cond37 v264 v266 = 1#1), (k0_t36_loop v264 v266).OK) ∧
  (∀ k0_t36 : Fin (k0_t36_loop v264 v266).trips, ∀ (k0_h37 : k0_cond37 v264 v266 = 1#1), ∀ a, (k0_off72 v264 v266 k0_t36) a + S1x128.size a ≤ S128x128.size a)
theorem k0_off70_inb : ∀ (v264 : BitVec 32) (v266 : BitVec 32) (k0_hw18 : k0_chk18 v264 v266), ∀ (k0_h36 : k0_cond36 v264 v266 = 1#1), ∀ a, (k0_off70 v264) a + S1x128.size a ≤ S128x128.size a := fun v264 v266 k0_hw18 k0_h36 => k0_hw18.1 k0_h36
theorem k0_t35_ok : ∀ (v264 : BitVec 32) (v266 : BitVec 32) (k0_hw18 : k0_chk18 v264 v266), ∀ (k0_h37 : k0_cond37 v264 v266 = 1#1), (k0_t35_loop v264 v266).OK := fun v264 v266 k0_hw18 k0_h37 => k0_hw18.2.1 k0_h37
theorem k0_off71_inb : ∀ (v264 : BitVec 32) (v266 : BitVec 32) (k0_hw18 : k0_chk18 v264 v266) (k0_t35 : Fin (k0_t35_loop v264 v266).trips), ∀ (k0_h37 : k0_cond37 v264 v266 = 1#1), ∀ a, (k0_off71 v264 v266 k0_t35) a + S1x128.size a ≤ S128x128.size a := fun v264 v266 k0_hw18 k0_t35 k0_h37 => k0_hw18.2.2.1 k0_t35 k0_h37
theorem k0_t36_ok : ∀ (v264 : BitVec 32) (v266 : BitVec 32) (k0_hw18 : k0_chk18 v264 v266), ∀ (k0_h37 : k0_cond37 v264 v266 = 1#1), (k0_t36_loop v264 v266).OK := fun v264 v266 k0_hw18 k0_h37 => k0_hw18.2.2.2.1 k0_h37
theorem k0_off72_inb : ∀ (v264 : BitVec 32) (v266 : BitVec 32) (k0_hw18 : k0_chk18 v264 v266) (k0_t36 : Fin (k0_t36_loop v264 v266).trips), ∀ (k0_h37 : k0_cond37 v264 v266 = 1#1), ∀ a, (k0_off72 v264 v266 k0_t36) a + S1x128.size a ≤ S128x128.size a := fun v264 v266 k0_hw18 k0_t36 k0_h37 => k0_hw18.2.2.2.2 k0_t36 k0_h37

def k0_off73 (i : grid0.Coords) : Fin 1 → Nat :=
  let arg0 : BitVec 32 := BitVec.ofNat 32 (i 0).val
  let c32_i32_112 : BitVec 32 := 32#32
  let v276 : BitVec 32 := Scalar.muli arg0 c32_i32_112
  let c18_i32 : BitVec 32 := 18#32
  let v277 : BitVec 32 := Scalar.addi v276 c18_i32
  let v278 : Index := Scalar.indexCast v277
  ![v278.toNat]
def k0_off74 (v279 : BitVec 32) : Fin 2 → Nat :=
  let v488 : Index := Scalar.indexCast v279
  let c0_195 : Index := 0#32
  ![v488.toNat, 0]
def k0_cond38 (v279 : BitVec 32) (v281 : BitVec 32) : BitVec 1 :=
  let v282 : BitVec 1 := Scalar.cmpi .eq v279 v281
  let v283 : BitVec 32 := Scalar.extui v282
  let c0_i32_113 : BitVec 32 := 0#32
  let v284 : BitVec 1 := Scalar.cmpi .ne v283 c0_i32_113
  v284

@[reducible] def k0_t37_loop (v279 : BitVec 32) (v281 : BitVec 32) : Scf.Loop 32 :=
  let c1_i32_195 : BitVec 32 := 1#32
  let v486 : BitVec 32 := Scalar.addi v281 c1_i32_195
  let v487 : BitVec 32 := Scalar.subi v486 v279
  let c1_i32_197 : BitVec 32 := 1#32
  let v489 : BitVec 32 := Scalar.divsi v487 c1_i32_197
  let v490 : BitVec 32 := Scalar.muli v489 c1_i32_197
  let v491 : BitVec 32 := Scalar.addi v279 v490
  let c1_i32_198 : BitVec 32 := 1#32
  ⟨v279, v491, c1_i32_198⟩
def k0_cond39 (v279 : BitVec 32) (v281 : BitVec 32) : BitVec 1 :=
  let v285 : BitVec 1 := Scalar.cmpi .ne v279 v281
  let v286 : BitVec 32 := Scalar.extui v285
  let c0_i32_114 : BitVec 32 := 0#32
  let v287 : BitVec 1 := Scalar.cmpi .ne v286 c0_i32_114
  v287

def k0_off75 (v279 : BitVec 32) (v281 : BitVec 32) (k0_t37 : Fin (k0_t37_loop v279 v281).trips) : Fin 2 → Nat :=
  let c1_i32_198 : BitVec 32 := 1#32
  let arg11 : BitVec 32 := Scf.iv v279 c1_i32_198 k0_t37
  let v502 : Index := Scalar.indexCast arg11
  let c0_201 : Index := 0#32
  ![v502.toNat, 0]
@[reducible] def k0_t38_loop (v279 : BitVec 32) (v281 : BitVec 32) : Scf.Loop 32 :=
  let c1_i32_195 : BitVec 32 := 1#32
  let v486 : BitVec 32 := Scalar.addi v281 c1_i32_195
  let v487 : BitVec 32 := Scalar.subi v486 v279
  let c1_i32_197 : BitVec 32 := 1#32
  let v489 : BitVec 32 := Scalar.divsi v487 c1_i32_197
  let v490 : BitVec 32 := Scalar.muli v489 c1_i32_197
  let v491 : BitVec 32 := Scalar.addi v279 v490
  let v488 : BitVec 32 := Scalar.addi v279 v487
  let c1_i32_199 : BitVec 32 := 1#32
  ⟨v491, v488, c1_i32_199⟩
def k0_off76 (v279 : BitVec 32) (v281 : BitVec 32) (k0_t38 : Fin (k0_t38_loop v279 v281).trips) : Fin 2 → Nat :=
  let c1_i32_195 : BitVec 32 := 1#32
  let v486 : BitVec 32 := Scalar.addi v281 c1_i32_195
  let v487 : BitVec 32 := Scalar.subi v486 v279
  let c1_i32_197 : BitVec 32 := 1#32
  let v489 : BitVec 32 := Scalar.divsi v487 c1_i32_197
  let v490 : BitVec 32 := Scalar.muli v489 c1_i32_197
  let v491 : BitVec 32 := Scalar.addi v279 v490
  let c1_i32_199 : BitVec 32 := 1#32
  let arg11 : BitVec 32 := Scf.iv v491 c1_i32_199 k0_t38
  let v502 : Index := Scalar.indexCast arg11
  let c0_201 : Index := 0#32
  ![v502.toNat, 0]

def k0_chk19 (v279 : BitVec 32) (v281 : BitVec 32) : Prop :=
  (∀ (k0_h38 : k0_cond38 v279 v281 = 1#1), ∀ a, (k0_off74 v279) a + S1x128.size a ≤ S128x128.size a) ∧
  (∀ (k0_h39 : k0_cond39 v279 v281 = 1#1), (k0_t37_loop v279 v281).OK) ∧
  (∀ k0_t37 : Fin (k0_t37_loop v279 v281).trips, ∀ (k0_h39 : k0_cond39 v279 v281 = 1#1), ∀ a, (k0_off75 v279 v281 k0_t37) a + S1x128.size a ≤ S128x128.size a) ∧
  (∀ (k0_h39 : k0_cond39 v279 v281 = 1#1), (k0_t38_loop v279 v281).OK) ∧
  (∀ k0_t38 : Fin (k0_t38_loop v279 v281).trips, ∀ (k0_h39 : k0_cond39 v279 v281 = 1#1), ∀ a, (k0_off76 v279 v281 k0_t38) a + S1x128.size a ≤ S128x128.size a)
theorem k0_off74_inb : ∀ (v279 : BitVec 32) (v281 : BitVec 32) (k0_hw19 : k0_chk19 v279 v281), ∀ (k0_h38 : k0_cond38 v279 v281 = 1#1), ∀ a, (k0_off74 v279) a + S1x128.size a ≤ S128x128.size a := fun v279 v281 k0_hw19 k0_h38 => k0_hw19.1 k0_h38
theorem k0_t37_ok : ∀ (v279 : BitVec 32) (v281 : BitVec 32) (k0_hw19 : k0_chk19 v279 v281), ∀ (k0_h39 : k0_cond39 v279 v281 = 1#1), (k0_t37_loop v279 v281).OK := fun v279 v281 k0_hw19 k0_h39 => k0_hw19.2.1 k0_h39
theorem k0_off75_inb : ∀ (v279 : BitVec 32) (v281 : BitVec 32) (k0_hw19 : k0_chk19 v279 v281) (k0_t37 : Fin (k0_t37_loop v279 v281).trips), ∀ (k0_h39 : k0_cond39 v279 v281 = 1#1), ∀ a, (k0_off75 v279 v281 k0_t37) a + S1x128.size a ≤ S128x128.size a := fun v279 v281 k0_hw19 k0_t37 k0_h39 => k0_hw19.2.2.1 k0_t37 k0_h39
theorem k0_t38_ok : ∀ (v279 : BitVec 32) (v281 : BitVec 32) (k0_hw19 : k0_chk19 v279 v281), ∀ (k0_h39 : k0_cond39 v279 v281 = 1#1), (k0_t38_loop v279 v281).OK := fun v279 v281 k0_hw19 k0_h39 => k0_hw19.2.2.2.1 k0_h39
theorem k0_off76_inb : ∀ (v279 : BitVec 32) (v281 : BitVec 32) (k0_hw19 : k0_chk19 v279 v281) (k0_t38 : Fin (k0_t38_loop v279 v281).trips), ∀ (k0_h39 : k0_cond39 v279 v281 = 1#1), ∀ a, (k0_off76 v279 v281 k0_t38) a + S1x128.size a ≤ S128x128.size a := fun v279 v281 k0_hw19 k0_t38 k0_h39 => k0_hw19.2.2.2.2 k0_t38 k0_h39

def k0_off77 (i : grid0.Coords) : Fin 1 → Nat :=
  let arg0 : BitVec 32 := BitVec.ofNat 32 (i 0).val
  let c32_i32_118 : BitVec 32 := 32#32
  let v291 : BitVec 32 := Scalar.muli arg0 c32_i32_118
  let c19_i32 : BitVec 32 := 19#32
  let v292 : BitVec 32 := Scalar.addi v291 c19_i32
  let v293 : Index := Scalar.indexCast v292
  ![v293.toNat]
def k0_off78 (v294 : BitVec 32) : Fin 2 → Nat :=
  let v488 : Index := Scalar.indexCast v294
  let c0_195 : Index := 0#32
  ![v488.toNat, 0]
def k0_cond40 (v294 : BitVec 32) (v296 : BitVec 32) : BitVec 1 :=
  let v297 : BitVec 1 := Scalar.cmpi .eq v294 v296
  let v298 : BitVec 32 := Scalar.extui v297
  let c0_i32_119 : BitVec 32 := 0#32
  let v299 : BitVec 1 := Scalar.cmpi .ne v298 c0_i32_119
  v299

@[reducible] def k0_t39_loop (v294 : BitVec 32) (v296 : BitVec 32) : Scf.Loop 32 :=
  let c1_i32_195 : BitVec 32 := 1#32
  let v486 : BitVec 32 := Scalar.addi v296 c1_i32_195
  let v487 : BitVec 32 := Scalar.subi v486 v294
  let c1_i32_197 : BitVec 32 := 1#32
  let v489 : BitVec 32 := Scalar.divsi v487 c1_i32_197
  let v490 : BitVec 32 := Scalar.muli v489 c1_i32_197
  let v491 : BitVec 32 := Scalar.addi v294 v490
  let c1_i32_198 : BitVec 32 := 1#32
  ⟨v294, v491, c1_i32_198⟩
def k0_cond41 (v294 : BitVec 32) (v296 : BitVec 32) : BitVec 1 :=
  let v300 : BitVec 1 := Scalar.cmpi .ne v294 v296
  let v301 : BitVec 32 := Scalar.extui v300
  let c0_i32_120 : BitVec 32 := 0#32
  let v302 : BitVec 1 := Scalar.cmpi .ne v301 c0_i32_120
  v302

def k0_off79 (v294 : BitVec 32) (v296 : BitVec 32) (k0_t39 : Fin (k0_t39_loop v294 v296).trips) : Fin 2 → Nat :=
  let c1_i32_198 : BitVec 32 := 1#32
  let arg11 : BitVec 32 := Scf.iv v294 c1_i32_198 k0_t39
  let v502 : Index := Scalar.indexCast arg11
  let c0_201 : Index := 0#32
  ![v502.toNat, 0]
@[reducible] def k0_t40_loop (v294 : BitVec 32) (v296 : BitVec 32) : Scf.Loop 32 :=
  let c1_i32_195 : BitVec 32 := 1#32
  let v486 : BitVec 32 := Scalar.addi v296 c1_i32_195
  let v487 : BitVec 32 := Scalar.subi v486 v294
  let c1_i32_197 : BitVec 32 := 1#32
  let v489 : BitVec 32 := Scalar.divsi v487 c1_i32_197
  let v490 : BitVec 32 := Scalar.muli v489 c1_i32_197
  let v491 : BitVec 32 := Scalar.addi v294 v490
  let v488 : BitVec 32 := Scalar.addi v294 v487
  let c1_i32_199 : BitVec 32 := 1#32
  ⟨v491, v488, c1_i32_199⟩
def k0_off80 (v294 : BitVec 32) (v296 : BitVec 32) (k0_t40 : Fin (k0_t40_loop v294 v296).trips) : Fin 2 → Nat :=
  let c1_i32_195 : BitVec 32 := 1#32
  let v486 : BitVec 32 := Scalar.addi v296 c1_i32_195
  let v487 : BitVec 32 := Scalar.subi v486 v294
  let c1_i32_197 : BitVec 32 := 1#32
  let v489 : BitVec 32 := Scalar.divsi v487 c1_i32_197
  let v490 : BitVec 32 := Scalar.muli v489 c1_i32_197
  let v491 : BitVec 32 := Scalar.addi v294 v490
  let c1_i32_199 : BitVec 32 := 1#32
  let arg11 : BitVec 32 := Scf.iv v491 c1_i32_199 k0_t40
  let v502 : Index := Scalar.indexCast arg11
  let c0_201 : Index := 0#32
  ![v502.toNat, 0]

def k0_chk20 (v294 : BitVec 32) (v296 : BitVec 32) : Prop :=
  (∀ (k0_h40 : k0_cond40 v294 v296 = 1#1), ∀ a, (k0_off78 v294) a + S1x128.size a ≤ S128x128.size a) ∧
  (∀ (k0_h41 : k0_cond41 v294 v296 = 1#1), (k0_t39_loop v294 v296).OK) ∧
  (∀ k0_t39 : Fin (k0_t39_loop v294 v296).trips, ∀ (k0_h41 : k0_cond41 v294 v296 = 1#1), ∀ a, (k0_off79 v294 v296 k0_t39) a + S1x128.size a ≤ S128x128.size a) ∧
  (∀ (k0_h41 : k0_cond41 v294 v296 = 1#1), (k0_t40_loop v294 v296).OK) ∧
  (∀ k0_t40 : Fin (k0_t40_loop v294 v296).trips, ∀ (k0_h41 : k0_cond41 v294 v296 = 1#1), ∀ a, (k0_off80 v294 v296 k0_t40) a + S1x128.size a ≤ S128x128.size a)
theorem k0_off78_inb : ∀ (v294 : BitVec 32) (v296 : BitVec 32) (k0_hw20 : k0_chk20 v294 v296), ∀ (k0_h40 : k0_cond40 v294 v296 = 1#1), ∀ a, (k0_off78 v294) a + S1x128.size a ≤ S128x128.size a := fun v294 v296 k0_hw20 k0_h40 => k0_hw20.1 k0_h40
theorem k0_t39_ok : ∀ (v294 : BitVec 32) (v296 : BitVec 32) (k0_hw20 : k0_chk20 v294 v296), ∀ (k0_h41 : k0_cond41 v294 v296 = 1#1), (k0_t39_loop v294 v296).OK := fun v294 v296 k0_hw20 k0_h41 => k0_hw20.2.1 k0_h41
theorem k0_off79_inb : ∀ (v294 : BitVec 32) (v296 : BitVec 32) (k0_hw20 : k0_chk20 v294 v296) (k0_t39 : Fin (k0_t39_loop v294 v296).trips), ∀ (k0_h41 : k0_cond41 v294 v296 = 1#1), ∀ a, (k0_off79 v294 v296 k0_t39) a + S1x128.size a ≤ S128x128.size a := fun v294 v296 k0_hw20 k0_t39 k0_h41 => k0_hw20.2.2.1 k0_t39 k0_h41
theorem k0_t40_ok : ∀ (v294 : BitVec 32) (v296 : BitVec 32) (k0_hw20 : k0_chk20 v294 v296), ∀ (k0_h41 : k0_cond41 v294 v296 = 1#1), (k0_t40_loop v294 v296).OK := fun v294 v296 k0_hw20 k0_h41 => k0_hw20.2.2.2.1 k0_h41
theorem k0_off80_inb : ∀ (v294 : BitVec 32) (v296 : BitVec 32) (k0_hw20 : k0_chk20 v294 v296) (k0_t40 : Fin (k0_t40_loop v294 v296).trips), ∀ (k0_h41 : k0_cond41 v294 v296 = 1#1), ∀ a, (k0_off80 v294 v296 k0_t40) a + S1x128.size a ≤ S128x128.size a := fun v294 v296 k0_hw20 k0_t40 k0_h41 => k0_hw20.2.2.2.2 k0_t40 k0_h41

def k0_off81 (i : grid0.Coords) : Fin 1 → Nat :=
  let arg0 : BitVec 32 := BitVec.ofNat 32 (i 0).val
  let c32_i32_124 : BitVec 32 := 32#32
  let v306 : BitVec 32 := Scalar.muli arg0 c32_i32_124
  let c20_i32 : BitVec 32 := 20#32
  let v307 : BitVec 32 := Scalar.addi v306 c20_i32
  let v308 : Index := Scalar.indexCast v307
  ![v308.toNat]
def k0_off82 (v309 : BitVec 32) : Fin 2 → Nat :=
  let v488 : Index := Scalar.indexCast v309
  let c0_195 : Index := 0#32
  ![v488.toNat, 0]
def k0_cond42 (v309 : BitVec 32) (v311 : BitVec 32) : BitVec 1 :=
  let v312 : BitVec 1 := Scalar.cmpi .eq v309 v311
  let v313 : BitVec 32 := Scalar.extui v312
  let c0_i32_125 : BitVec 32 := 0#32
  let v314 : BitVec 1 := Scalar.cmpi .ne v313 c0_i32_125
  v314

@[reducible] def k0_t41_loop (v309 : BitVec 32) (v311 : BitVec 32) : Scf.Loop 32 :=
  let c1_i32_195 : BitVec 32 := 1#32
  let v486 : BitVec 32 := Scalar.addi v311 c1_i32_195
  let v487 : BitVec 32 := Scalar.subi v486 v309
  let c1_i32_197 : BitVec 32 := 1#32
  let v489 : BitVec 32 := Scalar.divsi v487 c1_i32_197
  let v490 : BitVec 32 := Scalar.muli v489 c1_i32_197
  let v491 : BitVec 32 := Scalar.addi v309 v490
  let c1_i32_198 : BitVec 32 := 1#32
  ⟨v309, v491, c1_i32_198⟩
def k0_cond43 (v309 : BitVec 32) (v311 : BitVec 32) : BitVec 1 :=
  let v315 : BitVec 1 := Scalar.cmpi .ne v309 v311
  let v316 : BitVec 32 := Scalar.extui v315
  let c0_i32_126 : BitVec 32 := 0#32
  let v317 : BitVec 1 := Scalar.cmpi .ne v316 c0_i32_126
  v317

def k0_off83 (v309 : BitVec 32) (v311 : BitVec 32) (k0_t41 : Fin (k0_t41_loop v309 v311).trips) : Fin 2 → Nat :=
  let c1_i32_198 : BitVec 32 := 1#32
  let arg11 : BitVec 32 := Scf.iv v309 c1_i32_198 k0_t41
  let v502 : Index := Scalar.indexCast arg11
  let c0_201 : Index := 0#32
  ![v502.toNat, 0]
@[reducible] def k0_t42_loop (v309 : BitVec 32) (v311 : BitVec 32) : Scf.Loop 32 :=
  let c1_i32_195 : BitVec 32 := 1#32
  let v486 : BitVec 32 := Scalar.addi v311 c1_i32_195
  let v487 : BitVec 32 := Scalar.subi v486 v309
  let c1_i32_197 : BitVec 32 := 1#32
  let v489 : BitVec 32 := Scalar.divsi v487 c1_i32_197
  let v490 : BitVec 32 := Scalar.muli v489 c1_i32_197
  let v491 : BitVec 32 := Scalar.addi v309 v490
  let v488 : BitVec 32 := Scalar.addi v309 v487
  let c1_i32_199 : BitVec 32 := 1#32
  ⟨v491, v488, c1_i32_199⟩
def k0_off84 (v309 : BitVec 32) (v311 : BitVec 32) (k0_t42 : Fin (k0_t42_loop v309 v311).trips) : Fin 2 → Nat :=
  let c1_i32_195 : BitVec 32 := 1#32
  let v486 : BitVec 32 := Scalar.addi v311 c1_i32_195
  let v487 : BitVec 32 := Scalar.subi v486 v309
  let c1_i32_197 : BitVec 32 := 1#32
  let v489 : BitVec 32 := Scalar.divsi v487 c1_i32_197
  let v490 : BitVec 32 := Scalar.muli v489 c1_i32_197
  let v491 : BitVec 32 := Scalar.addi v309 v490
  let c1_i32_199 : BitVec 32 := 1#32
  let arg11 : BitVec 32 := Scf.iv v491 c1_i32_199 k0_t42
  let v502 : Index := Scalar.indexCast arg11
  let c0_201 : Index := 0#32
  ![v502.toNat, 0]

def k0_chk21 (v309 : BitVec 32) (v311 : BitVec 32) : Prop :=
  (∀ (k0_h42 : k0_cond42 v309 v311 = 1#1), ∀ a, (k0_off82 v309) a + S1x128.size a ≤ S128x128.size a) ∧
  (∀ (k0_h43 : k0_cond43 v309 v311 = 1#1), (k0_t41_loop v309 v311).OK) ∧
  (∀ k0_t41 : Fin (k0_t41_loop v309 v311).trips, ∀ (k0_h43 : k0_cond43 v309 v311 = 1#1), ∀ a, (k0_off83 v309 v311 k0_t41) a + S1x128.size a ≤ S128x128.size a) ∧
  (∀ (k0_h43 : k0_cond43 v309 v311 = 1#1), (k0_t42_loop v309 v311).OK) ∧
  (∀ k0_t42 : Fin (k0_t42_loop v309 v311).trips, ∀ (k0_h43 : k0_cond43 v309 v311 = 1#1), ∀ a, (k0_off84 v309 v311 k0_t42) a + S1x128.size a ≤ S128x128.size a)
theorem k0_off82_inb : ∀ (v309 : BitVec 32) (v311 : BitVec 32) (k0_hw21 : k0_chk21 v309 v311), ∀ (k0_h42 : k0_cond42 v309 v311 = 1#1), ∀ a, (k0_off82 v309) a + S1x128.size a ≤ S128x128.size a := fun v309 v311 k0_hw21 k0_h42 => k0_hw21.1 k0_h42
theorem k0_t41_ok : ∀ (v309 : BitVec 32) (v311 : BitVec 32) (k0_hw21 : k0_chk21 v309 v311), ∀ (k0_h43 : k0_cond43 v309 v311 = 1#1), (k0_t41_loop v309 v311).OK := fun v309 v311 k0_hw21 k0_h43 => k0_hw21.2.1 k0_h43
theorem k0_off83_inb : ∀ (v309 : BitVec 32) (v311 : BitVec 32) (k0_hw21 : k0_chk21 v309 v311) (k0_t41 : Fin (k0_t41_loop v309 v311).trips), ∀ (k0_h43 : k0_cond43 v309 v311 = 1#1), ∀ a, (k0_off83 v309 v311 k0_t41) a + S1x128.size a ≤ S128x128.size a := fun v309 v311 k0_hw21 k0_t41 k0_h43 => k0_hw21.2.2.1 k0_t41 k0_h43
theorem k0_t42_ok : ∀ (v309 : BitVec 32) (v311 : BitVec 32) (k0_hw21 : k0_chk21 v309 v311), ∀ (k0_h43 : k0_cond43 v309 v311 = 1#1), (k0_t42_loop v309 v311).OK := fun v309 v311 k0_hw21 k0_h43 => k0_hw21.2.2.2.1 k0_h43
theorem k0_off84_inb : ∀ (v309 : BitVec 32) (v311 : BitVec 32) (k0_hw21 : k0_chk21 v309 v311) (k0_t42 : Fin (k0_t42_loop v309 v311).trips), ∀ (k0_h43 : k0_cond43 v309 v311 = 1#1), ∀ a, (k0_off84 v309 v311 k0_t42) a + S1x128.size a ≤ S128x128.size a := fun v309 v311 k0_hw21 k0_t42 k0_h43 => k0_hw21.2.2.2.2 k0_t42 k0_h43

def k0_off85 (i : grid0.Coords) : Fin 1 → Nat :=
  let arg0 : BitVec 32 := BitVec.ofNat 32 (i 0).val
  let c32_i32_130 : BitVec 32 := 32#32
  let v321 : BitVec 32 := Scalar.muli arg0 c32_i32_130
  let c21_i32 : BitVec 32 := 21#32
  let v322 : BitVec 32 := Scalar.addi v321 c21_i32
  let v323 : Index := Scalar.indexCast v322
  ![v323.toNat]
def k0_off86 (v324 : BitVec 32) : Fin 2 → Nat :=
  let v488 : Index := Scalar.indexCast v324
  let c0_195 : Index := 0#32
  ![v488.toNat, 0]
def k0_cond44 (v324 : BitVec 32) (v326 : BitVec 32) : BitVec 1 :=
  let v327 : BitVec 1 := Scalar.cmpi .eq v324 v326
  let v328 : BitVec 32 := Scalar.extui v327
  let c0_i32_131 : BitVec 32 := 0#32
  let v329 : BitVec 1 := Scalar.cmpi .ne v328 c0_i32_131
  v329

@[reducible] def k0_t43_loop (v324 : BitVec 32) (v326 : BitVec 32) : Scf.Loop 32 :=
  let c1_i32_195 : BitVec 32 := 1#32
  let v486 : BitVec 32 := Scalar.addi v326 c1_i32_195
  let v487 : BitVec 32 := Scalar.subi v486 v324
  let c1_i32_197 : BitVec 32 := 1#32
  let v489 : BitVec 32 := Scalar.divsi v487 c1_i32_197
  let v490 : BitVec 32 := Scalar.muli v489 c1_i32_197
  let v491 : BitVec 32 := Scalar.addi v324 v490
  let c1_i32_198 : BitVec 32 := 1#32
  ⟨v324, v491, c1_i32_198⟩
def k0_cond45 (v324 : BitVec 32) (v326 : BitVec 32) : BitVec 1 :=
  let v330 : BitVec 1 := Scalar.cmpi .ne v324 v326
  let v331 : BitVec 32 := Scalar.extui v330
  let c0_i32_132 : BitVec 32 := 0#32
  let v332 : BitVec 1 := Scalar.cmpi .ne v331 c0_i32_132
  v332

def k0_off87 (v324 : BitVec 32) (v326 : BitVec 32) (k0_t43 : Fin (k0_t43_loop v324 v326).trips) : Fin 2 → Nat :=
  let c1_i32_198 : BitVec 32 := 1#32
  let arg11 : BitVec 32 := Scf.iv v324 c1_i32_198 k0_t43
  let v502 : Index := Scalar.indexCast arg11
  let c0_201 : Index := 0#32
  ![v502.toNat, 0]
@[reducible] def k0_t44_loop (v324 : BitVec 32) (v326 : BitVec 32) : Scf.Loop 32 :=
  let c1_i32_195 : BitVec 32 := 1#32
  let v486 : BitVec 32 := Scalar.addi v326 c1_i32_195
  let v487 : BitVec 32 := Scalar.subi v486 v324
  let c1_i32_197 : BitVec 32 := 1#32
  let v489 : BitVec 32 := Scalar.divsi v487 c1_i32_197
  let v490 : BitVec 32 := Scalar.muli v489 c1_i32_197
  let v491 : BitVec 32 := Scalar.addi v324 v490
  let v488 : BitVec 32 := Scalar.addi v324 v487
  let c1_i32_199 : BitVec 32 := 1#32
  ⟨v491, v488, c1_i32_199⟩
def k0_off88 (v324 : BitVec 32) (v326 : BitVec 32) (k0_t44 : Fin (k0_t44_loop v324 v326).trips) : Fin 2 → Nat :=
  let c1_i32_195 : BitVec 32 := 1#32
  let v486 : BitVec 32 := Scalar.addi v326 c1_i32_195
  let v487 : BitVec 32 := Scalar.subi v486 v324
  let c1_i32_197 : BitVec 32 := 1#32
  let v489 : BitVec 32 := Scalar.divsi v487 c1_i32_197
  let v490 : BitVec 32 := Scalar.muli v489 c1_i32_197
  let v491 : BitVec 32 := Scalar.addi v324 v490
  let c1_i32_199 : BitVec 32 := 1#32
  let arg11 : BitVec 32 := Scf.iv v491 c1_i32_199 k0_t44
  let v502 : Index := Scalar.indexCast arg11
  let c0_201 : Index := 0#32
  ![v502.toNat, 0]

def k0_chk22 (v324 : BitVec 32) (v326 : BitVec 32) : Prop :=
  (∀ (k0_h44 : k0_cond44 v324 v326 = 1#1), ∀ a, (k0_off86 v324) a + S1x128.size a ≤ S128x128.size a) ∧
  (∀ (k0_h45 : k0_cond45 v324 v326 = 1#1), (k0_t43_loop v324 v326).OK) ∧
  (∀ k0_t43 : Fin (k0_t43_loop v324 v326).trips, ∀ (k0_h45 : k0_cond45 v324 v326 = 1#1), ∀ a, (k0_off87 v324 v326 k0_t43) a + S1x128.size a ≤ S128x128.size a) ∧
  (∀ (k0_h45 : k0_cond45 v324 v326 = 1#1), (k0_t44_loop v324 v326).OK) ∧
  (∀ k0_t44 : Fin (k0_t44_loop v324 v326).trips, ∀ (k0_h45 : k0_cond45 v324 v326 = 1#1), ∀ a, (k0_off88 v324 v326 k0_t44) a + S1x128.size a ≤ S128x128.size a)
theorem k0_off86_inb : ∀ (v324 : BitVec 32) (v326 : BitVec 32) (k0_hw22 : k0_chk22 v324 v326), ∀ (k0_h44 : k0_cond44 v324 v326 = 1#1), ∀ a, (k0_off86 v324) a + S1x128.size a ≤ S128x128.size a := fun v324 v326 k0_hw22 k0_h44 => k0_hw22.1 k0_h44
theorem k0_t43_ok : ∀ (v324 : BitVec 32) (v326 : BitVec 32) (k0_hw22 : k0_chk22 v324 v326), ∀ (k0_h45 : k0_cond45 v324 v326 = 1#1), (k0_t43_loop v324 v326).OK := fun v324 v326 k0_hw22 k0_h45 => k0_hw22.2.1 k0_h45
theorem k0_off87_inb : ∀ (v324 : BitVec 32) (v326 : BitVec 32) (k0_hw22 : k0_chk22 v324 v326) (k0_t43 : Fin (k0_t43_loop v324 v326).trips), ∀ (k0_h45 : k0_cond45 v324 v326 = 1#1), ∀ a, (k0_off87 v324 v326 k0_t43) a + S1x128.size a ≤ S128x128.size a := fun v324 v326 k0_hw22 k0_t43 k0_h45 => k0_hw22.2.2.1 k0_t43 k0_h45
theorem k0_t44_ok : ∀ (v324 : BitVec 32) (v326 : BitVec 32) (k0_hw22 : k0_chk22 v324 v326), ∀ (k0_h45 : k0_cond45 v324 v326 = 1#1), (k0_t44_loop v324 v326).OK := fun v324 v326 k0_hw22 k0_h45 => k0_hw22.2.2.2.1 k0_h45
theorem k0_off88_inb : ∀ (v324 : BitVec 32) (v326 : BitVec 32) (k0_hw22 : k0_chk22 v324 v326) (k0_t44 : Fin (k0_t44_loop v324 v326).trips), ∀ (k0_h45 : k0_cond45 v324 v326 = 1#1), ∀ a, (k0_off88 v324 v326 k0_t44) a + S1x128.size a ≤ S128x128.size a := fun v324 v326 k0_hw22 k0_t44 k0_h45 => k0_hw22.2.2.2.2 k0_t44 k0_h45

def k0_off89 (i : grid0.Coords) : Fin 1 → Nat :=
  let arg0 : BitVec 32 := BitVec.ofNat 32 (i 0).val
  let c32_i32_136 : BitVec 32 := 32#32
  let v336 : BitVec 32 := Scalar.muli arg0 c32_i32_136
  let c22_i32 : BitVec 32 := 22#32
  let v337 : BitVec 32 := Scalar.addi v336 c22_i32
  let v338 : Index := Scalar.indexCast v337
  ![v338.toNat]
def k0_off90 (v339 : BitVec 32) : Fin 2 → Nat :=
  let v488 : Index := Scalar.indexCast v339
  let c0_195 : Index := 0#32
  ![v488.toNat, 0]
def k0_cond46 (v339 : BitVec 32) (v341 : BitVec 32) : BitVec 1 :=
  let v342 : BitVec 1 := Scalar.cmpi .eq v339 v341
  let v343 : BitVec 32 := Scalar.extui v342
  let c0_i32_137 : BitVec 32 := 0#32
  let v344 : BitVec 1 := Scalar.cmpi .ne v343 c0_i32_137
  v344

@[reducible] def k0_t45_loop (v339 : BitVec 32) (v341 : BitVec 32) : Scf.Loop 32 :=
  let c1_i32_195 : BitVec 32 := 1#32
  let v486 : BitVec 32 := Scalar.addi v341 c1_i32_195
  let v487 : BitVec 32 := Scalar.subi v486 v339
  let c1_i32_197 : BitVec 32 := 1#32
  let v489 : BitVec 32 := Scalar.divsi v487 c1_i32_197
  let v490 : BitVec 32 := Scalar.muli v489 c1_i32_197
  let v491 : BitVec 32 := Scalar.addi v339 v490
  let c1_i32_198 : BitVec 32 := 1#32
  ⟨v339, v491, c1_i32_198⟩
def k0_cond47 (v339 : BitVec 32) (v341 : BitVec 32) : BitVec 1 :=
  let v345 : BitVec 1 := Scalar.cmpi .ne v339 v341
  let v346 : BitVec 32 := Scalar.extui v345
  let c0_i32_138 : BitVec 32 := 0#32
  let v347 : BitVec 1 := Scalar.cmpi .ne v346 c0_i32_138
  v347

def k0_off91 (v339 : BitVec 32) (v341 : BitVec 32) (k0_t45 : Fin (k0_t45_loop v339 v341).trips) : Fin 2 → Nat :=
  let c1_i32_198 : BitVec 32 := 1#32
  let arg11 : BitVec 32 := Scf.iv v339 c1_i32_198 k0_t45
  let v502 : Index := Scalar.indexCast arg11
  let c0_201 : Index := 0#32
  ![v502.toNat, 0]
@[reducible] def k0_t46_loop (v339 : BitVec 32) (v341 : BitVec 32) : Scf.Loop 32 :=
  let c1_i32_195 : BitVec 32 := 1#32
  let v486 : BitVec 32 := Scalar.addi v341 c1_i32_195
  let v487 : BitVec 32 := Scalar.subi v486 v339
  let c1_i32_197 : BitVec 32 := 1#32
  let v489 : BitVec 32 := Scalar.divsi v487 c1_i32_197
  let v490 : BitVec 32 := Scalar.muli v489 c1_i32_197
  let v491 : BitVec 32 := Scalar.addi v339 v490
  let v488 : BitVec 32 := Scalar.addi v339 v487
  let c1_i32_199 : BitVec 32 := 1#32
  ⟨v491, v488, c1_i32_199⟩
def k0_off92 (v339 : BitVec 32) (v341 : BitVec 32) (k0_t46 : Fin (k0_t46_loop v339 v341).trips) : Fin 2 → Nat :=
  let c1_i32_195 : BitVec 32 := 1#32
  let v486 : BitVec 32 := Scalar.addi v341 c1_i32_195
  let v487 : BitVec 32 := Scalar.subi v486 v339
  let c1_i32_197 : BitVec 32 := 1#32
  let v489 : BitVec 32 := Scalar.divsi v487 c1_i32_197
  let v490 : BitVec 32 := Scalar.muli v489 c1_i32_197
  let v491 : BitVec 32 := Scalar.addi v339 v490
  let c1_i32_199 : BitVec 32 := 1#32
  let arg11 : BitVec 32 := Scf.iv v491 c1_i32_199 k0_t46
  let v502 : Index := Scalar.indexCast arg11
  let c0_201 : Index := 0#32
  ![v502.toNat, 0]

def k0_chk23 (v339 : BitVec 32) (v341 : BitVec 32) : Prop :=
  (∀ (k0_h46 : k0_cond46 v339 v341 = 1#1), ∀ a, (k0_off90 v339) a + S1x128.size a ≤ S128x128.size a) ∧
  (∀ (k0_h47 : k0_cond47 v339 v341 = 1#1), (k0_t45_loop v339 v341).OK) ∧
  (∀ k0_t45 : Fin (k0_t45_loop v339 v341).trips, ∀ (k0_h47 : k0_cond47 v339 v341 = 1#1), ∀ a, (k0_off91 v339 v341 k0_t45) a + S1x128.size a ≤ S128x128.size a) ∧
  (∀ (k0_h47 : k0_cond47 v339 v341 = 1#1), (k0_t46_loop v339 v341).OK) ∧
  (∀ k0_t46 : Fin (k0_t46_loop v339 v341).trips, ∀ (k0_h47 : k0_cond47 v339 v341 = 1#1), ∀ a, (k0_off92 v339 v341 k0_t46) a + S1x128.size a ≤ S128x128.size a)
theorem k0_off90_inb : ∀ (v339 : BitVec 32) (v341 : BitVec 32) (k0_hw23 : k0_chk23 v339 v341), ∀ (k0_h46 : k0_cond46 v339 v341 = 1#1), ∀ a, (k0_off90 v339) a + S1x128.size a ≤ S128x128.size a := fun v339 v341 k0_hw23 k0_h46 => k0_hw23.1 k0_h46
theorem k0_t45_ok : ∀ (v339 : BitVec 32) (v341 : BitVec 32) (k0_hw23 : k0_chk23 v339 v341), ∀ (k0_h47 : k0_cond47 v339 v341 = 1#1), (k0_t45_loop v339 v341).OK := fun v339 v341 k0_hw23 k0_h47 => k0_hw23.2.1 k0_h47
theorem k0_off91_inb : ∀ (v339 : BitVec 32) (v341 : BitVec 32) (k0_hw23 : k0_chk23 v339 v341) (k0_t45 : Fin (k0_t45_loop v339 v341).trips), ∀ (k0_h47 : k0_cond47 v339 v341 = 1#1), ∀ a, (k0_off91 v339 v341 k0_t45) a + S1x128.size a ≤ S128x128.size a := fun v339 v341 k0_hw23 k0_t45 k0_h47 => k0_hw23.2.2.1 k0_t45 k0_h47
theorem k0_t46_ok : ∀ (v339 : BitVec 32) (v341 : BitVec 32) (k0_hw23 : k0_chk23 v339 v341), ∀ (k0_h47 : k0_cond47 v339 v341 = 1#1), (k0_t46_loop v339 v341).OK := fun v339 v341 k0_hw23 k0_h47 => k0_hw23.2.2.2.1 k0_h47
theorem k0_off92_inb : ∀ (v339 : BitVec 32) (v341 : BitVec 32) (k0_hw23 : k0_chk23 v339 v341) (k0_t46 : Fin (k0_t46_loop v339 v341).trips), ∀ (k0_h47 : k0_cond47 v339 v341 = 1#1), ∀ a, (k0_off92 v339 v341 k0_t46) a + S1x128.size a ≤ S128x128.size a := fun v339 v341 k0_hw23 k0_t46 k0_h47 => k0_hw23.2.2.2.2 k0_t46 k0_h47

def k0_off93 (i : grid0.Coords) : Fin 1 → Nat :=
  let arg0 : BitVec 32 := BitVec.ofNat 32 (i 0).val
  let c32_i32_142 : BitVec 32 := 32#32
  let v351 : BitVec 32 := Scalar.muli arg0 c32_i32_142
  let c23_i32 : BitVec 32 := 23#32
  let v352 : BitVec 32 := Scalar.addi v351 c23_i32
  let v353 : Index := Scalar.indexCast v352
  ![v353.toNat]
def k0_off94 (v354 : BitVec 32) : Fin 2 → Nat :=
  let v488 : Index := Scalar.indexCast v354
  let c0_195 : Index := 0#32
  ![v488.toNat, 0]
def k0_cond48 (v354 : BitVec 32) (v356 : BitVec 32) : BitVec 1 :=
  let v357 : BitVec 1 := Scalar.cmpi .eq v354 v356
  let v358 : BitVec 32 := Scalar.extui v357
  let c0_i32_143 : BitVec 32 := 0#32
  let v359 : BitVec 1 := Scalar.cmpi .ne v358 c0_i32_143
  v359

@[reducible] def k0_t47_loop (v354 : BitVec 32) (v356 : BitVec 32) : Scf.Loop 32 :=
  let c1_i32_195 : BitVec 32 := 1#32
  let v486 : BitVec 32 := Scalar.addi v356 c1_i32_195
  let v487 : BitVec 32 := Scalar.subi v486 v354
  let c1_i32_197 : BitVec 32 := 1#32
  let v489 : BitVec 32 := Scalar.divsi v487 c1_i32_197
  let v490 : BitVec 32 := Scalar.muli v489 c1_i32_197
  let v491 : BitVec 32 := Scalar.addi v354 v490
  let c1_i32_198 : BitVec 32 := 1#32
  ⟨v354, v491, c1_i32_198⟩
def k0_cond49 (v354 : BitVec 32) (v356 : BitVec 32) : BitVec 1 :=
  let v360 : BitVec 1 := Scalar.cmpi .ne v354 v356
  let v361 : BitVec 32 := Scalar.extui v360
  let c0_i32_144 : BitVec 32 := 0#32
  let v362 : BitVec 1 := Scalar.cmpi .ne v361 c0_i32_144
  v362

def k0_off95 (v354 : BitVec 32) (v356 : BitVec 32) (k0_t47 : Fin (k0_t47_loop v354 v356).trips) : Fin 2 → Nat :=
  let c1_i32_198 : BitVec 32 := 1#32
  let arg11 : BitVec 32 := Scf.iv v354 c1_i32_198 k0_t47
  let v502 : Index := Scalar.indexCast arg11
  let c0_201 : Index := 0#32
  ![v502.toNat, 0]
@[reducible] def k0_t48_loop (v354 : BitVec 32) (v356 : BitVec 32) : Scf.Loop 32 :=
  let c1_i32_195 : BitVec 32 := 1#32
  let v486 : BitVec 32 := Scalar.addi v356 c1_i32_195
  let v487 : BitVec 32 := Scalar.subi v486 v354
  let c1_i32_197 : BitVec 32 := 1#32
  let v489 : BitVec 32 := Scalar.divsi v487 c1_i32_197
  let v490 : BitVec 32 := Scalar.muli v489 c1_i32_197
  let v491 : BitVec 32 := Scalar.addi v354 v490
  let v488 : BitVec 32 := Scalar.addi v354 v487
  let c1_i32_199 : BitVec 32 := 1#32
  ⟨v491, v488, c1_i32_199⟩
def k0_off96 (v354 : BitVec 32) (v356 : BitVec 32) (k0_t48 : Fin (k0_t48_loop v354 v356).trips) : Fin 2 → Nat :=
  let c1_i32_195 : BitVec 32 := 1#32
  let v486 : BitVec 32 := Scalar.addi v356 c1_i32_195
  let v487 : BitVec 32 := Scalar.subi v486 v354
  let c1_i32_197 : BitVec 32 := 1#32
  let v489 : BitVec 32 := Scalar.divsi v487 c1_i32_197
  let v490 : BitVec 32 := Scalar.muli v489 c1_i32_197
  let v491 : BitVec 32 := Scalar.addi v354 v490
  let c1_i32_199 : BitVec 32 := 1#32
  let arg11 : BitVec 32 := Scf.iv v491 c1_i32_199 k0_t48
  let v502 : Index := Scalar.indexCast arg11
  let c0_201 : Index := 0#32
  ![v502.toNat, 0]

def k0_chk24 (v354 : BitVec 32) (v356 : BitVec 32) : Prop :=
  (∀ (k0_h48 : k0_cond48 v354 v356 = 1#1), ∀ a, (k0_off94 v354) a + S1x128.size a ≤ S128x128.size a) ∧
  (∀ (k0_h49 : k0_cond49 v354 v356 = 1#1), (k0_t47_loop v354 v356).OK) ∧
  (∀ k0_t47 : Fin (k0_t47_loop v354 v356).trips, ∀ (k0_h49 : k0_cond49 v354 v356 = 1#1), ∀ a, (k0_off95 v354 v356 k0_t47) a + S1x128.size a ≤ S128x128.size a) ∧
  (∀ (k0_h49 : k0_cond49 v354 v356 = 1#1), (k0_t48_loop v354 v356).OK) ∧
  (∀ k0_t48 : Fin (k0_t48_loop v354 v356).trips, ∀ (k0_h49 : k0_cond49 v354 v356 = 1#1), ∀ a, (k0_off96 v354 v356 k0_t48) a + S1x128.size a ≤ S128x128.size a)
theorem k0_off94_inb : ∀ (v354 : BitVec 32) (v356 : BitVec 32) (k0_hw24 : k0_chk24 v354 v356), ∀ (k0_h48 : k0_cond48 v354 v356 = 1#1), ∀ a, (k0_off94 v354) a + S1x128.size a ≤ S128x128.size a := fun v354 v356 k0_hw24 k0_h48 => k0_hw24.1 k0_h48
theorem k0_t47_ok : ∀ (v354 : BitVec 32) (v356 : BitVec 32) (k0_hw24 : k0_chk24 v354 v356), ∀ (k0_h49 : k0_cond49 v354 v356 = 1#1), (k0_t47_loop v354 v356).OK := fun v354 v356 k0_hw24 k0_h49 => k0_hw24.2.1 k0_h49
theorem k0_off95_inb : ∀ (v354 : BitVec 32) (v356 : BitVec 32) (k0_hw24 : k0_chk24 v354 v356) (k0_t47 : Fin (k0_t47_loop v354 v356).trips), ∀ (k0_h49 : k0_cond49 v354 v356 = 1#1), ∀ a, (k0_off95 v354 v356 k0_t47) a + S1x128.size a ≤ S128x128.size a := fun v354 v356 k0_hw24 k0_t47 k0_h49 => k0_hw24.2.2.1 k0_t47 k0_h49
theorem k0_t48_ok : ∀ (v354 : BitVec 32) (v356 : BitVec 32) (k0_hw24 : k0_chk24 v354 v356), ∀ (k0_h49 : k0_cond49 v354 v356 = 1#1), (k0_t48_loop v354 v356).OK := fun v354 v356 k0_hw24 k0_h49 => k0_hw24.2.2.2.1 k0_h49
theorem k0_off96_inb : ∀ (v354 : BitVec 32) (v356 : BitVec 32) (k0_hw24 : k0_chk24 v354 v356) (k0_t48 : Fin (k0_t48_loop v354 v356).trips), ∀ (k0_h49 : k0_cond49 v354 v356 = 1#1), ∀ a, (k0_off96 v354 v356 k0_t48) a + S1x128.size a ≤ S128x128.size a := fun v354 v356 k0_hw24 k0_t48 k0_h49 => k0_hw24.2.2.2.2 k0_t48 k0_h49

def k0_off97 (i : grid0.Coords) : Fin 1 → Nat :=
  let arg0 : BitVec 32 := BitVec.ofNat 32 (i 0).val
  let c32_i32_148 : BitVec 32 := 32#32
  let v366 : BitVec 32 := Scalar.muli arg0 c32_i32_148
  let c24_i32 : BitVec 32 := 24#32
  let v367 : BitVec 32 := Scalar.addi v366 c24_i32
  let v368 : Index := Scalar.indexCast v367
  ![v368.toNat]
def k0_off98 (v369 : BitVec 32) : Fin 2 → Nat :=
  let v488 : Index := Scalar.indexCast v369
  let c0_195 : Index := 0#32
  ![v488.toNat, 0]
def k0_cond50 (v369 : BitVec 32) (v371 : BitVec 32) : BitVec 1 :=
  let v372 : BitVec 1 := Scalar.cmpi .eq v369 v371
  let v373 : BitVec 32 := Scalar.extui v372
  let c0_i32_149 : BitVec 32 := 0#32
  let v374 : BitVec 1 := Scalar.cmpi .ne v373 c0_i32_149
  v374

@[reducible] def k0_t49_loop (v369 : BitVec 32) (v371 : BitVec 32) : Scf.Loop 32 :=
  let c1_i32_195 : BitVec 32 := 1#32
  let v486 : BitVec 32 := Scalar.addi v371 c1_i32_195
  let v487 : BitVec 32 := Scalar.subi v486 v369
  let c1_i32_197 : BitVec 32 := 1#32
  let v489 : BitVec 32 := Scalar.divsi v487 c1_i32_197
  let v490 : BitVec 32 := Scalar.muli v489 c1_i32_197
  let v491 : BitVec 32 := Scalar.addi v369 v490
  let c1_i32_198 : BitVec 32 := 1#32
  ⟨v369, v491, c1_i32_198⟩
def k0_cond51 (v369 : BitVec 32) (v371 : BitVec 32) : BitVec 1 :=
  let v375 : BitVec 1 := Scalar.cmpi .ne v369 v371
  let v376 : BitVec 32 := Scalar.extui v375
  let c0_i32_150 : BitVec 32 := 0#32
  let v377 : BitVec 1 := Scalar.cmpi .ne v376 c0_i32_150
  v377

def k0_off99 (v369 : BitVec 32) (v371 : BitVec 32) (k0_t49 : Fin (k0_t49_loop v369 v371).trips) : Fin 2 → Nat :=
  let c1_i32_198 : BitVec 32 := 1#32
  let arg11 : BitVec 32 := Scf.iv v369 c1_i32_198 k0_t49
  let v502 : Index := Scalar.indexCast arg11
  let c0_201 : Index := 0#32
  ![v502.toNat, 0]
@[reducible] def k0_t50_loop (v369 : BitVec 32) (v371 : BitVec 32) : Scf.Loop 32 :=
  let c1_i32_195 : BitVec 32 := 1#32
  let v486 : BitVec 32 := Scalar.addi v371 c1_i32_195
  let v487 : BitVec 32 := Scalar.subi v486 v369
  let c1_i32_197 : BitVec 32 := 1#32
  let v489 : BitVec 32 := Scalar.divsi v487 c1_i32_197
  let v490 : BitVec 32 := Scalar.muli v489 c1_i32_197
  let v491 : BitVec 32 := Scalar.addi v369 v490
  let v488 : BitVec 32 := Scalar.addi v369 v487
  let c1_i32_199 : BitVec 32 := 1#32
  ⟨v491, v488, c1_i32_199⟩
def k0_off100 (v369 : BitVec 32) (v371 : BitVec 32) (k0_t50 : Fin (k0_t50_loop v369 v371).trips) : Fin 2 → Nat :=
  let c1_i32_195 : BitVec 32 := 1#32
  let v486 : BitVec 32 := Scalar.addi v371 c1_i32_195
  let v487 : BitVec 32 := Scalar.subi v486 v369
  let c1_i32_197 : BitVec 32 := 1#32
  let v489 : BitVec 32 := Scalar.divsi v487 c1_i32_197
  let v490 : BitVec 32 := Scalar.muli v489 c1_i32_197
  let v491 : BitVec 32 := Scalar.addi v369 v490
  let c1_i32_199 : BitVec 32 := 1#32
  let arg11 : BitVec 32 := Scf.iv v491 c1_i32_199 k0_t50
  let v502 : Index := Scalar.indexCast arg11
  let c0_201 : Index := 0#32
  ![v502.toNat, 0]

def k0_chk25 (v369 : BitVec 32) (v371 : BitVec 32) : Prop :=
  (∀ (k0_h50 : k0_cond50 v369 v371 = 1#1), ∀ a, (k0_off98 v369) a + S1x128.size a ≤ S128x128.size a) ∧
  (∀ (k0_h51 : k0_cond51 v369 v371 = 1#1), (k0_t49_loop v369 v371).OK) ∧
  (∀ k0_t49 : Fin (k0_t49_loop v369 v371).trips, ∀ (k0_h51 : k0_cond51 v369 v371 = 1#1), ∀ a, (k0_off99 v369 v371 k0_t49) a + S1x128.size a ≤ S128x128.size a) ∧
  (∀ (k0_h51 : k0_cond51 v369 v371 = 1#1), (k0_t50_loop v369 v371).OK) ∧
  (∀ k0_t50 : Fin (k0_t50_loop v369 v371).trips, ∀ (k0_h51 : k0_cond51 v369 v371 = 1#1), ∀ a, (k0_off100 v369 v371 k0_t50) a + S1x128.size a ≤ S128x128.size a)
theorem k0_off98_inb : ∀ (v369 : BitVec 32) (v371 : BitVec 32) (k0_hw25 : k0_chk25 v369 v371), ∀ (k0_h50 : k0_cond50 v369 v371 = 1#1), ∀ a, (k0_off98 v369) a + S1x128.size a ≤ S128x128.size a := fun v369 v371 k0_hw25 k0_h50 => k0_hw25.1 k0_h50
theorem k0_t49_ok : ∀ (v369 : BitVec 32) (v371 : BitVec 32) (k0_hw25 : k0_chk25 v369 v371), ∀ (k0_h51 : k0_cond51 v369 v371 = 1#1), (k0_t49_loop v369 v371).OK := fun v369 v371 k0_hw25 k0_h51 => k0_hw25.2.1 k0_h51
theorem k0_off99_inb : ∀ (v369 : BitVec 32) (v371 : BitVec 32) (k0_hw25 : k0_chk25 v369 v371) (k0_t49 : Fin (k0_t49_loop v369 v371).trips), ∀ (k0_h51 : k0_cond51 v369 v371 = 1#1), ∀ a, (k0_off99 v369 v371 k0_t49) a + S1x128.size a ≤ S128x128.size a := fun v369 v371 k0_hw25 k0_t49 k0_h51 => k0_hw25.2.2.1 k0_t49 k0_h51
theorem k0_t50_ok : ∀ (v369 : BitVec 32) (v371 : BitVec 32) (k0_hw25 : k0_chk25 v369 v371), ∀ (k0_h51 : k0_cond51 v369 v371 = 1#1), (k0_t50_loop v369 v371).OK := fun v369 v371 k0_hw25 k0_h51 => k0_hw25.2.2.2.1 k0_h51
theorem k0_off100_inb : ∀ (v369 : BitVec 32) (v371 : BitVec 32) (k0_hw25 : k0_chk25 v369 v371) (k0_t50 : Fin (k0_t50_loop v369 v371).trips), ∀ (k0_h51 : k0_cond51 v369 v371 = 1#1), ∀ a, (k0_off100 v369 v371 k0_t50) a + S1x128.size a ≤ S128x128.size a := fun v369 v371 k0_hw25 k0_t50 k0_h51 => k0_hw25.2.2.2.2 k0_t50 k0_h51

def k0_off101 (i : grid0.Coords) : Fin 1 → Nat :=
  let arg0 : BitVec 32 := BitVec.ofNat 32 (i 0).val
  let c32_i32_154 : BitVec 32 := 32#32
  let v381 : BitVec 32 := Scalar.muli arg0 c32_i32_154
  let c25_i32 : BitVec 32 := 25#32
  let v382 : BitVec 32 := Scalar.addi v381 c25_i32
  let v383 : Index := Scalar.indexCast v382
  ![v383.toNat]
def k0_off102 (v384 : BitVec 32) : Fin 2 → Nat :=
  let v488 : Index := Scalar.indexCast v384
  let c0_195 : Index := 0#32
  ![v488.toNat, 0]
def k0_cond52 (v384 : BitVec 32) (v386 : BitVec 32) : BitVec 1 :=
  let v387 : BitVec 1 := Scalar.cmpi .eq v384 v386
  let v388 : BitVec 32 := Scalar.extui v387
  let c0_i32_155 : BitVec 32 := 0#32
  let v389 : BitVec 1 := Scalar.cmpi .ne v388 c0_i32_155
  v389

@[reducible] def k0_t51_loop (v384 : BitVec 32) (v386 : BitVec 32) : Scf.Loop 32 :=
  let c1_i32_195 : BitVec 32 := 1#32
  let v486 : BitVec 32 := Scalar.addi v386 c1_i32_195
  let v487 : BitVec 32 := Scalar.subi v486 v384
  let c1_i32_197 : BitVec 32 := 1#32
  let v489 : BitVec 32 := Scalar.divsi v487 c1_i32_197
  let v490 : BitVec 32 := Scalar.muli v489 c1_i32_197
  let v491 : BitVec 32 := Scalar.addi v384 v490
  let c1_i32_198 : BitVec 32 := 1#32
  ⟨v384, v491, c1_i32_198⟩
def k0_cond53 (v384 : BitVec 32) (v386 : BitVec 32) : BitVec 1 :=
  let v390 : BitVec 1 := Scalar.cmpi .ne v384 v386
  let v391 : BitVec 32 := Scalar.extui v390
  let c0_i32_156 : BitVec 32 := 0#32
  let v392 : BitVec 1 := Scalar.cmpi .ne v391 c0_i32_156
  v392

def k0_off103 (v384 : BitVec 32) (v386 : BitVec 32) (k0_t51 : Fin (k0_t51_loop v384 v386).trips) : Fin 2 → Nat :=
  let c1_i32_198 : BitVec 32 := 1#32
  let arg11 : BitVec 32 := Scf.iv v384 c1_i32_198 k0_t51
  let v502 : Index := Scalar.indexCast arg11
  let c0_201 : Index := 0#32
  ![v502.toNat, 0]
@[reducible] def k0_t52_loop (v384 : BitVec 32) (v386 : BitVec 32) : Scf.Loop 32 :=
  let c1_i32_195 : BitVec 32 := 1#32
  let v486 : BitVec 32 := Scalar.addi v386 c1_i32_195
  let v487 : BitVec 32 := Scalar.subi v486 v384
  let c1_i32_197 : BitVec 32 := 1#32
  let v489 : BitVec 32 := Scalar.divsi v487 c1_i32_197
  let v490 : BitVec 32 := Scalar.muli v489 c1_i32_197
  let v491 : BitVec 32 := Scalar.addi v384 v490
  let v488 : BitVec 32 := Scalar.addi v384 v487
  let c1_i32_199 : BitVec 32 := 1#32
  ⟨v491, v488, c1_i32_199⟩
def k0_off104 (v384 : BitVec 32) (v386 : BitVec 32) (k0_t52 : Fin (k0_t52_loop v384 v386).trips) : Fin 2 → Nat :=
  let c1_i32_195 : BitVec 32 := 1#32
  let v486 : BitVec 32 := Scalar.addi v386 c1_i32_195
  let v487 : BitVec 32 := Scalar.subi v486 v384
  let c1_i32_197 : BitVec 32 := 1#32
  let v489 : BitVec 32 := Scalar.divsi v487 c1_i32_197
  let v490 : BitVec 32 := Scalar.muli v489 c1_i32_197
  let v491 : BitVec 32 := Scalar.addi v384 v490
  let c1_i32_199 : BitVec 32 := 1#32
  let arg11 : BitVec 32 := Scf.iv v491 c1_i32_199 k0_t52
  let v502 : Index := Scalar.indexCast arg11
  let c0_201 : Index := 0#32
  ![v502.toNat, 0]

def k0_chk26 (v384 : BitVec 32) (v386 : BitVec 32) : Prop :=
  (∀ (k0_h52 : k0_cond52 v384 v386 = 1#1), ∀ a, (k0_off102 v384) a + S1x128.size a ≤ S128x128.size a) ∧
  (∀ (k0_h53 : k0_cond53 v384 v386 = 1#1), (k0_t51_loop v384 v386).OK) ∧
  (∀ k0_t51 : Fin (k0_t51_loop v384 v386).trips, ∀ (k0_h53 : k0_cond53 v384 v386 = 1#1), ∀ a, (k0_off103 v384 v386 k0_t51) a + S1x128.size a ≤ S128x128.size a) ∧
  (∀ (k0_h53 : k0_cond53 v384 v386 = 1#1), (k0_t52_loop v384 v386).OK) ∧
  (∀ k0_t52 : Fin (k0_t52_loop v384 v386).trips, ∀ (k0_h53 : k0_cond53 v384 v386 = 1#1), ∀ a, (k0_off104 v384 v386 k0_t52) a + S1x128.size a ≤ S128x128.size a)
theorem k0_off102_inb : ∀ (v384 : BitVec 32) (v386 : BitVec 32) (k0_hw26 : k0_chk26 v384 v386), ∀ (k0_h52 : k0_cond52 v384 v386 = 1#1), ∀ a, (k0_off102 v384) a + S1x128.size a ≤ S128x128.size a := fun v384 v386 k0_hw26 k0_h52 => k0_hw26.1 k0_h52
theorem k0_t51_ok : ∀ (v384 : BitVec 32) (v386 : BitVec 32) (k0_hw26 : k0_chk26 v384 v386), ∀ (k0_h53 : k0_cond53 v384 v386 = 1#1), (k0_t51_loop v384 v386).OK := fun v384 v386 k0_hw26 k0_h53 => k0_hw26.2.1 k0_h53
theorem k0_off103_inb : ∀ (v384 : BitVec 32) (v386 : BitVec 32) (k0_hw26 : k0_chk26 v384 v386) (k0_t51 : Fin (k0_t51_loop v384 v386).trips), ∀ (k0_h53 : k0_cond53 v384 v386 = 1#1), ∀ a, (k0_off103 v384 v386 k0_t51) a + S1x128.size a ≤ S128x128.size a := fun v384 v386 k0_hw26 k0_t51 k0_h53 => k0_hw26.2.2.1 k0_t51 k0_h53
theorem k0_t52_ok : ∀ (v384 : BitVec 32) (v386 : BitVec 32) (k0_hw26 : k0_chk26 v384 v386), ∀ (k0_h53 : k0_cond53 v384 v386 = 1#1), (k0_t52_loop v384 v386).OK := fun v384 v386 k0_hw26 k0_h53 => k0_hw26.2.2.2.1 k0_h53
theorem k0_off104_inb : ∀ (v384 : BitVec 32) (v386 : BitVec 32) (k0_hw26 : k0_chk26 v384 v386) (k0_t52 : Fin (k0_t52_loop v384 v386).trips), ∀ (k0_h53 : k0_cond53 v384 v386 = 1#1), ∀ a, (k0_off104 v384 v386 k0_t52) a + S1x128.size a ≤ S128x128.size a := fun v384 v386 k0_hw26 k0_t52 k0_h53 => k0_hw26.2.2.2.2 k0_t52 k0_h53

def k0_off105 (i : grid0.Coords) : Fin 1 → Nat :=
  let arg0 : BitVec 32 := BitVec.ofNat 32 (i 0).val
  let c32_i32_160 : BitVec 32 := 32#32
  let v396 : BitVec 32 := Scalar.muli arg0 c32_i32_160
  let c26_i32 : BitVec 32 := 26#32
  let v397 : BitVec 32 := Scalar.addi v396 c26_i32
  let v398 : Index := Scalar.indexCast v397
  ![v398.toNat]
def k0_off106 (v399 : BitVec 32) : Fin 2 → Nat :=
  let v488 : Index := Scalar.indexCast v399
  let c0_195 : Index := 0#32
  ![v488.toNat, 0]
def k0_cond54 (v399 : BitVec 32) (v401 : BitVec 32) : BitVec 1 :=
  let v402 : BitVec 1 := Scalar.cmpi .eq v399 v401
  let v403 : BitVec 32 := Scalar.extui v402
  let c0_i32_161 : BitVec 32 := 0#32
  let v404 : BitVec 1 := Scalar.cmpi .ne v403 c0_i32_161
  v404

@[reducible] def k0_t53_loop (v399 : BitVec 32) (v401 : BitVec 32) : Scf.Loop 32 :=
  let c1_i32_195 : BitVec 32 := 1#32
  let v486 : BitVec 32 := Scalar.addi v401 c1_i32_195
  let v487 : BitVec 32 := Scalar.subi v486 v399
  let c1_i32_197 : BitVec 32 := 1#32
  let v489 : BitVec 32 := Scalar.divsi v487 c1_i32_197
  let v490 : BitVec 32 := Scalar.muli v489 c1_i32_197
  let v491 : BitVec 32 := Scalar.addi v399 v490
  let c1_i32_198 : BitVec 32 := 1#32
  ⟨v399, v491, c1_i32_198⟩
def k0_cond55 (v399 : BitVec 32) (v401 : BitVec 32) : BitVec 1 :=
  let v405 : BitVec 1 := Scalar.cmpi .ne v399 v401
  let v406 : BitVec 32 := Scalar.extui v405
  let c0_i32_162 : BitVec 32 := 0#32
  let v407 : BitVec 1 := Scalar.cmpi .ne v406 c0_i32_162
  v407

def k0_off107 (v399 : BitVec 32) (v401 : BitVec 32) (k0_t53 : Fin (k0_t53_loop v399 v401).trips) : Fin 2 → Nat :=
  let c1_i32_198 : BitVec 32 := 1#32
  let arg11 : BitVec 32 := Scf.iv v399 c1_i32_198 k0_t53
  let v502 : Index := Scalar.indexCast arg11
  let c0_201 : Index := 0#32
  ![v502.toNat, 0]
@[reducible] def k0_t54_loop (v399 : BitVec 32) (v401 : BitVec 32) : Scf.Loop 32 :=
  let c1_i32_195 : BitVec 32 := 1#32
  let v486 : BitVec 32 := Scalar.addi v401 c1_i32_195
  let v487 : BitVec 32 := Scalar.subi v486 v399
  let c1_i32_197 : BitVec 32 := 1#32
  let v489 : BitVec 32 := Scalar.divsi v487 c1_i32_197
  let v490 : BitVec 32 := Scalar.muli v489 c1_i32_197
  let v491 : BitVec 32 := Scalar.addi v399 v490
  let v488 : BitVec 32 := Scalar.addi v399 v487
  let c1_i32_199 : BitVec 32 := 1#32
  ⟨v491, v488, c1_i32_199⟩
def k0_off108 (v399 : BitVec 32) (v401 : BitVec 32) (k0_t54 : Fin (k0_t54_loop v399 v401).trips) : Fin 2 → Nat :=
  let c1_i32_195 : BitVec 32 := 1#32
  let v486 : BitVec 32 := Scalar.addi v401 c1_i32_195
  let v487 : BitVec 32 := Scalar.subi v486 v399
  let c1_i32_197 : BitVec 32 := 1#32
  let v489 : BitVec 32 := Scalar.divsi v487 c1_i32_197
  let v490 : BitVec 32 := Scalar.muli v489 c1_i32_197
  let v491 : BitVec 32 := Scalar.addi v399 v490
  let c1_i32_199 : BitVec 32 := 1#32
  let arg11 : BitVec 32 := Scf.iv v491 c1_i32_199 k0_t54
  let v502 : Index := Scalar.indexCast arg11
  let c0_201 : Index := 0#32
  ![v502.toNat, 0]

def k0_chk27 (v399 : BitVec 32) (v401 : BitVec 32) : Prop :=
  (∀ (k0_h54 : k0_cond54 v399 v401 = 1#1), ∀ a, (k0_off106 v399) a + S1x128.size a ≤ S128x128.size a) ∧
  (∀ (k0_h55 : k0_cond55 v399 v401 = 1#1), (k0_t53_loop v399 v401).OK) ∧
  (∀ k0_t53 : Fin (k0_t53_loop v399 v401).trips, ∀ (k0_h55 : k0_cond55 v399 v401 = 1#1), ∀ a, (k0_off107 v399 v401 k0_t53) a + S1x128.size a ≤ S128x128.size a) ∧
  (∀ (k0_h55 : k0_cond55 v399 v401 = 1#1), (k0_t54_loop v399 v401).OK) ∧
  (∀ k0_t54 : Fin (k0_t54_loop v399 v401).trips, ∀ (k0_h55 : k0_cond55 v399 v401 = 1#1), ∀ a, (k0_off108 v399 v401 k0_t54) a + S1x128.size a ≤ S128x128.size a)
theorem k0_off106_inb : ∀ (v399 : BitVec 32) (v401 : BitVec 32) (k0_hw27 : k0_chk27 v399 v401), ∀ (k0_h54 : k0_cond54 v399 v401 = 1#1), ∀ a, (k0_off106 v399) a + S1x128.size a ≤ S128x128.size a := fun v399 v401 k0_hw27 k0_h54 => k0_hw27.1 k0_h54
theorem k0_t53_ok : ∀ (v399 : BitVec 32) (v401 : BitVec 32) (k0_hw27 : k0_chk27 v399 v401), ∀ (k0_h55 : k0_cond55 v399 v401 = 1#1), (k0_t53_loop v399 v401).OK := fun v399 v401 k0_hw27 k0_h55 => k0_hw27.2.1 k0_h55
theorem k0_off107_inb : ∀ (v399 : BitVec 32) (v401 : BitVec 32) (k0_hw27 : k0_chk27 v399 v401) (k0_t53 : Fin (k0_t53_loop v399 v401).trips), ∀ (k0_h55 : k0_cond55 v399 v401 = 1#1), ∀ a, (k0_off107 v399 v401 k0_t53) a + S1x128.size a ≤ S128x128.size a := fun v399 v401 k0_hw27 k0_t53 k0_h55 => k0_hw27.2.2.1 k0_t53 k0_h55
theorem k0_t54_ok : ∀ (v399 : BitVec 32) (v401 : BitVec 32) (k0_hw27 : k0_chk27 v399 v401), ∀ (k0_h55 : k0_cond55 v399 v401 = 1#1), (k0_t54_loop v399 v401).OK := fun v399 v401 k0_hw27 k0_h55 => k0_hw27.2.2.2.1 k0_h55
theorem k0_off108_inb : ∀ (v399 : BitVec 32) (v401 : BitVec 32) (k0_hw27 : k0_chk27 v399 v401) (k0_t54 : Fin (k0_t54_loop v399 v401).trips), ∀ (k0_h55 : k0_cond55 v399 v401 = 1#1), ∀ a, (k0_off108 v399 v401 k0_t54) a + S1x128.size a ≤ S128x128.size a := fun v399 v401 k0_hw27 k0_t54 k0_h55 => k0_hw27.2.2.2.2 k0_t54 k0_h55

def k0_off109 (i : grid0.Coords) : Fin 1 → Nat :=
  let arg0 : BitVec 32 := BitVec.ofNat 32 (i 0).val
  let c32_i32_166 : BitVec 32 := 32#32
  let v411 : BitVec 32 := Scalar.muli arg0 c32_i32_166
  let c27_i32 : BitVec 32 := 27#32
  let v412 : BitVec 32 := Scalar.addi v411 c27_i32
  let v413 : Index := Scalar.indexCast v412
  ![v413.toNat]
def k0_off110 (v414 : BitVec 32) : Fin 2 → Nat :=
  let v488 : Index := Scalar.indexCast v414
  let c0_195 : Index := 0#32
  ![v488.toNat, 0]
def k0_cond56 (v414 : BitVec 32) (v416 : BitVec 32) : BitVec 1 :=
  let v417 : BitVec 1 := Scalar.cmpi .eq v414 v416
  let v418 : BitVec 32 := Scalar.extui v417
  let c0_i32_167 : BitVec 32 := 0#32
  let v419 : BitVec 1 := Scalar.cmpi .ne v418 c0_i32_167
  v419

@[reducible] def k0_t55_loop (v414 : BitVec 32) (v416 : BitVec 32) : Scf.Loop 32 :=
  let c1_i32_195 : BitVec 32 := 1#32
  let v486 : BitVec 32 := Scalar.addi v416 c1_i32_195
  let v487 : BitVec 32 := Scalar.subi v486 v414
  let c1_i32_197 : BitVec 32 := 1#32
  let v489 : BitVec 32 := Scalar.divsi v487 c1_i32_197
  let v490 : BitVec 32 := Scalar.muli v489 c1_i32_197
  let v491 : BitVec 32 := Scalar.addi v414 v490
  let c1_i32_198 : BitVec 32 := 1#32
  ⟨v414, v491, c1_i32_198⟩
def k0_cond57 (v414 : BitVec 32) (v416 : BitVec 32) : BitVec 1 :=
  let v420 : BitVec 1 := Scalar.cmpi .ne v414 v416
  let v421 : BitVec 32 := Scalar.extui v420
  let c0_i32_168 : BitVec 32 := 0#32
  let v422 : BitVec 1 := Scalar.cmpi .ne v421 c0_i32_168
  v422

def k0_off111 (v414 : BitVec 32) (v416 : BitVec 32) (k0_t55 : Fin (k0_t55_loop v414 v416).trips) : Fin 2 → Nat :=
  let c1_i32_198 : BitVec 32 := 1#32
  let arg11 : BitVec 32 := Scf.iv v414 c1_i32_198 k0_t55
  let v502 : Index := Scalar.indexCast arg11
  let c0_201 : Index := 0#32
  ![v502.toNat, 0]
@[reducible] def k0_t56_loop (v414 : BitVec 32) (v416 : BitVec 32) : Scf.Loop 32 :=
  let c1_i32_195 : BitVec 32 := 1#32
  let v486 : BitVec 32 := Scalar.addi v416 c1_i32_195
  let v487 : BitVec 32 := Scalar.subi v486 v414
  let c1_i32_197 : BitVec 32 := 1#32
  let v489 : BitVec 32 := Scalar.divsi v487 c1_i32_197
  let v490 : BitVec 32 := Scalar.muli v489 c1_i32_197
  let v491 : BitVec 32 := Scalar.addi v414 v490
  let v488 : BitVec 32 := Scalar.addi v414 v487
  let c1_i32_199 : BitVec 32 := 1#32
  ⟨v491, v488, c1_i32_199⟩
def k0_off112 (v414 : BitVec 32) (v416 : BitVec 32) (k0_t56 : Fin (k0_t56_loop v414 v416).trips) : Fin 2 → Nat :=
  let c1_i32_195 : BitVec 32 := 1#32
  let v486 : BitVec 32 := Scalar.addi v416 c1_i32_195
  let v487 : BitVec 32 := Scalar.subi v486 v414
  let c1_i32_197 : BitVec 32 := 1#32
  let v489 : BitVec 32 := Scalar.divsi v487 c1_i32_197
  let v490 : BitVec 32 := Scalar.muli v489 c1_i32_197
  let v491 : BitVec 32 := Scalar.addi v414 v490
  let c1_i32_199 : BitVec 32 := 1#32
  let arg11 : BitVec 32 := Scf.iv v491 c1_i32_199 k0_t56
  let v502 : Index := Scalar.indexCast arg11
  let c0_201 : Index := 0#32
  ![v502.toNat, 0]

def k0_chk28 (v414 : BitVec 32) (v416 : BitVec 32) : Prop :=
  (∀ (k0_h56 : k0_cond56 v414 v416 = 1#1), ∀ a, (k0_off110 v414) a + S1x128.size a ≤ S128x128.size a) ∧
  (∀ (k0_h57 : k0_cond57 v414 v416 = 1#1), (k0_t55_loop v414 v416).OK) ∧
  (∀ k0_t55 : Fin (k0_t55_loop v414 v416).trips, ∀ (k0_h57 : k0_cond57 v414 v416 = 1#1), ∀ a, (k0_off111 v414 v416 k0_t55) a + S1x128.size a ≤ S128x128.size a) ∧
  (∀ (k0_h57 : k0_cond57 v414 v416 = 1#1), (k0_t56_loop v414 v416).OK) ∧
  (∀ k0_t56 : Fin (k0_t56_loop v414 v416).trips, ∀ (k0_h57 : k0_cond57 v414 v416 = 1#1), ∀ a, (k0_off112 v414 v416 k0_t56) a + S1x128.size a ≤ S128x128.size a)
theorem k0_off110_inb : ∀ (v414 : BitVec 32) (v416 : BitVec 32) (k0_hw28 : k0_chk28 v414 v416), ∀ (k0_h56 : k0_cond56 v414 v416 = 1#1), ∀ a, (k0_off110 v414) a + S1x128.size a ≤ S128x128.size a := fun v414 v416 k0_hw28 k0_h56 => k0_hw28.1 k0_h56
theorem k0_t55_ok : ∀ (v414 : BitVec 32) (v416 : BitVec 32) (k0_hw28 : k0_chk28 v414 v416), ∀ (k0_h57 : k0_cond57 v414 v416 = 1#1), (k0_t55_loop v414 v416).OK := fun v414 v416 k0_hw28 k0_h57 => k0_hw28.2.1 k0_h57
theorem k0_off111_inb : ∀ (v414 : BitVec 32) (v416 : BitVec 32) (k0_hw28 : k0_chk28 v414 v416) (k0_t55 : Fin (k0_t55_loop v414 v416).trips), ∀ (k0_h57 : k0_cond57 v414 v416 = 1#1), ∀ a, (k0_off111 v414 v416 k0_t55) a + S1x128.size a ≤ S128x128.size a := fun v414 v416 k0_hw28 k0_t55 k0_h57 => k0_hw28.2.2.1 k0_t55 k0_h57
theorem k0_t56_ok : ∀ (v414 : BitVec 32) (v416 : BitVec 32) (k0_hw28 : k0_chk28 v414 v416), ∀ (k0_h57 : k0_cond57 v414 v416 = 1#1), (k0_t56_loop v414 v416).OK := fun v414 v416 k0_hw28 k0_h57 => k0_hw28.2.2.2.1 k0_h57
theorem k0_off112_inb : ∀ (v414 : BitVec 32) (v416 : BitVec 32) (k0_hw28 : k0_chk28 v414 v416) (k0_t56 : Fin (k0_t56_loop v414 v416).trips), ∀ (k0_h57 : k0_cond57 v414 v416 = 1#1), ∀ a, (k0_off112 v414 v416 k0_t56) a + S1x128.size a ≤ S128x128.size a := fun v414 v416 k0_hw28 k0_t56 k0_h57 => k0_hw28.2.2.2.2 k0_t56 k0_h57

def k0_off113 (i : grid0.Coords) : Fin 1 → Nat :=
  let arg0 : BitVec 32 := BitVec.ofNat 32 (i 0).val
  let c32_i32_172 : BitVec 32 := 32#32
  let v426 : BitVec 32 := Scalar.muli arg0 c32_i32_172
  let c28_i32 : BitVec 32 := 28#32
  let v427 : BitVec 32 := Scalar.addi v426 c28_i32
  let v428 : Index := Scalar.indexCast v427
  ![v428.toNat]
def k0_off114 (v429 : BitVec 32) : Fin 2 → Nat :=
  let v488 : Index := Scalar.indexCast v429
  let c0_195 : Index := 0#32
  ![v488.toNat, 0]
def k0_cond58 (v429 : BitVec 32) (v431 : BitVec 32) : BitVec 1 :=
  let v432 : BitVec 1 := Scalar.cmpi .eq v429 v431
  let v433 : BitVec 32 := Scalar.extui v432
  let c0_i32_173 : BitVec 32 := 0#32
  let v434 : BitVec 1 := Scalar.cmpi .ne v433 c0_i32_173
  v434

@[reducible] def k0_t57_loop (v429 : BitVec 32) (v431 : BitVec 32) : Scf.Loop 32 :=
  let c1_i32_195 : BitVec 32 := 1#32
  let v486 : BitVec 32 := Scalar.addi v431 c1_i32_195
  let v487 : BitVec 32 := Scalar.subi v486 v429
  let c1_i32_197 : BitVec 32 := 1#32
  let v489 : BitVec 32 := Scalar.divsi v487 c1_i32_197
  let v490 : BitVec 32 := Scalar.muli v489 c1_i32_197
  let v491 : BitVec 32 := Scalar.addi v429 v490
  let c1_i32_198 : BitVec 32 := 1#32
  ⟨v429, v491, c1_i32_198⟩
def k0_cond59 (v429 : BitVec 32) (v431 : BitVec 32) : BitVec 1 :=
  let v435 : BitVec 1 := Scalar.cmpi .ne v429 v431
  let v436 : BitVec 32 := Scalar.extui v435
  let c0_i32_174 : BitVec 32 := 0#32
  let v437 : BitVec 1 := Scalar.cmpi .ne v436 c0_i32_174
  v437

def k0_off115 (v429 : BitVec 32) (v431 : BitVec 32) (k0_t57 : Fin (k0_t57_loop v429 v431).trips) : Fin 2 → Nat :=
  let c1_i32_198 : BitVec 32 := 1#32
  let arg11 : BitVec 32 := Scf.iv v429 c1_i32_198 k0_t57
  let v502 : Index := Scalar.indexCast arg11
  let c0_201 : Index := 0#32
  ![v502.toNat, 0]
@[reducible] def k0_t58_loop (v429 : BitVec 32) (v431 : BitVec 32) : Scf.Loop 32 :=
  let c1_i32_195 : BitVec 32 := 1#32
  let v486 : BitVec 32 := Scalar.addi v431 c1_i32_195
  let v487 : BitVec 32 := Scalar.subi v486 v429
  let c1_i32_197 : BitVec 32 := 1#32
  let v489 : BitVec 32 := Scalar.divsi v487 c1_i32_197
  let v490 : BitVec 32 := Scalar.muli v489 c1_i32_197
  let v491 : BitVec 32 := Scalar.addi v429 v490
  let v488 : BitVec 32 := Scalar.addi v429 v487
  let c1_i32_199 : BitVec 32 := 1#32
  ⟨v491, v488, c1_i32_199⟩
def k0_off116 (v429 : BitVec 32) (v431 : BitVec 32) (k0_t58 : Fin (k0_t58_loop v429 v431).trips) : Fin 2 → Nat :=
  let c1_i32_195 : BitVec 32 := 1#32
  let v486 : BitVec 32 := Scalar.addi v431 c1_i32_195
  let v487 : BitVec 32 := Scalar.subi v486 v429
  let c1_i32_197 : BitVec 32 := 1#32
  let v489 : BitVec 32 := Scalar.divsi v487 c1_i32_197
  let v490 : BitVec 32 := Scalar.muli v489 c1_i32_197
  let v491 : BitVec 32 := Scalar.addi v429 v490
  let c1_i32_199 : BitVec 32 := 1#32
  let arg11 : BitVec 32 := Scf.iv v491 c1_i32_199 k0_t58
  let v502 : Index := Scalar.indexCast arg11
  let c0_201 : Index := 0#32
  ![v502.toNat, 0]

def k0_chk29 (v429 : BitVec 32) (v431 : BitVec 32) : Prop :=
  (∀ (k0_h58 : k0_cond58 v429 v431 = 1#1), ∀ a, (k0_off114 v429) a + S1x128.size a ≤ S128x128.size a) ∧
  (∀ (k0_h59 : k0_cond59 v429 v431 = 1#1), (k0_t57_loop v429 v431).OK) ∧
  (∀ k0_t57 : Fin (k0_t57_loop v429 v431).trips, ∀ (k0_h59 : k0_cond59 v429 v431 = 1#1), ∀ a, (k0_off115 v429 v431 k0_t57) a + S1x128.size a ≤ S128x128.size a) ∧
  (∀ (k0_h59 : k0_cond59 v429 v431 = 1#1), (k0_t58_loop v429 v431).OK) ∧
  (∀ k0_t58 : Fin (k0_t58_loop v429 v431).trips, ∀ (k0_h59 : k0_cond59 v429 v431 = 1#1), ∀ a, (k0_off116 v429 v431 k0_t58) a + S1x128.size a ≤ S128x128.size a)
theorem k0_off114_inb : ∀ (v429 : BitVec 32) (v431 : BitVec 32) (k0_hw29 : k0_chk29 v429 v431), ∀ (k0_h58 : k0_cond58 v429 v431 = 1#1), ∀ a, (k0_off114 v429) a + S1x128.size a ≤ S128x128.size a := fun v429 v431 k0_hw29 k0_h58 => k0_hw29.1 k0_h58
theorem k0_t57_ok : ∀ (v429 : BitVec 32) (v431 : BitVec 32) (k0_hw29 : k0_chk29 v429 v431), ∀ (k0_h59 : k0_cond59 v429 v431 = 1#1), (k0_t57_loop v429 v431).OK := fun v429 v431 k0_hw29 k0_h59 => k0_hw29.2.1 k0_h59
theorem k0_off115_inb : ∀ (v429 : BitVec 32) (v431 : BitVec 32) (k0_hw29 : k0_chk29 v429 v431) (k0_t57 : Fin (k0_t57_loop v429 v431).trips), ∀ (k0_h59 : k0_cond59 v429 v431 = 1#1), ∀ a, (k0_off115 v429 v431 k0_t57) a + S1x128.size a ≤ S128x128.size a := fun v429 v431 k0_hw29 k0_t57 k0_h59 => k0_hw29.2.2.1 k0_t57 k0_h59
theorem k0_t58_ok : ∀ (v429 : BitVec 32) (v431 : BitVec 32) (k0_hw29 : k0_chk29 v429 v431), ∀ (k0_h59 : k0_cond59 v429 v431 = 1#1), (k0_t58_loop v429 v431).OK := fun v429 v431 k0_hw29 k0_h59 => k0_hw29.2.2.2.1 k0_h59
theorem k0_off116_inb : ∀ (v429 : BitVec 32) (v431 : BitVec 32) (k0_hw29 : k0_chk29 v429 v431) (k0_t58 : Fin (k0_t58_loop v429 v431).trips), ∀ (k0_h59 : k0_cond59 v429 v431 = 1#1), ∀ a, (k0_off116 v429 v431 k0_t58) a + S1x128.size a ≤ S128x128.size a := fun v429 v431 k0_hw29 k0_t58 k0_h59 => k0_hw29.2.2.2.2 k0_t58 k0_h59

def k0_off117 (i : grid0.Coords) : Fin 1 → Nat :=
  let arg0 : BitVec 32 := BitVec.ofNat 32 (i 0).val
  let c32_i32_178 : BitVec 32 := 32#32
  let v441 : BitVec 32 := Scalar.muli arg0 c32_i32_178
  let c29_i32 : BitVec 32 := 29#32
  let v442 : BitVec 32 := Scalar.addi v441 c29_i32
  let v443 : Index := Scalar.indexCast v442
  ![v443.toNat]
def k0_off118 (v444 : BitVec 32) : Fin 2 → Nat :=
  let v488 : Index := Scalar.indexCast v444
  let c0_195 : Index := 0#32
  ![v488.toNat, 0]
def k0_cond60 (v444 : BitVec 32) (v446 : BitVec 32) : BitVec 1 :=
  let v447 : BitVec 1 := Scalar.cmpi .eq v444 v446
  let v448 : BitVec 32 := Scalar.extui v447
  let c0_i32_179 : BitVec 32 := 0#32
  let v449 : BitVec 1 := Scalar.cmpi .ne v448 c0_i32_179
  v449

@[reducible] def k0_t59_loop (v444 : BitVec 32) (v446 : BitVec 32) : Scf.Loop 32 :=
  let c1_i32_195 : BitVec 32 := 1#32
  let v486 : BitVec 32 := Scalar.addi v446 c1_i32_195
  let v487 : BitVec 32 := Scalar.subi v486 v444
  let c1_i32_197 : BitVec 32 := 1#32
  let v489 : BitVec 32 := Scalar.divsi v487 c1_i32_197
  let v490 : BitVec 32 := Scalar.muli v489 c1_i32_197
  let v491 : BitVec 32 := Scalar.addi v444 v490
  let c1_i32_198 : BitVec 32 := 1#32
  ⟨v444, v491, c1_i32_198⟩
def k0_cond61 (v444 : BitVec 32) (v446 : BitVec 32) : BitVec 1 :=
  let v450 : BitVec 1 := Scalar.cmpi .ne v444 v446
  let v451 : BitVec 32 := Scalar.extui v450
  let c0_i32_180 : BitVec 32 := 0#32
  let v452 : BitVec 1 := Scalar.cmpi .ne v451 c0_i32_180
  v452

def k0_off119 (v444 : BitVec 32) (v446 : BitVec 32) (k0_t59 : Fin (k0_t59_loop v444 v446).trips) : Fin 2 → Nat :=
  let c1_i32_198 : BitVec 32 := 1#32
  let arg11 : BitVec 32 := Scf.iv v444 c1_i32_198 k0_t59
  let v502 : Index := Scalar.indexCast arg11
  let c0_201 : Index := 0#32
  ![v502.toNat, 0]
@[reducible] def k0_t60_loop (v444 : BitVec 32) (v446 : BitVec 32) : Scf.Loop 32 :=
  let c1_i32_195 : BitVec 32 := 1#32
  let v486 : BitVec 32 := Scalar.addi v446 c1_i32_195
  let v487 : BitVec 32 := Scalar.subi v486 v444
  let c1_i32_197 : BitVec 32 := 1#32
  let v489 : BitVec 32 := Scalar.divsi v487 c1_i32_197
  let v490 : BitVec 32 := Scalar.muli v489 c1_i32_197
  let v491 : BitVec 32 := Scalar.addi v444 v490
  let v488 : BitVec 32 := Scalar.addi v444 v487
  let c1_i32_199 : BitVec 32 := 1#32
  ⟨v491, v488, c1_i32_199⟩
def k0_off120 (v444 : BitVec 32) (v446 : BitVec 32) (k0_t60 : Fin (k0_t60_loop v444 v446).trips) : Fin 2 → Nat :=
  let c1_i32_195 : BitVec 32 := 1#32
  let v486 : BitVec 32 := Scalar.addi v446 c1_i32_195
  let v487 : BitVec 32 := Scalar.subi v486 v444
  let c1_i32_197 : BitVec 32 := 1#32
  let v489 : BitVec 32 := Scalar.divsi v487 c1_i32_197
  let v490 : BitVec 32 := Scalar.muli v489 c1_i32_197
  let v491 : BitVec 32 := Scalar.addi v444 v490
  let c1_i32_199 : BitVec 32 := 1#32
  let arg11 : BitVec 32 := Scf.iv v491 c1_i32_199 k0_t60
  let v502 : Index := Scalar.indexCast arg11
  let c0_201 : Index := 0#32
  ![v502.toNat, 0]

def k0_chk30 (v444 : BitVec 32) (v446 : BitVec 32) : Prop :=
  (∀ (k0_h60 : k0_cond60 v444 v446 = 1#1), ∀ a, (k0_off118 v444) a + S1x128.size a ≤ S128x128.size a) ∧
  (∀ (k0_h61 : k0_cond61 v444 v446 = 1#1), (k0_t59_loop v444 v446).OK) ∧
  (∀ k0_t59 : Fin (k0_t59_loop v444 v446).trips, ∀ (k0_h61 : k0_cond61 v444 v446 = 1#1), ∀ a, (k0_off119 v444 v446 k0_t59) a + S1x128.size a ≤ S128x128.size a) ∧
  (∀ (k0_h61 : k0_cond61 v444 v446 = 1#1), (k0_t60_loop v444 v446).OK) ∧
  (∀ k0_t60 : Fin (k0_t60_loop v444 v446).trips, ∀ (k0_h61 : k0_cond61 v444 v446 = 1#1), ∀ a, (k0_off120 v444 v446 k0_t60) a + S1x128.size a ≤ S128x128.size a)
theorem k0_off118_inb : ∀ (v444 : BitVec 32) (v446 : BitVec 32) (k0_hw30 : k0_chk30 v444 v446), ∀ (k0_h60 : k0_cond60 v444 v446 = 1#1), ∀ a, (k0_off118 v444) a + S1x128.size a ≤ S128x128.size a := fun v444 v446 k0_hw30 k0_h60 => k0_hw30.1 k0_h60
theorem k0_t59_ok : ∀ (v444 : BitVec 32) (v446 : BitVec 32) (k0_hw30 : k0_chk30 v444 v446), ∀ (k0_h61 : k0_cond61 v444 v446 = 1#1), (k0_t59_loop v444 v446).OK := fun v444 v446 k0_hw30 k0_h61 => k0_hw30.2.1 k0_h61
theorem k0_off119_inb : ∀ (v444 : BitVec 32) (v446 : BitVec 32) (k0_hw30 : k0_chk30 v444 v446) (k0_t59 : Fin (k0_t59_loop v444 v446).trips), ∀ (k0_h61 : k0_cond61 v444 v446 = 1#1), ∀ a, (k0_off119 v444 v446 k0_t59) a + S1x128.size a ≤ S128x128.size a := fun v444 v446 k0_hw30 k0_t59 k0_h61 => k0_hw30.2.2.1 k0_t59 k0_h61
theorem k0_t60_ok : ∀ (v444 : BitVec 32) (v446 : BitVec 32) (k0_hw30 : k0_chk30 v444 v446), ∀ (k0_h61 : k0_cond61 v444 v446 = 1#1), (k0_t60_loop v444 v446).OK := fun v444 v446 k0_hw30 k0_h61 => k0_hw30.2.2.2.1 k0_h61
theorem k0_off120_inb : ∀ (v444 : BitVec 32) (v446 : BitVec 32) (k0_hw30 : k0_chk30 v444 v446) (k0_t60 : Fin (k0_t60_loop v444 v446).trips), ∀ (k0_h61 : k0_cond61 v444 v446 = 1#1), ∀ a, (k0_off120 v444 v446 k0_t60) a + S1x128.size a ≤ S128x128.size a := fun v444 v446 k0_hw30 k0_t60 k0_h61 => k0_hw30.2.2.2.2 k0_t60 k0_h61

def k0_off121 (i : grid0.Coords) : Fin 1 → Nat :=
  let arg0 : BitVec 32 := BitVec.ofNat 32 (i 0).val
  let c32_i32_184 : BitVec 32 := 32#32
  let v456 : BitVec 32 := Scalar.muli arg0 c32_i32_184
  let c30_i32 : BitVec 32 := 30#32
  let v457 : BitVec 32 := Scalar.addi v456 c30_i32
  let v458 : Index := Scalar.indexCast v457
  ![v458.toNat]
def k0_off122 (v459 : BitVec 32) : Fin 2 → Nat :=
  let v488 : Index := Scalar.indexCast v459
  let c0_195 : Index := 0#32
  ![v488.toNat, 0]
def k0_cond62 (v459 : BitVec 32) (v461 : BitVec 32) : BitVec 1 :=
  let v462 : BitVec 1 := Scalar.cmpi .eq v459 v461
  let v463 : BitVec 32 := Scalar.extui v462
  let c0_i32_185 : BitVec 32 := 0#32
  let v464 : BitVec 1 := Scalar.cmpi .ne v463 c0_i32_185
  v464

@[reducible] def k0_t61_loop (v459 : BitVec 32) (v461 : BitVec 32) : Scf.Loop 32 :=
  let c1_i32_195 : BitVec 32 := 1#32
  let v486 : BitVec 32 := Scalar.addi v461 c1_i32_195
  let v487 : BitVec 32 := Scalar.subi v486 v459
  let c1_i32_197 : BitVec 32 := 1#32
  let v489 : BitVec 32 := Scalar.divsi v487 c1_i32_197
  let v490 : BitVec 32 := Scalar.muli v489 c1_i32_197
  let v491 : BitVec 32 := Scalar.addi v459 v490
  let c1_i32_198 : BitVec 32 := 1#32
  ⟨v459, v491, c1_i32_198⟩
def k0_cond63 (v459 : BitVec 32) (v461 : BitVec 32) : BitVec 1 :=
  let v465 : BitVec 1 := Scalar.cmpi .ne v459 v461
  let v466 : BitVec 32 := Scalar.extui v465
  let c0_i32_186 : BitVec 32 := 0#32
  let v467 : BitVec 1 := Scalar.cmpi .ne v466 c0_i32_186
  v467

def k0_off123 (v459 : BitVec 32) (v461 : BitVec 32) (k0_t61 : Fin (k0_t61_loop v459 v461).trips) : Fin 2 → Nat :=
  let c1_i32_198 : BitVec 32 := 1#32
  let arg11 : BitVec 32 := Scf.iv v459 c1_i32_198 k0_t61
  let v502 : Index := Scalar.indexCast arg11
  let c0_201 : Index := 0#32
  ![v502.toNat, 0]
@[reducible] def k0_t62_loop (v459 : BitVec 32) (v461 : BitVec 32) : Scf.Loop 32 :=
  let c1_i32_195 : BitVec 32 := 1#32
  let v486 : BitVec 32 := Scalar.addi v461 c1_i32_195
  let v487 : BitVec 32 := Scalar.subi v486 v459
  let c1_i32_197 : BitVec 32 := 1#32
  let v489 : BitVec 32 := Scalar.divsi v487 c1_i32_197
  let v490 : BitVec 32 := Scalar.muli v489 c1_i32_197
  let v491 : BitVec 32 := Scalar.addi v459 v490
  let v488 : BitVec 32 := Scalar.addi v459 v487
  let c1_i32_199 : BitVec 32 := 1#32
  ⟨v491, v488, c1_i32_199⟩
def k0_off124 (v459 : BitVec 32) (v461 : BitVec 32) (k0_t62 : Fin (k0_t62_loop v459 v461).trips) : Fin 2 → Nat :=
  let c1_i32_195 : BitVec 32 := 1#32
  let v486 : BitVec 32 := Scalar.addi v461 c1_i32_195
  let v487 : BitVec 32 := Scalar.subi v486 v459
  let c1_i32_197 : BitVec 32 := 1#32
  let v489 : BitVec 32 := Scalar.divsi v487 c1_i32_197
  let v490 : BitVec 32 := Scalar.muli v489 c1_i32_197
  let v491 : BitVec 32 := Scalar.addi v459 v490
  let c1_i32_199 : BitVec 32 := 1#32
  let arg11 : BitVec 32 := Scf.iv v491 c1_i32_199 k0_t62
  let v502 : Index := Scalar.indexCast arg11
  let c0_201 : Index := 0#32
  ![v502.toNat, 0]

def k0_chk31 (v459 : BitVec 32) (v461 : BitVec 32) : Prop :=
  (∀ (k0_h62 : k0_cond62 v459 v461 = 1#1), ∀ a, (k0_off122 v459) a + S1x128.size a ≤ S128x128.size a) ∧
  (∀ (k0_h63 : k0_cond63 v459 v461 = 1#1), (k0_t61_loop v459 v461).OK) ∧
  (∀ k0_t61 : Fin (k0_t61_loop v459 v461).trips, ∀ (k0_h63 : k0_cond63 v459 v461 = 1#1), ∀ a, (k0_off123 v459 v461 k0_t61) a + S1x128.size a ≤ S128x128.size a) ∧
  (∀ (k0_h63 : k0_cond63 v459 v461 = 1#1), (k0_t62_loop v459 v461).OK) ∧
  (∀ k0_t62 : Fin (k0_t62_loop v459 v461).trips, ∀ (k0_h63 : k0_cond63 v459 v461 = 1#1), ∀ a, (k0_off124 v459 v461 k0_t62) a + S1x128.size a ≤ S128x128.size a)
theorem k0_off122_inb : ∀ (v459 : BitVec 32) (v461 : BitVec 32) (k0_hw31 : k0_chk31 v459 v461), ∀ (k0_h62 : k0_cond62 v459 v461 = 1#1), ∀ a, (k0_off122 v459) a + S1x128.size a ≤ S128x128.size a := fun v459 v461 k0_hw31 k0_h62 => k0_hw31.1 k0_h62
theorem k0_t61_ok : ∀ (v459 : BitVec 32) (v461 : BitVec 32) (k0_hw31 : k0_chk31 v459 v461), ∀ (k0_h63 : k0_cond63 v459 v461 = 1#1), (k0_t61_loop v459 v461).OK := fun v459 v461 k0_hw31 k0_h63 => k0_hw31.2.1 k0_h63
theorem k0_off123_inb : ∀ (v459 : BitVec 32) (v461 : BitVec 32) (k0_hw31 : k0_chk31 v459 v461) (k0_t61 : Fin (k0_t61_loop v459 v461).trips), ∀ (k0_h63 : k0_cond63 v459 v461 = 1#1), ∀ a, (k0_off123 v459 v461 k0_t61) a + S1x128.size a ≤ S128x128.size a := fun v459 v461 k0_hw31 k0_t61 k0_h63 => k0_hw31.2.2.1 k0_t61 k0_h63
theorem k0_t62_ok : ∀ (v459 : BitVec 32) (v461 : BitVec 32) (k0_hw31 : k0_chk31 v459 v461), ∀ (k0_h63 : k0_cond63 v459 v461 = 1#1), (k0_t62_loop v459 v461).OK := fun v459 v461 k0_hw31 k0_h63 => k0_hw31.2.2.2.1 k0_h63
theorem k0_off124_inb : ∀ (v459 : BitVec 32) (v461 : BitVec 32) (k0_hw31 : k0_chk31 v459 v461) (k0_t62 : Fin (k0_t62_loop v459 v461).trips), ∀ (k0_h63 : k0_cond63 v459 v461 = 1#1), ∀ a, (k0_off124 v459 v461 k0_t62) a + S1x128.size a ≤ S128x128.size a := fun v459 v461 k0_hw31 k0_t62 k0_h63 => k0_hw31.2.2.2.2 k0_t62 k0_h63

def k0_off125 (i : grid0.Coords) : Fin 1 → Nat :=
  let arg0 : BitVec 32 := BitVec.ofNat 32 (i 0).val
  let c32_i32_190 : BitVec 32 := 32#32
  let v471 : BitVec 32 := Scalar.muli arg0 c32_i32_190
  let c31_i32 : BitVec 32 := 31#32
  let v472 : BitVec 32 := Scalar.addi v471 c31_i32
  let v473 : Index := Scalar.indexCast v472
  ![v473.toNat]
def k0_off126 (v474 : BitVec 32) : Fin 2 → Nat :=
  let v488 : Index := Scalar.indexCast v474
  let c0_195 : Index := 0#32
  ![v488.toNat, 0]
def k0_cond64 (v474 : BitVec 32) (v476 : BitVec 32) : BitVec 1 :=
  let v477 : BitVec 1 := Scalar.cmpi .eq v474 v476
  let v478 : BitVec 32 := Scalar.extui v477
  let c0_i32_191 : BitVec 32 := 0#32
  let v479 : BitVec 1 := Scalar.cmpi .ne v478 c0_i32_191
  v479

@[reducible] def k0_t63_loop (v474 : BitVec 32) (v476 : BitVec 32) : Scf.Loop 32 :=
  let c1_i32_195 : BitVec 32 := 1#32
  let v486 : BitVec 32 := Scalar.addi v476 c1_i32_195
  let v487 : BitVec 32 := Scalar.subi v486 v474
  let c1_i32_197 : BitVec 32 := 1#32
  let v489 : BitVec 32 := Scalar.divsi v487 c1_i32_197
  let v490 : BitVec 32 := Scalar.muli v489 c1_i32_197
  let v491 : BitVec 32 := Scalar.addi v474 v490
  let c1_i32_198 : BitVec 32 := 1#32
  ⟨v474, v491, c1_i32_198⟩
def k0_cond65 (v474 : BitVec 32) (v476 : BitVec 32) : BitVec 1 :=
  let v480 : BitVec 1 := Scalar.cmpi .ne v474 v476
  let v481 : BitVec 32 := Scalar.extui v480
  let c0_i32_192 : BitVec 32 := 0#32
  let v482 : BitVec 1 := Scalar.cmpi .ne v481 c0_i32_192
  v482

def k0_off127 (v474 : BitVec 32) (v476 : BitVec 32) (k0_t63 : Fin (k0_t63_loop v474 v476).trips) : Fin 2 → Nat :=
  let c1_i32_198 : BitVec 32 := 1#32
  let arg11 : BitVec 32 := Scf.iv v474 c1_i32_198 k0_t63
  let v502 : Index := Scalar.indexCast arg11
  let c0_201 : Index := 0#32
  ![v502.toNat, 0]
@[reducible] def k0_t64_loop (v474 : BitVec 32) (v476 : BitVec 32) : Scf.Loop 32 :=
  let c1_i32_195 : BitVec 32 := 1#32
  let v486 : BitVec 32 := Scalar.addi v476 c1_i32_195
  let v487 : BitVec 32 := Scalar.subi v486 v474
  let c1_i32_197 : BitVec 32 := 1#32
  let v489 : BitVec 32 := Scalar.divsi v487 c1_i32_197
  let v490 : BitVec 32 := Scalar.muli v489 c1_i32_197
  let v491 : BitVec 32 := Scalar.addi v474 v490
  let v488 : BitVec 32 := Scalar.addi v474 v487
  let c1_i32_199 : BitVec 32 := 1#32
  ⟨v491, v488, c1_i32_199⟩
def k0_off128 (v474 : BitVec 32) (v476 : BitVec 32) (k0_t64 : Fin (k0_t64_loop v474 v476).trips) : Fin 2 → Nat :=
  let c1_i32_195 : BitVec 32 := 1#32
  let v486 : BitVec 32 := Scalar.addi v476 c1_i32_195
  let v487 : BitVec 32 := Scalar.subi v486 v474
  let c1_i32_197 : BitVec 32 := 1#32
  let v489 : BitVec 32 := Scalar.divsi v487 c1_i32_197
  let v490 : BitVec 32 := Scalar.muli v489 c1_i32_197
  let v491 : BitVec 32 := Scalar.addi v474 v490
  let c1_i32_199 : BitVec 32 := 1#32
  let arg11 : BitVec 32 := Scf.iv v491 c1_i32_199 k0_t64
  let v502 : Index := Scalar.indexCast arg11
  let c0_201 : Index := 0#32
  ![v502.toNat, 0]

def k0_chk32 (v474 : BitVec 32) (v476 : BitVec 32) : Prop :=
  (∀ (k0_h64 : k0_cond64 v474 v476 = 1#1), ∀ a, (k0_off126 v474) a + S1x128.size a ≤ S128x128.size a) ∧
  (∀ (k0_h65 : k0_cond65 v474 v476 = 1#1), (k0_t63_loop v474 v476).OK) ∧
  (∀ k0_t63 : Fin (k0_t63_loop v474 v476).trips, ∀ (k0_h65 : k0_cond65 v474 v476 = 1#1), ∀ a, (k0_off127 v474 v476 k0_t63) a + S1x128.size a ≤ S128x128.size a) ∧
  (∀ (k0_h65 : k0_cond65 v474 v476 = 1#1), (k0_t64_loop v474 v476).OK) ∧
  (∀ k0_t64 : Fin (k0_t64_loop v474 v476).trips, ∀ (k0_h65 : k0_cond65 v474 v476 = 1#1), ∀ a, (k0_off128 v474 v476 k0_t64) a + S1x128.size a ≤ S128x128.size a)
theorem k0_off126_inb : ∀ (v474 : BitVec 32) (v476 : BitVec 32) (k0_hw32 : k0_chk32 v474 v476), ∀ (k0_h64 : k0_cond64 v474 v476 = 1#1), ∀ a, (k0_off126 v474) a + S1x128.size a ≤ S128x128.size a := fun v474 v476 k0_hw32 k0_h64 => k0_hw32.1 k0_h64
theorem k0_t63_ok : ∀ (v474 : BitVec 32) (v476 : BitVec 32) (k0_hw32 : k0_chk32 v474 v476), ∀ (k0_h65 : k0_cond65 v474 v476 = 1#1), (k0_t63_loop v474 v476).OK := fun v474 v476 k0_hw32 k0_h65 => k0_hw32.2.1 k0_h65
theorem k0_off127_inb : ∀ (v474 : BitVec 32) (v476 : BitVec 32) (k0_hw32 : k0_chk32 v474 v476) (k0_t63 : Fin (k0_t63_loop v474 v476).trips), ∀ (k0_h65 : k0_cond65 v474 v476 = 1#1), ∀ a, (k0_off127 v474 v476 k0_t63) a + S1x128.size a ≤ S128x128.size a := fun v474 v476 k0_hw32 k0_t63 k0_h65 => k0_hw32.2.2.1 k0_t63 k0_h65
theorem k0_t64_ok : ∀ (v474 : BitVec 32) (v476 : BitVec 32) (k0_hw32 : k0_chk32 v474 v476), ∀ (k0_h65 : k0_cond65 v474 v476 = 1#1), (k0_t64_loop v474 v476).OK := fun v474 v476 k0_hw32 k0_h65 => k0_hw32.2.2.2.1 k0_h65
theorem k0_off128_inb : ∀ (v474 : BitVec 32) (v476 : BitVec 32) (k0_hw32 : k0_chk32 v474 v476) (k0_t64 : Fin (k0_t64_loop v474 v476).trips), ∀ (k0_h65 : k0_cond65 v474 v476 = 1#1), ∀ a, (k0_off128 v474 v476 k0_t64) a + S1x128.size a ≤ S128x128.size a := fun v474 v476 k0_hw32 k0_t64 k0_h65 => k0_hw32.2.2.2.2 k0_t64 k0_h65

def k0_cond66 (i : grid0.Coords) : BitVec 1 :=
  let arg0 : BitVec 32 := BitVec.ofNat 32 (i 0).val
  let c12_i32_193 : BitVec 32 := 12#32
  let v483 : BitVec 1 := Scalar.cmpi .eq arg0 c12_i32_193
  let v484 : BitVec 32 := Scalar.extui v483
  let c0_i32_194 : BitVec 32 := 0#32
  let v485 : BitVec 1 := Scalar.cmpi .ne v484 c0_i32_194
  v485

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x128 : Shape := ⟨2, ![100000, 128]⟩
abbrev S100000 : Shape := ⟨1, ![100000]⟩
abbrev S100x128 : Shape := ⟨2, ![100, 128]⟩
abbrev S256x128 : Shape := ⟨2, ![256, 128]⟩
abbrev S128 : Shape := ⟨1, ![128]⟩
abbrev S1x100000 : Shape := ⟨2, ![1, 100000]⟩
abbrev S100 : Shape := ⟨1, ![100]⟩
abbrev S100x1 : Shape := ⟨2, ![100, 1]⟩
abbrev S100x100000 : Shape := ⟨2, ![100, 100000]⟩
abbrev S100x100000x1 : Shape := ⟨3, ![100, 100000, 1]⟩
abbrev S1x100000x128 : Shape := ⟨3, ![1, 100000, 128]⟩
abbrev S_ : Shape := ⟨0, ![]⟩
abbrev S100x100000x128 : Shape := ⟨3, ![100, 100000, 128]⟩
abbrev S100x256 : Shape := ⟨2, ![100, 256]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100x128, .f32⟩
  | .hbm, ⟨3, _⟩ => ⟨S256x128, .f32⟩
  | .hbm, ⟨4, _⟩ => ⟨S128, .f32⟩
  | .hbm, ⟨5, _⟩ => ⟨S1x100000, .i32⟩
  | .hbm, ⟨6, _⟩ => ⟨S100, .i32⟩
  | .hbm, ⟨7, _⟩ => ⟨S100x1, .i32⟩
  | .hbm, ⟨8, _⟩ => ⟨S100x100000, .i32⟩
  | .hbm, ⟨9, _⟩ => ⟨S100x100000, .i32⟩
  | .hbm, ⟨10, _⟩ => ⟨S100x100000, .i1⟩
  | .hbm, ⟨11, _⟩ => ⟨S100x100000x1, .i1⟩
  | .hbm, ⟨12, _⟩ => ⟨S1x100000x128, .f32⟩
  | .hbm, ⟨13, _⟩ => ⟨S_, .f32⟩
  | .hbm, ⟨14, _⟩ => ⟨S_, .f32⟩
  | .hbm, ⟨15, _⟩ => ⟨S100x100000x128, .i1⟩
  | .hbm, ⟨16, _⟩ => ⟨S100x100000x128, .f32⟩
  | .hbm, ⟨17, _⟩ => ⟨S100x100000x128, .f32⟩
  | .hbm, ⟨18, _⟩ => ⟨S100x100000x128, .f32⟩
  | .hbm, ⟨19, _⟩ => ⟨S_, .f32⟩
  | .hbm, ⟨20, _⟩ => ⟨S100x128, .f32⟩
  | .hbm, ⟨21, _⟩ => ⟨S100x256, .f32⟩
  | .hbm, ⟨22, _⟩ => ⟨S100x128, .f32⟩
  | .hbm, ⟨23, _⟩ => ⟨S1x128, .f32⟩
  | .hbm, ⟨24, _⟩ => ⟨S100x128, .f32⟩
  | .hbm, ⟨25, _⟩ => ⟨S100x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Proof.Steps.lean ====
/-
  One step of the kernel's body at a time. The body visits thirty-two runs of 256 rows, and at each run loads the
  rows and their segment numbers, reads the first and the last segment number from the two tables, and raises the
  accumulator's rows. `Inv P` holds every buffer the body reads and the accumulator at some contents that meet `P`;
  each lemma here takes the `wp` of a program headed by one of those actions, from `Inv` at one predicate, to the
  `wp` of what follows, from `Inv` at the next.
-/
module

public import proofs.«01_k».proof.Proof.Gen.Kernel
public import Idealize.ShloMosaic.Lib.Tactic
public import Idealize.ShloMosaic.Lib.LoopRemainder
public import Idealize.ShloMosaic.Lib.Pointwise
public import Idealize.ShloMosaic.Lib.Pipeline.Kit

@[expose] public section

noncomputable section

namespace Cert.Proof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Words -/

/-- The main loop's upper bound is one past the last segment number. -/
theorem loop_ub (lo hi : BitVec 32) : (k0_t1_loop lo hi).ub = hi + 1#32 := by
  show Scalar.addi lo (Scalar.muli (Scalar.divsi _ 1#32) 1#32) = _
  rw [Scalar.muli_divsi_one]
  show lo + (hi + 1#32 - lo) = hi + 1#32
  rw [BitVec.add_comm, BitVec.sub_add_cancel]

theorem toInt_small {a : BitVec 32} (h : a.toNat ≤ 100) : a.toInt = a.toNat := by
  rw [BitVec.toInt_eq_toNat_cond, if_pos (by omega)]

theorem toNat_succ {a : BitVec 32} (h : a.toNat ≤ 100) : (a + 1#32).toNat = a.toNat + 1 := by
  rw [BitVec.toNat_add]; show (a.toNat + 1) % _ = _; omega

/-- The main loop makes one trip for each segment number from the first to the last. -/
theorem loop_trips {lo hi : BitVec 32} (h : lo.toNat ≤ hi.toNat) (h' : hi.toNat ≤ 100) :
    (k0_t1_loop lo hi).trips = hi.toNat + 1 - lo.toNat := by
  show Scf.trips lo (k0_t1_loop lo hi).ub 1#32 = _
  rw [loop_ub]
  unfold Scf.trips
  have h1 : (1#32 : BitVec 32).toInt = 1 := by decide
  have h2 : (hi + 1#32).toInt = hi.toNat + 1 := by
    rw [BitVec.toInt_eq_toNat_cond, toNat_succ h', if_pos (by omega)]; push_cast; ring
  rw [h1, h2, toInt_small (le_trans h h')]
  omega

/-- The segment number at trip `k`. -/
theorem iv_toNat {lo : BitVec 32} {k : ℕ} (h : lo.toNat + k ≤ 100) : (Scf.iv lo 1#32 k).toNat = lo.toNat + k := by
  unfold Scf.iv
  rw [BitVec.mul_one, BitVec.toNat_add, BitVec.toNat_ofNat]
  omega

/-- An accumulator row below 128 is in range. -/
theorem row_inb {g : ℕ} (h : g ≤ 127) : ∀ a, (![g, 0] : Fin 2 → ℕ) a + S1x128.size a ≤ S128x128.size a := by
  intro a
  fin_cases a
  · show g + 1 ≤ 128; omega
  · show 0 + 128 ≤ 128; omega

/-- The accumulator rows the body names are in range and its loops have a meaning, when the two words it reads are
    segment numbers in order. -/
theorem chk_of {lo hi : BitVec 32} (h : lo.toNat ≤ hi.toNat) (h' : hi.toNat ≤ 100) : k0_chk1 lo hi := by
  refine ⟨fun _ => row_inb (g := lo.toNat) (by omega), fun _ => ?_, fun k _ => ?_, fun _ => Scf.rem_ok _ _, fun k => ?_⟩
  · refine ⟨show 0 < (1#32 : BitVec 32).toInt by decide, ?_⟩
    have := loop_trips h h'
    show lo.toInt + ((k0_t1_loop lo hi).trips : ℤ) * (1#32 : BitVec 32).toInt < _
    rw [this, toInt_small (le_trans h h'), show (1#32 : BitVec 32).toInt = 1 by decide]
    omega
  · have hk := k.isLt
    have := loop_trips h h'
    refine row_inb (g := (Scf.iv lo 1#32 k).toNat) ?_
    rw [iv_toNat (by omega)]; omega
  · exact (Scf.rem_no_trip _ _ k).elim

theorem ofBool_eq_one {b : Bool} : Scalar.cmpi .ne (Scalar.extui (BitVec.ofBool b) : BitVec 32) 0#32 = 1#1 ↔ b = true := by
  cases b <;> decide

theorem cond2_iff (lo hi : BitVec 32) : k0_cond2 lo hi = 1#1 ↔ lo = hi := by
  show Scalar.cmpi .ne (Scalar.extui (BitVec.ofBool (lo == hi)) : BitVec 32) 0#32 = 1#1 ↔ _
  rw [ofBool_eq_one, beq_iff_eq]

theorem cond3_iff (lo hi : BitVec 32) : k0_cond3 lo hi = 1#1 ↔ lo ≠ hi := by
  show Scalar.cmpi .ne (Scalar.extui (BitVec.ofBool (lo != hi)) : BitVec 32) 0#32 = 1#1 ↔ _
  rw [ofBool_eq_one, bne_iff_ne]

/-! ## What the body computes -/

/-- Word `n` of a table. -/
def tw (T : S416.Idx → Elt F .i32) (n : ℕ) : BitVec 32 := T (ix1 ⟨n % 416, Nat.mod_lt _ (by decide)⟩)

/-- The rows of run `j`, of a block of 8192 rows of `w` entries. -/
def run {α : Type} {w : ℕ} (x : (⟨2, ![8192, w]⟩ : Shape).Idx → α) (j : ℕ) : (⟨2, ![256, w]⟩ : Shape).Idx → α :=
  fun y => x (ix2 ⟨(256 * j + (y 0).val) % 8192, Nat.mod_lt _ (by decide)⟩ (y 1))

/-- The accumulator's row at offsets `off` raised by the row `u`. -/
def raise (off : Fin 2 → ℕ) (inb : ∀ a, off a + S1x128.size a ≤ S128x128.size a) (u : FVec F S128 .f32)
    (f : Vec F S128x128 .f32) : Vec F S128x128 .f32 :=
  (Rect.unit (s := S128x128) off S1x128.size inb).overlay f
    (shapeCast S1x128 (maximumf (fun y => f ((Rect.unit (s := S128x128) off S1x128.size inb).emb y) : FVec F S1x128 .f32)
      (shapeCast S1x128 u shapeCasts_S128_S1x128)) shapeCasts_S1x128_S1x128)

/-- The accumulator's row `g`, when it is one, raised by the row `u`. -/
def raiseRow (g : ℕ) (u : FVec F S128 .f32) (f : Vec F S128x128 .f32) : Vec F S128x128 .f32 :=
  if h : g ≤ 127 then raise ![g, 0] (row_inb h) u f else f

theorem raise_eq {off : Fin 2 → ℕ} (inb : ∀ a, off a + S1x128.size a ≤ S128x128.size a) (u : FVec F S128 .f32)
    (f : Vec F S128x128 .f32) {g : ℕ} (hg : off = ![g, 0]) : raise off inb u f = raiseRow g u f := by
  subst hg
  have : g + 1 ≤ 128 := inb 0
  unfold raiseRow; rw [dif_pos (by omega)]

/-- The largest entry of each column. -/
def colMax (v : FVec F S256x128 .f32) : FVec F S128 .f32 :=
  multiReduction .maximumf [0] S128 v 0xFF800000#32 reduces_S256x128_S128 (.inl rfl) rfl

/-- The rows of a run whose segment number is `g`; the others' entries are −∞. -/
def only (g : BitVec 32) (ids : IVec S256x1 32) (v : FVec F S256x128 .f32) : FVec F S256x128 .f32 :=
  select (broadcastTo S256x128 (shapeCast S256x1 (cmpi .eq (shapeCast S256x1 ids shapeCasts_S256x1_S256x1) (broadcast S256x1 g))
    shapeCasts_S256x1_S256x1) broadcasts_S256x1_S256x128) v (broadcast S256x128 (Scalar.ofBits .f32 0xFF800000#32))

/-- The accumulator after `n` segment numbers from `lo` on, each one's row raised by its rows of the run. -/
def raised (lo : BitVec 32) (ids : IVec S256x1 32) (v : FVec F S256x128 .f32) (f : Vec F S128x128 .f32) : ℕ → Vec F S128x128 .f32
  | 0 => f
  | n + 1 => raiseRow (Scf.iv lo 1#32 n).toNat (colMax (only (Scf.iv lo 1#32 n) ids v)) (raised lo ids v f n)

/-- What one run does to the accumulator. -/
def runUpd (lo hi : BitVec 32) (ids : IVec S256x1 32) (v : FVec F S256x128 .f32) (f : Vec F S128x128 .f32) : Vec F S128x128 .f32 :=
  if lo = hi then raiseRow lo.toNat (colMax v) f else raised lo ids v f (k0_t1_loop lo hi).trips

/-! ## A memref's loads and stores, at the contents it reads -/

/-- The weakest precondition of a piece of the body, on device `c`'s TensorCore. -/
abbrev wpB (𝒱 : Variants) (c : Dev nD) (bd : Option 𝒱.V) (E : Set Name) {α : Type} (p : Prog (TpuEff nD τ sig (Elt F) Λ₀ .tc) α)
    (Q : α → sProp 𝕄) : sProp 𝕄 := wp frame (wpE (defs₀ (F := F)) 𝒱 (c : Thread nD τ) bd) E p Q

variable {𝒱 : Variants} {c : Dev nD} {bd : Option 𝒱.V} {E : Set Name}

section Own
variable {α : Type} {Q : α → sProp (MT nD τ sig Ix (Elt F) Name U Lvl)} {sp : CoreSpace} {s : Shape} {e : EltTy}

theorem own_load (M : Memref sig .tc sp s e) (q : PosShare TreeShare) (X : s.Idx → Elt F e) {r : Rect s} {hl : M.view.LoadsAt r.toLoadRect}
    {k : (r.shape.Idx → Elt F e) → Prog (TpuEff nD τ sig (Elt F) Λ₀ .tc) α} :
    (owns (c : Thread nD τ) M q X : sProp 𝕄) ⊢ iprop((owns (c : Thread nD τ) M q X -∗ wpB 𝒱 c bd E (k fun y => X (r.emb y)) Q)
      -∗ wpB 𝒱 c bd E (Prog.op (TpuEff.load M r.toLoadRect hl) k : Prog (TpuEff nD τ sig (Elt F) Λ₀ .tc) α) Q) := by
  unfold owns
  iintro ⟨%f, %hf, H⟩ Hk
  subst hf
  iapply (wp_load (defs := defs₀ (F := F)) 𝒱 (c : Thread nD τ) bd E (m := M) (r := r.toLoadRect) (S := M.view.set)
    (M.view.setOn_subset_set r.set)) $$ H
  iintro H
  iapply Hk
  iexists f
  isplitr
  · ipureintro; rfl
  · iexact H

theorem own_store (M : Memref sig .tc sp s e) (X : s.Idx → Elt F e) {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} :
    (owns (c : Thread nD τ) M fullShare X : sProp 𝕄)
      ⊢ iprop((owns (c : Thread nD τ) M fullShare (r.overlay X w) -∗ wpB 𝒱 c bd E (k ⟨⟩) Q)
      -∗ wpB 𝒱 c bd E (Prog.op (TpuEff.store M r w Finset.univ hx hm) k : Prog (TpuEff nD τ sig (Elt F) Λ₀ .tc) α) Q) := by
  unfold owns
  iintro ⟨%f, %hf, H⟩ Hk
  subst hf
  iapply (wp_store (defs := defs₀ (F := F)) 𝒱 (c : Thread nD τ) bd E (m := M) (r := r) (S := M.view.set)
    ((Memref.setOn_access_subset_setOn M r _).trans (M.view.setOn_subset_set r.set))) $$ H
  iintro H
  iapply Hk
  iexists _
  isplitr
  · ipureintro
    show M.view.read (Elt F) ((M.view.slice r).write (Elt F) f w Finset.univ) = _
    funext y
    by_cases hy : y ∈ r.set
    · rw [← Rect.map_emb_univ, Finset.mem_map] at hy
      obtain ⟨x, -, rfl⟩ := hy
      rw [View.read_slice_write_emb _ _ _ (Finset.mem_univ x), Rect.overlay_emb]
    · rw [View.read_slice_write_of_not_mem _ _ _ _ (by rw [Rect.map_emb_univ]; exact hy), Rect.overlay_of_not_mem _ _ _ hy]
  · iexact H

end Own

/-! ## The body's actions -/

/-- What the body holds throughout: the two tables, the block of rows, the block of segment numbers, the accumulator at
    some contents meeting `P`, and the rest. -/
def Inv (c : Dev nD) (arg1 arg2 : Memref sig .tc .smem S416 .i32) (arg3 : Memref sig .tc .vmem S8192x128 .f32)
    (arg4 : Memref sig .tc .vmem S8192x1 .i32) (arg10 : Memref sig .tc .vmem S128x128 .f32) (T1 T2 : S416.Idx → Elt F .i32)
    (x : Vec F S8192x128 .f32) (ids : S8192x1.Idx → Elt F .i32) (R : sProp (MT nD τ sig Ix (Elt F) Name U Lvl))
    (P : Vec F S128x128 .f32 → Prop) : sProp 𝕄 :=
  iprop(∃ f, ⌜P f⌝ ∗ owns (c : Thread nD τ) arg10 fullShare f ∗ owns (c : Thread nD τ) arg1 fullShare.right T1
    ∗ owns (c : Thread nD τ) arg2 fullShare.right T2 ∗ owns (c : Thread nD τ) arg3 fullShare x
    ∗ owns (c : Thread nD τ) arg4 fullShare ids ∗ R)

/-- Between a run's two conditionals: the run is done if its segment numbers are all one. -/
def Mid (A : ℕ → Vec F S128x128 .f32 → Prop) (j : ℕ) (lo hi : BitVec 32) (f : Vec F S128x128 .f32) : Prop :=
  (lo ≠ hi → A j f) ∧ (lo = hi → A (j + 1) f)

section Body

variable {arg1 arg2 : Memref sig .tc .smem S416 .i32} {arg3 : Memref sig .tc .vmem S8192x128 .f32}
  {arg4 : Memref sig .tc .vmem S8192x1 .i32} {arg10 : Memref sig .tc .vmem S128x128 .f32} {T1 T2 : S416.Idx → Elt F .i32}
  {x : Vec F S8192x128 .f32} {ids : S8192x1.Idx → Elt F .i32} {R : sProp (MT nD τ sig Ix (Elt F) Name U Lvl)}
variable {α : Type} {Q : α → sProp (MT nD τ sig Ix (Elt F) Name U Lvl)}

theorem step_bind {β : Type} {I : sProp 𝕄} {p : Prog (TpuEff nD τ sig (Elt F) Λ₀ .tc) β} {k : β → Prog (TpuEff nD τ sig (Elt F) Λ₀ .tc) α}
    (h : I ⊢ wpB 𝒱 c bd E p fun v => wpB 𝒱 c bd E (k v) Q) : I ⊢ wpB 𝒱 c bd E (p >>= k) Q := by
  unfold wpB; rw [wp_bind]; exact h

theorem step_ret {I : sProp 𝕄} {v : α} (h : I ⊢ Q v) : I ⊢ wpB 𝒱 c bd E (pure v) Q := by
  refine h.trans ?_
  show Q v ⊢ wp frame (wpE (defs₀ (F := F)) 𝒱 (c : Thread nD τ) bd) E (.ret v) Q
  rw [wp_ret]
  iintro H; imodintro; iexact H

theorem step_ret' {I : sProp 𝕄} {v : α} (h : I ⊢ Q v) : I ⊢ wpB 𝒱 c bd E (.ret v) Q := step_ret h

/-- A rectangle of 256 rows reads a run. -/
theorem run_eq {γ : Type} {w : ℕ} (y : (⟨2, ![8192, w]⟩ : Shape).Idx → γ) {off : Fin 2 → ℕ} {j : ℕ} (hoff : off = ![256 * j, 0])
    (inb : ∀ a, off a + (⟨2, ![256, w]⟩ : Shape).size a ≤ (⟨2, ![8192, w]⟩ : Shape).size a) :
    (fun z => y ((Rect.unit (s := ⟨2, ![8192, w]⟩) off (⟨2, ![256, w]⟩ : Shape).size inb).emb z)) = run y j := by
  subst hoff
  funext z
  have h0 : 256 * j + 256 ≤ 8192 := inb 0
  have hz : (z 0).val < 256 := (z 0).isLt
  unfold run
  congr 1
  funext a
  apply Fin.ext
  fin_cases a
  · show 256 * j + 1 * (z 0).val = (256 * j + (z 0).val) % 8192
    rw [Nat.mod_eq_of_lt (by omega)]; omega
  · show 0 + 1 * (z 1).val = (z 1).val
    omega

variable {A : ℕ → Vec F S128x128 .f32 → Prop} {j : ℕ}

/-- An action on one resource, beside what it leaves alone. -/
theorem act {O O' S W W' : sProp 𝕄} (h : O ⊢ iprop((O' -∗ W') -∗ W)) (h' : iprop(O' ∗ S) ⊢ W') : iprop(O ∗ S) ⊢ W := by
  iintro ⟨HO, HS⟩
  iapply h $$ HO
  iintro HO
  iapply h'
  isplitl [HO]
  · iexact HO
  · iexact HS

theorem pick2 {A B S : sProp 𝕄} : iprop(A ∗ B ∗ S) ⊢ iprop(B ∗ A ∗ S) := by
  iintro ⟨H1, H2, H3⟩
  isplitl [H2]; · iexact H2
  isplitl [H1]; · iexact H1
  iexact H3

/-- `Inv` opened: from the buffers at contents meeting `P`. -/
theorem inv_open {P : Vec F S128x128 .f32 → Prop} {W : sProp 𝕄}
    (h : ∀ f, P f → iprop(owns (c : Thread nD τ) arg10 fullShare f ∗ owns (c : Thread nD τ) arg1 fullShare.right T1
    ∗ owns (c : Thread nD τ) arg2 fullShare.right T2 ∗ owns (c : Thread nD τ) arg3 fullShare x
    ∗ owns (c : Thread nD τ) arg4 fullShare ids ∗ R) ⊢ W) : Inv c arg1 arg2 arg3 arg4 arg10 T1 T2 x ids R P ⊢ W := by
  unfold Inv
  iintro ⟨%f, %hf, H⟩
  iapply (h f hf)
  iexact H

theorem inv_intro {P : Vec F S128x128 .f32 → Prop} (f : Vec F S128x128 .f32) (hf : P f) :
    iprop(owns (c : Thread nD τ) arg10 fullShare f ∗ owns (c : Thread nD τ) arg1 fullShare.right T1
    ∗ owns (c : Thread nD τ) arg2 fullShare.right T2 ∗ owns (c : Thread nD τ) arg3 fullShare x
    ∗ owns (c : Thread nD τ) arg4 fullShare ids ∗ R) ⊢ Inv c arg1 arg2 arg3 arg4 arg10 T1 T2 x ids R P := by
  unfold Inv
  iintro H
  iexists f
  isplitr
  · ipureintro; exact hf
  iexact H

theorem inv_mono {P P' : Vec F S128x128 .f32 → Prop} (h : ∀ f, P f → P' f) : Inv c arg1 arg2 arg3 arg4 arg10 T1 T2 x ids R P ⊢ Inv c arg1 arg2 arg3 arg4 arg10 T1 T2 x ids R P' :=
  inv_open fun f hf => inv_intro f (h f hf)

/-- A resource two places deep, acted on. -/
theorem act2 {A O O' S W W' : sProp 𝕄} (h : O ⊢ iprop((O' -∗ W') -∗ W)) (h' : iprop(A ∗ O' ∗ S) ⊢ W') : iprop(A ∗ O ∗ S) ⊢ W :=
  pick2.trans (act h (pick2.trans h'))

theorem act3 {A B O O' S W W' : sProp 𝕄} (h : O ⊢ iprop((O' -∗ W') -∗ W)) (h' : iprop(A ∗ B ∗ O' ∗ S) ⊢ W') : iprop(A ∗ B ∗ O ∗ S) ⊢ W := by
  iintro ⟨HA, HB, HO, HS⟩
  iapply h $$ HO
  iintro HO
  iapply h'
  isplitl [HA]; · iexact HA
  isplitl [HB]; · iexact HB
  isplitl [HO]; · iexact HO
  iexact HS

theorem act4 {A B C O O' S W W' : sProp 𝕄} (h : O ⊢ iprop((O' -∗ W') -∗ W)) (h' : iprop(A ∗ B ∗ C ∗ O' ∗ S) ⊢ W') :
    iprop(A ∗ B ∗ C ∗ O ∗ S) ⊢ W := by
  iintro ⟨HA, HB, HC, HO, HS⟩
  iapply h $$ HO
  iintro HO
  iapply h'
  isplitl [HA]; · iexact HA
  isplitl [HB]; · iexact HB
  isplitl [HC]; · iexact HC
  isplitl [HO]; · iexact HO
  iexact HS

theorem act5 {A B C D O O' S W W' : sProp 𝕄} (h : O ⊢ iprop((O' -∗ W') -∗ W)) (h' : iprop(A ∗ B ∗ C ∗ D ∗ O' ∗ S) ⊢ W') :
    iprop(A ∗ B ∗ C ∗ D ∗ O ∗ S) ⊢ W := by
  iintro ⟨HA, HB, HC, HD, HO, HS⟩
  iapply h $$ HO
  iintro HO
  iapply h'
  isplitl [HA]; · iexact HA
  isplitl [HB]; · iexact HB
  isplitl [HC]; · iexact HC
  isplitl [HD]; · iexact HD
  isplitl [HO]; · iexact HO
  iexact HS

theorem step_load3 {off : Fin 2 → ℕ} {inb : ∀ a, off a + S256x128.size a ≤ S8192x128.size a}
    {hl : arg3.view.LoadsAt (Rect.unit (s := S8192x128) off S256x128.size inb).toLoadRect}
    {k : Vec F S256x128 .f32 → Prog (TpuEff nD τ sig (Elt F) Λ₀ .tc) α} (hoff : off = ![256 * j, 0])
    (h : Inv c arg1 arg2 arg3 arg4 arg10 T1 T2 x ids R (A j) ⊢ wpB 𝒱 c bd E (k (run x j)) Q) :
    Inv c arg1 arg2 arg3 arg4 arg10 T1 T2 x ids R (A j) ⊢ wpB 𝒱 c bd E (Prog.lift (.load arg3 (Rect.unit (s := S8192x128) off S256x128.size inb).toLoadRect hl) >>= k) Q := by
  rw [← run_eq x hoff inb] at h
  exact inv_open fun f hf => act4 (own_load arg3 fullShare x) ((inv_intro f hf).trans h)

theorem step_load4 {off : Fin 2 → ℕ} {inb : ∀ a, off a + S256x1.size a ≤ S8192x1.size a}
    {hl : arg4.view.LoadsAt (Rect.unit (s := S8192x1) off S256x1.size inb).toLoadRect}
    {k : Vec F S256x1 .i32 → Prog (TpuEff nD τ sig (Elt F) Λ₀ .tc) α} (hoff : off = ![256 * j, 0])
    (h : Inv c arg1 arg2 arg3 arg4 arg10 T1 T2 x ids R (A j) ⊢ wpB 𝒱 c bd E (k (run ids j)) Q) :
    Inv c arg1 arg2 arg3 arg4 arg10 T1 T2 x ids R (A j) ⊢ wpB 𝒱 c bd E (Prog.lift (.load arg4 (Rect.unit (s := S8192x1) off S256x1.size inb).toLoadRect hl) >>= k) Q := by
  rw [← run_eq ids hoff inb] at h
  exact inv_open fun f hf => act5 (own_load arg4 fullShare ids) ((inv_intro f hf).trans h)

/-- A rectangle of one word reads that word. -/
theorem word_eq (T : S416.Idx → Elt F .i32) {off : Fin 1 → ℕ} {n : ℕ} (hoff : off = ![n]) (inb : ∀ a, off a + S1.size a ≤ S416.size a)
    (z : S1.Idx) : T ((Rect.unit (s := S416) off S1.size inb).emb z) = tw T n := by
  subst hoff
  have h0 : n + 1 ≤ 416 := inb 0
  have hz : (z 0).val < 1 := (z 0).isLt
  unfold tw
  congr 1
  funext a
  apply Fin.ext
  fin_cases a
  show n + 1 * (z 0).val = n % 416
  rw [Nat.mod_eq_of_lt (by omega)]; omega

theorem step_word1 {off : Fin 1 → ℕ} {inb : ∀ a, off a + S1.size a ≤ S416.size a} {n : ℕ}
    {k : Elt F .i32 → Prog (TpuEff nD τ sig (Elt F) Λ₀ .tc) α} (hoff : off = ![n + j])
    (h : Inv c arg1 arg2 arg3 arg4 arg10 T1 T2 x ids R (A j) ⊢ wpB 𝒱 c bd E (k (tw T1 (n + j))) Q) :
    Inv c arg1 arg2 arg3 arg4 arg10 T1 T2 x ids R (A j) ⊢ wpB 𝒱 c bd E (smemLoad arg1 (Rect.unit (s := S416) off S1.size inb) numel1_S1 rfl >>= k) Q := by
  rw [← word_eq T1 hoff inb (Shape.Idx.first (numel1_S1.symm ▸ Nat.one_pos))] at h
  exact inv_open fun f hf => act2 (own_load arg1 fullShare.right T1 (k := fun w => k (w (Shape.Idx.first (numel1_S1.symm ▸ Nat.one_pos)))))
    ((inv_intro f hf).trans h)

theorem step_word2 {off : Fin 1 → ℕ} {inb : ∀ a, off a + S1.size a ≤ S416.size a} {n : ℕ}
    {k : Elt F .i32 → Prog (TpuEff nD τ sig (Elt F) Λ₀ .tc) α} (hoff : off = ![n + j])
    (h : Inv c arg1 arg2 arg3 arg4 arg10 T1 T2 x ids R (A j) ⊢ wpB 𝒱 c bd E (k (tw T2 (n + j))) Q) :
    Inv c arg1 arg2 arg3 arg4 arg10 T1 T2 x ids R (A j) ⊢ wpB 𝒱 c bd E (smemLoad arg2 (Rect.unit (s := S416) off S1.size inb) numel1_S1 rfl >>= k) Q := by
  rw [← word_eq T2 hoff inb (Shape.Idx.first (numel1_S1.symm ▸ Nat.one_pos))] at h
  exact inv_open fun f hf => act3 (own_load arg2 fullShare.right T2 (k := fun w => k (w (Shape.Idx.first (numel1_S1.symm ▸ Nat.one_pos)))))
    ((inv_intro f hf).trans h)

theorem step_assume {I : sProp 𝕄} {P : Prop} {d : Decidable P} {k : PLift P → Prog (TpuEff nD τ sig (Elt F) Λ₀ .tc) α} (hP : P)
    (h : I ⊢ wpB 𝒱 c bd E (k ⟨hP⟩) Q) : I ⊢ wpB 𝒱 c bd E (Prog.lift (TpuEff.assume P d) >>= k) Q :=
  h.trans (wp_assume 𝒱 (c : Thread nD τ) bd E hP)

/-- The three actions that raise a row. -/
theorem raise_step {P : Vec F S128x128 .f32 → Prop} {off : Fin 2 → ℕ} {inb : ∀ a, off a + S1x128.size a ≤ S128x128.size a}
    {hl hl' : arg10.view.LoadsAt (Rect.unit (s := S128x128) off S1x128.size inb).toLoadRect}
    {hx : (arg10.access (Rect.unit (s := S128x128) off S1x128.size inb)).Stores Finset.univ}
    {hm : (Finset.univ : Finset (Rect.unit (s := S128x128) off S1x128.size inb).shape.Idx) = Finset.univ
      ∨ ∀ a, (Rect.unit (s := S128x128) off S1x128.size inb).stride a = 1}
    {u : FVec F S128 .f32} {K : Prog (TpuEff nD τ sig (Elt F) Λ₀ .tc) α} {g : ℕ} (hg : off = ![g, 0])
    (h : Inv c arg1 arg2 arg3 arg4 arg10 T1 T2 x ids R (fun f => ∃ f', P f' ∧ f = raiseRow g u f') ⊢ wpB 𝒱 c bd E K Q) :
    Inv c arg1 arg2 arg3 arg4 arg10 T1 T2 x ids R P ⊢ wpB 𝒱 c bd E (Prog.lift (.load arg10 (Rect.unit (s := S128x128) off S1x128.size inb).toLoadRect hl) >>= fun (v : Vec F S1x128 .f32) =>
      Prog.lift (.load arg10 (Rect.unit (s := S128x128) off S1x128.size inb).toLoadRect hl') >>= fun (_ : Vec F S1x128 .f32) =>
      Prog.lift (.store arg10 (Rect.unit (s := S128x128) off S1x128.size inb)
        (shapeCast S1x128 (maximumf (v : FVec F S1x128 .f32) (shapeCast S1x128 u shapeCasts_S128_S1x128)) shapeCasts_S1x128_S1x128) Finset.univ
        hx hm) >>= fun _ => K) Q :=
  inv_open fun f hf => act (own_load arg10 fullShare f) (act (own_load arg10 fullShare f)
    (act (own_store arg10 f) ((inv_intro _ ⟨f, hf, raise_eq inb u f hg⟩).trans h)))

/-- A loop whose trips carry `I`. -/
theorem step_for {β : Type} {L : Scf.Loop 32} {ok : L.OK} {init : β} {body : Fin L.trips → β → Prog (TpuEff nD τ sig (Elt F) Λ₀ .tc) β}
    {kk : β → Prog (TpuEff nD τ sig (Elt F) Λ₀ .tc) α} (I : ℕ → sProp 𝕄)
    (hb : ∀ (k : Fin L.trips) w, I k.val ⊢ wpB 𝒱 c bd E (body k w) fun _ => I (k.val + 1))
    (h : ∀ w, I L.trips ⊢ wpB 𝒱 c bd E (kk w) Q) : I 0 ⊢ wpB 𝒱 c bd E (Scf.Loop.for L ok init body >>= kk) Q := by
  refine BIBase.Entails.trans ?_ (BIClass.wand_elim (Scf.wp_for_bind frame (wpE (defs₀ (F := F)) 𝒱 (c : Thread nD τ) bd) E L.lb L.ub L.st ok init body
    (fun n _ => I n) hb (kk := kk) (Q := Q)))
  iintro H
  isplitl [H]
  · iexact H
  iintro %w H
  iapply (h w)
  iexact H

/-- A run whose segment numbers are all one. -/
theorem step_fast {lo hi : BitVec 32} {C : Prop} [Decidable C] {off : Fin 2 → ℕ} {inb : C → ∀ a, off a + S1x128.size a ≤ S128x128.size a}
    {v : Vec F S256x128 .f32} {ids' : IVec S256x1 32} {K : Prog (TpuEff nD τ sig (Elt F) Λ₀ .tc) α} (hC : C ↔ lo = hi) (hoff : off = ![lo.toNat, 0])
    (hA : ∀ f, A j f → A (j + 1) (runUpd lo hi ids' v f))
    (h : Inv c arg1 arg2 arg3 arg4 arg10 T1 T2 x ids R (Mid A j lo hi) ⊢ wpB 𝒱 c bd E K Q) :
    Inv c arg1 arg2 arg3 arg4 arg10 T1 T2 x ids R (A j) ⊢ wpB 𝒱 c bd E (dite C (fun hc =>
      Prog.lift (.load arg10 (Rect.unit (s := S128x128) off S1x128.size (inb hc)).toLoadRect (View.loadsAt_vmem h_S1x128)) >>= fun (v' : Vec F S1x128 .f32) =>
      Prog.lift (.load arg10 (Rect.unit (s := S128x128) off S1x128.size (inb hc)).toLoadRect (View.loadsAt_vmem h_S1x128)) >>= fun (_ : Vec F S1x128 .f32) =>
      Prog.lift (.store arg10 (Rect.unit (s := S128x128) off S1x128.size (inb hc))
        (shapeCast S1x128 (maximumf (v' : FVec F S1x128 .f32) (shapeCast S1x128
          (multiReduction .maximumf [0] S128 v 0xFF800000#32 reduces_S256x128_S128 (.inl rfl) rfl) shapeCasts_S128_S1x128))
          shapeCasts_S1x128_S1x128) Finset.univ (View.stores_vmem_bits_univ h_S1x128 rfl) (.inl rfl)) >>= fun _ => K) (fun _ => K)) Q := by
  by_cases hc : C
  · rw [dif_pos hc]
    refine raise_step (u := colMax v) hoff ((inv_mono ?_).trans h)
    rintro f ⟨f', hf', rfl⟩
    refine ⟨fun hne => absurd (hC.1 hc) hne, fun _ => ?_⟩
    have := hA f' hf'
    unfold runUpd at this
    rwa [if_pos (hC.1 hc)] at this
  · rw [dif_neg hc]
    exact (inv_mono fun f hf => ⟨fun _ => hf, fun he => absurd (hC.2 he) hc⟩).trans h

/-- A run of several segment numbers: one trip for each. -/
theorem step_slow {lo hi : BitVec 32} {C : Prop} [Decidable C] {L L2 : Scf.Loop 32} {ok : C → L.OK} {ok2 : C → L2.OK}
    {off : Fin L.trips → Fin 2 → ℕ} {inb : C → ∀ k, ∀ a, off k a + S1x128.size a ≤ S128x128.size a}
    {body2 : C → Fin L2.trips → BitVec 32 → Prog (TpuEff nD τ sig (Elt F) Λ₀ .tc) (BitVec 32)}
    {v : Vec F S256x128 .f32} {ids' : Vec F S256x1 .i32} {K : Prog (TpuEff nD τ sig (Elt F) Λ₀ .tc) α} (hC : C ↔ lo ≠ hi)
    (hL : L.trips = (k0_t1_loop lo hi).trips) (hL2 : L2.trips = 0) (hoff : ∀ k, off k = ![(Scf.iv lo 1#32 k).toNat, 0])
    (hA : ∀ f, A j f → A (j + 1) (runUpd lo hi ids' v f))
    (h : Inv c arg1 arg2 arg3 arg4 arg10 T1 T2 x ids R (A (j + 1)) ⊢ wpB 𝒱 c bd E K Q) :
    Inv c arg1 arg2 arg3 arg4 arg10 T1 T2 x ids R (Mid A j lo hi) ⊢ wpB 𝒱 c bd E (dite C (fun hc =>
      Scf.Loop.for L (ok hc) 0#32 (fun k (_ : BitVec 32) =>
        Prog.lift (.load arg10 (Rect.unit (s := S128x128) (off k) S1x128.size (inb hc k)).toLoadRect (View.loadsAt_vmem h_S1x128)) >>= fun (v' : Vec F S1x128 .f32) =>
        Prog.lift (.load arg10 (Rect.unit (s := S128x128) (off k) S1x128.size (inb hc k)).toLoadRect (View.loadsAt_vmem h_S1x128)) >>= fun (_ : Vec F S1x128 .f32) =>
        Prog.lift (.store arg10 (Rect.unit (s := S128x128) (off k) S1x128.size (inb hc k))
          (shapeCast S1x128 (maximumf (v' : FVec F S1x128 .f32) (shapeCast S1x128
            (multiReduction .maximumf [0] S128 (select (broadcastTo S256x128 (shapeCast S256x1 (cmpi .eq
              (shapeCast S256x1 ids' shapeCasts_S256x1_S256x1 : IVec S256x1 32) (broadcast S256x1 (Scf.iv lo 1#32 k)))
              shapeCasts_S256x1_S256x1) broadcasts_S256x1_S256x128) v (broadcast S256x128 (Scalar.ofBits .f32 0xFF800000#32)))
              0xFF800000#32 reduces_S256x128_S128 (.inl rfl) rfl) shapeCasts_S128_S1x128))
            shapeCasts_S1x128_S1x128) Finset.univ (View.stores_vmem_bits_univ h_S1x128 rfl) (.inl rfl)) >>= fun _ => pure 0#32) >>= fun w =>
      Scf.Loop.for L2 (ok2 hc) w (body2 hc) >>= fun _ => K) (fun _ => K)) Q := by
  by_cases hc : C
  · rw [dif_pos hc]
    have hne := hC.1 hc
    refine inv_open fun f hf => ?_
    have hf0 := hA f (hf.1 hne)
    unfold runUpd at hf0
    rw [if_neg hne, ← hL] at hf0
    refine (inv_intro (P := fun f' => f' = raised lo ids' v f 0) f rfl).trans
      (step_for (fun n => Inv c arg1 arg2 arg3 arg4 arg10 T1 T2 x ids R fun f' => f' = raised lo ids' v f n) ?_ fun w => ?_)
    · intro k w
      refine raise_step (u := colMax (only (Scf.iv lo 1#32 k) ids' v)) (hoff k) (step_ret (inv_mono ?_))
      rintro f' ⟨f'', rfl, rfl⟩
      rfl
    · rw [show Scf.Loop.for L2 (ok2 hc) w (body2 hc) = .ret w from Scf.for_eq_ret _ _ _ (ok2 hc) w (body2 hc) hL2]
      exact (inv_mono fun f' hf' => hf' ▸ hf0).trans h
  · rw [dif_neg hc]
    exact (inv_mono fun f hf => hf.2 (not_not.1 fun he => hc (hC.2 he))).trans h

end Body

end Cert.Proof

end
-- ==== Proof.Body.lean ====
/-
  The kernel's body at one grid point, whatever the accumulator's contents are said to meet: a family `A` of predicates,
  `A j` after `j` runs, closed under what a run does. At the last point the output block is the two matrix products plus
  the bias row.
-/
module

public import proofs.«01_k».proof.Proof.Steps

@[expose] public section

noncomputable section

namespace Cert.Proof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {𝒱 : Variants} {c : Dev nD} {bd : Option 𝒱.V} {E : Set Name}
variable {arg1 arg2 : Memref sig .tc .smem S416 .i32} {arg3 : Memref sig .tc .vmem S8192x128 .f32}
  {arg4 : Memref sig .tc .vmem S8192x1 .i32} {arg10 : Memref sig .tc .vmem S128x128 .f32} {T1 T2 : S416.Idx → Elt F .i32}
  {x : Vec F S8192x128 .f32} {ids : S8192x1.Idx → Elt F .i32} {R : sProp (MT nD τ sig Ix (Elt F) Name U Lvl)}
variable {α : Type} {Q : α → sProp (MT nD τ sig Ix (Elt F) Name U Lvl)}
variable {A : ℕ → Vec F S128x128 .f32 → Prop}

/-- Reading the whole of a 2-D array. -/
theorem whole_eq {γ : Type} {n m : ℕ} (y : (⟨2, ![n, m]⟩ : Shape).Idx → γ)
    (inb : ∀ a, (![0, 0] : Fin 2 → ℕ) a + (⟨2, ![n, m]⟩ : Shape).size a ≤ (⟨2, ![n, m]⟩ : Shape).size a) :
    (fun z => y ((Rect.unit (s := ⟨2, ![n, m]⟩) ![0, 0] (⟨2, ![n, m]⟩ : Shape).size inb).emb z)) = y := by
  funext z
  congr 1
  funext a
  apply Fin.ext
  fin_cases a
  · show 0 + 1 * (z 0).val = (z 0).val
    omega
  · show 0 + 1 * (z 1).val = (z 1).val
    omega

/-- Writing the whole of a 2-D array. -/
theorem whole_overlay {γ : Type} {n m : ℕ} (f w : (⟨2, ![n, m]⟩ : Shape).Idx → γ)
    (inb : ∀ a, (![0, 0] : Fin 2 → ℕ) a + (⟨2, ![n, m]⟩ : Shape).size a ≤ (⟨2, ![n, m]⟩ : Shape).size a) :
    (Rect.unit (s := ⟨2, ![n, m]⟩) ![0, 0] (⟨2, ![n, m]⟩ : Shape).size inb).overlay f w = w := by
  have h := whole_eq ((Rect.unit (s := ⟨2, ![n, m]⟩) ![0, 0] (⟨2, ![n, m]⟩ : Shape).size inb).overlay f w) inb
  rw [← h]
  funext z
  exact Rect.overlay_emb _ _ _ _

/-- The first point's fill of the accumulator. -/
theorem step_init {P : Vec F S128x128 .f32 → Prop} {C : Prop} [Decidable C] {w : Vec F S128x128 .f32}
    {K : Prog (TpuEff nD τ sig (Elt F) Λ₀ .tc) α}
    (hC : C → A 0 w)
    (hN : ¬C → ∀ f, P f → A 0 f) (h : Inv c arg1 arg2 arg3 arg4 arg10 T1 T2 x ids R (A 0) ⊢ wpB 𝒱 c bd E K Q) :
    Inv c arg1 arg2 arg3 arg4 arg10 T1 T2 x ids R P ⊢ wpB 𝒱 c bd E (dite C (fun _ =>
      Prog.lift (.load arg10 (Rect.unit (s := S128x128) ![0, 0] S128x128.size inb_S128x128_S128x128_0_0).toLoadRect
        (View.loadsAt_vmem h_S128x128)) >>= fun (_ : Vec F S128x128 .f32) =>
      Prog.lift (.store arg10 (Rect.unit (s := S128x128) ![0, 0] S128x128.size inb_S128x128_S128x128_0_0) w Finset.univ
        (View.stores_vmem_bits_univ h_S128x128 rfl) (.inl rfl)) >>= fun _ => K) (fun _ => K)) Q := by
  by_cases hc : C
  · rw [dif_pos hc]
    exact inv_open fun f hf => act (own_load arg10 fullShare f) (act (own_store arg10 f) ((inv_intro _ ((whole_overlay f w _).symm ▸ hC hc)).trans h))
  · rw [dif_neg hc]
    exact (inv_mono (hN hc)).trans h

/-- The output block: the accumulator and the globals' block against the two halves of the weights, plus the bias row. -/
def outv (f g w1 w2 : Vec F S128x128 .f32) (b : Vec F S1x128 .f32) : Vec F S128x128 .f32 :=
  addf (addf (matmul dot_S128x128_S128x128_S128x128_1_0_0_1_n_n none
      (select (broadcastTo S128x128 (shapeCast S128x1 (cmpi .slt (iota .tc S128x1 32 [0] iota_S128x1_d0_w32)
        (broadcast S128x1 128#32)) shapeCasts_S128x1_S128x1) broadcasts_S128x1_S128x128) f
        (broadcast S128x128 (Scalar.ofBits .f32 0x00000000#32) : FVec F S128x128 .f32))
      (shapeCast S128x128 w1 shapeCasts_S128x128_S128x128) (constant S128x128 .f32 0x00000000#32))
    (matmul dot_S128x128_S128x128_S128x128_1_0_0_1_n_n none (shapeCast S128x128 g shapeCasts_S128x128_S128x128)
      (shapeCast S128x128 w2 shapeCasts_S128x128_S128x128) (constant S128x128 .f32 0x00000000#32)))
    (broadcastTo S128x128 (shapeCast S1x128 b shapeCasts_S1x128_S1x128) broadcasts_S1x128_S128x128)

section Fin
variable {arg5 arg6 arg7 arg9 : Memref sig .tc .vmem S128x128 .f32} {arg8 : Memref sig .tc .vmem S1x128 .f32}
  {g w1 w2 o : Vec F S128x128 .f32} {b : Vec F S1x128 .f32}

/-- The four blocks the last point reads, and the output block at contents `o`. -/
def Rest (c : Dev nD) (arg5 arg6 arg7 arg9 : Memref sig .tc .vmem S128x128 .f32) (arg8 : Memref sig .tc .vmem S1x128 .f32)
    (g w1 w2 : Vec F S128x128 .f32) (b : Vec F S1x128 .f32) (o : Vec F S128x128 .f32) : sProp 𝕄 :=
  iprop(owns (c : Thread nD τ) arg9 fullShare o ∗ owns (c : Thread nD τ) arg5 fullShare g ∗ owns (c : Thread nD τ) arg6 fullShare w1
    ∗ owns (c : Thread nD τ) arg7 fullShare w2 ∗ owns (c : Thread nD τ) arg8 fullShare b)

theorem load_w {M : Memref sig .tc .vmem S128x128 .f32} {X : Vec F S128x128 .f32} {k : Vec F S128x128 .f32 → Prog (TpuEff nD τ sig (Elt F) Λ₀ .tc) α} :
    (owns (c : Thread nD τ) M fullShare X : sProp 𝕄) ⊢ iprop((owns (c : Thread nD τ) M fullShare X -∗ wpB 𝒱 c bd E (k X) Q)
      -∗ wpB 𝒱 c bd E (Prog.lift (.load M (Rect.unit (s := S128x128) ![0, 0] S128x128.size inb_S128x128_S128x128_0_0).toLoadRect
        (View.loadsAt_vmem h_S128x128)) >>= k) Q) := by
  have h := own_load (F := F) (Ix := Ix) (Name := Name) (U := U) (Lvl := Lvl) (𝒱 := 𝒱) (c := c) (bd := bd) (E := E) (Q := Q) M fullShare X
    (r := Rect.unit (s := S128x128) ![0, 0] S128x128.size inb_S128x128_S128x128_0_0) (hl := View.loadsAt_vmem h_S128x128) (k := k)
  have e : (fun y => X ((Rect.unit (s := S128x128) ![0, 0] S128x128.size inb_S128x128_S128x128_0_0).emb y)) = X := whole_eq X _
  rw [e] at h
  exact h

theorem load_b {M : Memref sig .tc .vmem S1x128 .f32} {X : Vec F S1x128 .f32} {k : Vec F S1x128 .f32 → Prog (TpuEff nD τ sig (Elt F) Λ₀ .tc) α} :
    (owns (c : Thread nD τ) M fullShare X : sProp 𝕄) ⊢ iprop((owns (c : Thread nD τ) M fullShare X -∗ wpB 𝒱 c bd E (k X) Q)
      -∗ wpB 𝒱 c bd E (Prog.lift (.load M (Rect.unit (s := S1x128) ![0, 0] S1x128.size inb_S1x128_S1x128_0_0).toLoadRect
        (View.loadsAt_vmem h_S1x128)) >>= k) Q) := by
  have h := own_load (F := F) (Ix := Ix) (Name := Name) (U := U) (Lvl := Lvl) (𝒱 := 𝒱) (c := c) (bd := bd) (E := E) (Q := Q) M fullShare X
    (r := Rect.unit (s := S1x128) ![0, 0] S1x128.size inb_S1x128_S1x128_0_0) (hl := View.loadsAt_vmem h_S1x128) (k := k)
  have e : (fun y => X ((Rect.unit (s := S1x128) ![0, 0] S1x128.size inb_S1x128_S1x128_0_0).emb y)) = X := whole_eq X _
  rw [e] at h
  exact h

theorem store_w {M : Memref sig .tc .vmem S128x128 .f32} {X w : Vec F S128x128 .f32} {k : PUnit → Prog (TpuEff nD τ sig (Elt F) Λ₀ .tc) α} :
    (owns (c : Thread nD τ) M fullShare X : sProp 𝕄) ⊢ iprop((owns (c : Thread nD τ) M fullShare w -∗ wpB 𝒱 c bd E (k ⟨⟩) Q)
      -∗ wpB 𝒱 c bd E (Prog.lift (.store M (Rect.unit (s := S128x128) ![0, 0] S128x128.size inb_S128x128_S128x128_0_0) w Finset.univ
        (View.stores_vmem_bits_univ h_S128x128 rfl) (.inl rfl)) >>= k) Q) := by
  have h := own_store (F := F) (Ix := Ix) (Name := Name) (U := U) (Lvl := Lvl) (𝒱 := 𝒱) (c := c) (bd := bd) (E := E) (Q := Q) M X
    (r := Rect.unit (s := S128x128) ![0, 0] S128x128.size inb_S128x128_S128x128_0_0) (w := w)
    (hx := View.stores_vmem_bits_univ h_S128x128 rfl) (hm := .inl rfl) (k := k)
  rw [show (Rect.unit (s := S128x128) ![0, 0] S128x128.size inb_S128x128_S128x128_0_0).overlay X w = w from whole_overlay X w _] at h
  exact h

/-- What the body leaves: the accumulator at contents meeting `P`, the output block rewritten when `C`. -/
def Done (c : Dev nD) (arg1 arg2 : Memref sig .tc .smem S416 .i32) (arg3 : Memref sig .tc .vmem S8192x128 .f32)
    (arg4 : Memref sig .tc .vmem S8192x1 .i32) (arg5 arg6 arg7 arg9 arg10 : Memref sig .tc .vmem S128x128 .f32)
    (arg8 : Memref sig .tc .vmem S1x128 .f32) (T1 T2 : S416.Idx → Elt F .i32) (x : Vec F S8192x128 .f32)
    (ids : S8192x1.Idx → Elt F .i32) (g w1 w2 : Vec F S128x128 .f32) (b : Vec F S1x128 .f32) (o : Vec F S128x128 .f32)
    (C : Prop) (P : Vec F S128x128 .f32 → Prop) : sProp 𝕄 :=
  iprop(∃ o', ⌜(C → ∃ f, P f ∧ o' = outv f g w1 w2 b) ∧ (¬C → o' = o)⌝
    ∗ Inv c arg1 arg2 arg3 arg4 arg10 T1 T2 x ids (Rest c arg5 arg6 arg7 arg9 arg8 g w1 w2 b o') P)

theorem done_intro {C : Prop} {P : Vec F S128x128 .f32 → Prop} (o' : Vec F S128x128 .f32)
    (ho : (C → ∃ f, P f ∧ o' = outv f g w1 w2 b) ∧ (¬C → o' = o)) :
    (Inv c arg1 arg2 arg3 arg4 arg10 T1 T2 x ids (Rest c arg5 arg6 arg7 arg9 arg8 g w1 w2 b o') P : sProp 𝕄)
      ⊢ Done c arg1 arg2 arg3 arg4 arg5 arg6 arg7 arg9 arg10 arg8 T1 T2 x ids g w1 w2 b o C P := by
  unfold Done
  iintro H
  iexists o'
  isplitr
  · ipureintro; exact ho
  iexact H

theorem rest_out {H1 H2 H3 H4 H5 : sProp 𝕄} : iprop(H1 ∗ H2 ∗ H3 ∗ H4 ∗ H5 ∗ Rest c arg5 arg6 arg7 arg9 arg8 g w1 w2 b o)
    ⊢ iprop(H1 ∗ owns (c : Thread nD τ) arg6 fullShare w1 ∗ owns (c : Thread nD τ) arg5 fullShare g ∗ owns (c : Thread nD τ) arg7 fullShare w2
      ∗ owns (c : Thread nD τ) arg8 fullShare b ∗ owns (c : Thread nD τ) arg9 fullShare o ∗ H2 ∗ H3 ∗ H4 ∗ H5) := by
  unfold Rest
  iintro ⟨H1, H2, H3, H4, H5, H9, H5', H6, H7, H8⟩
  isplitl [H1]; · iexact H1
  isplitl [H6]; · iexact H6
  isplitl [H5']; · iexact H5'
  isplitl [H7]; · iexact H7
  isplitl [H8]; · iexact H8
  isplitl [H9]; · iexact H9
  isplitl [H2]; · iexact H2
  isplitl [H3]; · iexact H3
  isplitl [H4]; · iexact H4
  iexact H5

theorem rest_in {H1 H2 H3 H4 H5 : sProp 𝕄} : iprop(H1 ∗ owns (c : Thread nD τ) arg6 fullShare w1 ∗ owns (c : Thread nD τ) arg5 fullShare g ∗ owns (c : Thread nD τ) arg7 fullShare w2
      ∗ owns (c : Thread nD τ) arg8 fullShare b ∗ owns (c : Thread nD τ) arg9 fullShare o ∗ H2 ∗ H3 ∗ H4 ∗ H5)
    ⊢ iprop(H1 ∗ H2 ∗ H3 ∗ H4 ∗ H5 ∗ Rest c arg5 arg6 arg7 arg9 arg8 g w1 w2 b o) := by
  unfold Rest
  iintro ⟨H1, H6, H5', H7, H8, H9, H2, H3, H4, H5⟩
  isplitl [H1]; · iexact H1
  isplitl [H2]; · iexact H2
  isplitl [H3]; · iexact H3
  isplitl [H4]; · iexact H4
  isplitl [H5]; · iexact H5
  isplitl [H9]; · iexact H9
  isplitl [H5']; · iexact H5'
  isplitl [H6]; · iexact H6
  isplitl [H7]; · iexact H7
  iexact H8

theorem act6 {A B C D G O O' S W W' : sProp 𝕄} (h : O ⊢ iprop((O' -∗ W') -∗ W)) (h' : iprop(A ∗ B ∗ C ∗ D ∗ G ∗ O' ∗ S) ⊢ W') :
    iprop(A ∗ B ∗ C ∗ D ∗ G ∗ O ∗ S) ⊢ W := by
  iintro ⟨HA, HB, HC, HD, HG, HO, HS⟩
  iapply h $$ HO
  iintro HO
  iapply h'
  isplitl [HA]; · iexact HA
  isplitl [HB]; · iexact HB
  isplitl [HC]; · iexact HC
  isplitl [HD]; · iexact HD
  isplitl [HG]; · iexact HG
  isplitl [HO]; · iexact HO
  iexact HS

/-- The last conditional. -/
theorem step_fin {C : Prop} [Decidable C] {P : Vec F S128x128 .f32 → Prop} {K : Prog (TpuEff nD τ sig (Elt F) Λ₀ .tc) α}
    (h : Done c arg1 arg2 arg3 arg4 arg5 arg6 arg7 arg9 arg10 arg8 T1 T2 x ids g w1 w2 b o C P ⊢ wpB 𝒱 c bd E K Q) :
    Inv c arg1 arg2 arg3 arg4 arg10 T1 T2 x ids (Rest c arg5 arg6 arg7 arg9 arg8 g w1 w2 b o) P ⊢ wpB 𝒱 c bd E (dite C (fun _ =>
      Prog.lift (.load arg10 (Rect.unit (s := S128x128) ![0, 0] S128x128.size inb_S128x128_S128x128_0_0).toLoadRect (View.loadsAt_vmem h_S128x128)) >>= fun (f : Vec F S128x128 .f32) =>
      Prog.lift (.load arg6 (Rect.unit (s := S128x128) ![0, 0] S128x128.size inb_S128x128_S128x128_0_0).toLoadRect (View.loadsAt_vmem h_S128x128)) >>= fun (w1 : Vec F S128x128 .f32) =>
      Prog.lift (.load arg5 (Rect.unit (s := S128x128) ![0, 0] S128x128.size inb_S128x128_S128x128_0_0).toLoadRect (View.loadsAt_vmem h_S128x128)) >>= fun (g : Vec F S128x128 .f32) =>
      Prog.lift (.load arg7 (Rect.unit (s := S128x128) ![0, 0] S128x128.size inb_S128x128_S128x128_0_0).toLoadRect (View.loadsAt_vmem h_S128x128)) >>= fun (w2 : Vec F S128x128 .f32) =>
      Prog.lift (.load arg8 (Rect.unit (s := S1x128) ![0, 0] S1x128.size inb_S1x128_S1x128_0_0).toLoadRect (View.loadsAt_vmem h_S1x128)) >>= fun (b : Vec F S1x128 .f32) =>
      Prog.lift (.load arg9 (Rect.unit (s := S128x128) ![0, 0] S128x128.size inb_S128x128_S128x128_0_0).toLoadRect (View.loadsAt_vmem h_S128x128)) >>= fun (_ : Vec F S128x128 .f32) =>
      Prog.lift (.store arg9 (Rect.unit (s := S128x128) ![0, 0] S128x128.size inb_S128x128_S128x128_0_0) (outv f g w1 w2 b) Finset.univ
        (View.stores_vmem_bits_univ h_S128x128 rfl) (.inl rfl)) >>= fun _ => K) (fun _ => K)) Q := by
  by_cases hc : C
  · rw [dif_pos hc]
    refine inv_open fun f hf => ?_
    refine BIBase.Entails.trans rest_out ?_
    refine act load_w ?_
    refine act2 load_w ?_
    refine act3 load_w ?_
    refine act4 load_w ?_
    refine act5 load_b ?_
    refine act6 load_w ?_
    refine act6 store_w ?_
    refine BIBase.Entails.trans rest_in ?_
    exact (inv_intro f hf).trans ((done_intro _ ⟨fun _ => ⟨f, hf, rfl⟩, fun hn => absurd hc hn⟩).trans h)
  · rw [dif_neg hc]
    exact (done_intro o ⟨fun h => absurd h hc, fun _ => rfl⟩).trans h

end Fin

/-- The accumulator's first contents: −∞ throughout. -/
def fillv : Vec F S128x128 .f32 :=
  shapeCast S128x128 (broadcast S128x128 (Scalar.ofBits .f32 0xFF800000#32) : FVec F S128x128 .f32) shapeCasts_S128x128_S128x128

theorem first_iff : ∀ i : grid0.Coords, Scalar.cmpi .ne (Scalar.extui (Scalar.cmpi .eq (BitVec.ofNat 32 (i 0).val) 0#32) : BitVec 32) 0#32 = 1#1
    ↔ (i 0).val = 0 := by decide +kernel

theorem last_iff : ∀ i : grid0.Coords, k0_cond66 i = 1#1 ↔ (i 0).val = 12 := by decide +kernel

set_option maxHeartbeats 4000000 in
theorem body_wp (i : grid0.Coords) {arg5 arg6 arg7 arg9 : Memref sig .tc .vmem S128x128 .f32} {arg8 : Memref sig .tc .vmem S1x128 .f32}
    {g w1 w2 o : Vec F S128x128 .f32} {b : Vec F S1x128 .f32}
    {harg1 harg2 harg3 harg4 harg5 harg6 harg7 harg8 harg9 harg10}
    (hb : ∀ j < 32, (tw T1 (32 * (i 0).val + j)).toNat ≤ (tw T2 (32 * (i 0).val + j)).toNat
      ∧ (tw T2 (32 * (i 0).val + j)).toNat ≤ 100)
    (hs : ∀ j < 32, ∀ f, A j f → A (j + 1) (runUpd (tw T1 (32 * (i 0).val + j)) (tw T2 (32 * (i 0).val + j)) (run ids j) (run x j) f))
    {P : Vec F S128x128 .f32 → Prop} (hC : (i 0).val = 0 → A 0 fillv)
    (hN : (i 0).val ≠ 0 → ∀ f, P f → A 0 f) :
    (Inv c arg1 arg2 arg3 arg4 arg10 T1 T2 x ids (Rest c arg5 arg6 arg7 arg9 arg8 g w1 w2 b o) P : sProp 𝕄)
    ⊢ wpB 𝒱 c bd E (cc0__seg_kernel (F := F) i arg1 harg1 arg2 harg2 arg3 harg3 arg4 harg4 arg5 harg5 arg6 harg6 arg7 harg7
        arg8 harg8 arg9 harg9 arg10 harg10) fun _ =>
        Done c arg1 arg2 arg3 arg4 arg5 arg6 arg7 arg9 arg10 arg8 T1 T2 x ids g w1 w2 b o (k0_cond66 i = 1#1) (A 32) := by
  unfold cc0__seg_kernel
  refine step_bind ?_
  refine step_init (A := A) ?h1 ?h2 ?_
  case h1 => exact fun h => hC ((first_iff i).1 h)
  case h2 => exact fun h => hN fun h' => h ((first_iff i).2 h')
  iterate 32
    try ((first | with_reducible refine step_ret ?_ | with_reducible refine step_ret' ?_); refine step_bind ?_)
    refine step_load3 rfl ?_
    try ((first | with_reducible refine step_ret ?_ | with_reducible refine step_ret' ?_); refine step_bind ?_)
    refine step_load4 rfl ?_
    try ((first | with_reducible refine step_ret ?_ | with_reducible refine step_ret' ?_); refine step_bind ?_)
    refine step_word1 (n := 32 * (i 0).val) ?hoff ?_
    case hoff => exact ClosedOff.eq.trans rfl
    try ((first | with_reducible refine step_ret ?_ | with_reducible refine step_ret' ?_); refine step_bind ?_)
    refine step_word2 (n := 32 * (i 0).val) ?hoff ?_
    case hoff => exact ClosedOff.eq.trans rfl
    try ((first | with_reducible refine step_ret ?_ | with_reducible refine step_ret' ?_); refine step_bind ?_)
    refine step_assume (chk_of (hb _ (by decide)).1 (hb _ (by decide)).2) ?_
    try ((first | with_reducible refine step_ret ?_ | with_reducible refine step_ret' ?_); refine step_bind ?_)
    refine step_fast (cond2_iff _ _) rfl (hs _ (by decide)) ?_
    try ((first | with_reducible refine step_ret ?_ | with_reducible refine step_ret' ?_); refine step_bind ?_)
    refine step_slow (cond3_iff _ _) rfl (Scf.rem_trips _ _) (fun _ => rfl) (hs _ (by decide)) ?_
  refine step_ret ?_
  refine step_fin (Ix := Ix) (Name := Name) (U := U) (Lvl := Lvl) ?_
  exact step_ret .rfl

end Cert.Proof

end
-- ==== Proof.Launch.lean ====
/-
  The region run with relational data, keeping what the line after the region writes: every bypassing buffer ends at
  that line's value over the arrays at contents the relation admits.
-/
module

public import proofs.«01_k».proof.Proof.Gen.Kernel.Launch
public import Idealize.ShloMosaic.Lib.Pipeline.FrameSuffix
public import Idealize.ShloMosaic.Lib.Tactic

@[expose] public section

noncomputable section

namespace Cert.Proof

open Idealize.ShloMosaic Idealize.ShloMosaic.TcCoe Idealize.ShloMosaic.Pipeline
open Idealize.SL Idealize.SL.RA Idealize.SL.BI Idealize.SL.BI.Laws Idealize.SL.ProofMode
open scoped Idealize.SL.BI
open Idealize.SL.BI.BIBase Idealize.SL.Sem
open Cert.Kernel Cert.Kernel.Gen
open Idealize.ShloMosaic.Rounds

variable {F : FTy → Type} [FloatOps F]

local notation "𝕄" => MT nD τ sig Unit (Elt F) ℕ (UR sig nD τ) ℕ

/-- The line after the region touches the pipeline's arrays and the bypassing buffers only. -/
theorem tail_sub : ∀ ops ∈ [hostOps1 (F := F)], ∀ op ∈ ops, op.bufs ⊆ tailRefs sig pre0 spec0 := by
  intro ops ho op hop
  simp only [List.mem_singleton] at ho
  subst ho
  refine sub_tailRefs pre0 spec0 op ((List.forall_iff_forall_mem.mp hostOps1_sub) op hop) ?_
  simp only [List.mem_singleton] at hop
  subst hop
  intro j
  fin_cases j <;>
    simp only [StableHlo.unary_bufs, Finset.mem_insert, Finset.mem_singleton, not_or] <;>
    and_intros <;> exact StableHlo.devRef_ne_of_ne (by decide)

theorem tail_fresh : ∀ ops ∈ [hostOps1 (F := F)], ∀ op ∈ ops, op.fresh = ∅ := by
  intro ops ho op hop
  simp only [List.mem_singleton] at ho
  subst ho
  simp only [List.mem_singleton] at hop
  subst hop
  rfl

theorem tail_keep : ∀ ops ∈ [hostOps1 (F := F)], ∀ op ∈ ops, ∀ w, Proc.devRef .tc (arrRef spec0 w) ∉ op.writes := by
  intro ops ho op hop
  simp only [List.mem_singleton] at ho
  subst ho
  simp only [List.mem_singleton] at hop
  subst hop
  intro w
  fin_cases w <;>
    simp only [StableHlo.unary_writes, Finset.mem_singleton] <;>
    exact StableHlo.devRef_ne_of_ne (by decide)

/-- The contents a device's buffers have when the region is entered. -/
def entryV (m : (ℓ : Loc nD τ sig) → Buf (Elt F) ℓ) (c : Dev nD) : Valuation τ sig (Elt F) :=
  StableHlo.after hostOps0 fun b => m (c, b)

theorem pre_fresh : [hostOps0 (F := F)].Forall fun ops => ops.Forall fun op => op.fresh = ∅ := by
  refine List.forall_iff_forall_mem.mpr fun ops ho => List.forall_iff_forall_mem.mpr fun op hop => ?_
  simp only [List.mem_singleton] at ho
  subst ho
  simp only [List.mem_cons, List.not_mem_nil, or_false] at hop
  rcases hop with h | h | h | h | h | h | h | h | h | h | h | h | h | h | h | h <;> subst h <;> rfl

theorem hmain (m : (ℓ : Loc nD τ sig) → Buf (Elt F) ℓ) (𝒱₀ : Variants) :
    HMainPK (Ix := Unit) (Name := ℕ) (U := UR sig nD τ) (Lvl := ℕ) pcfgs 0 defs₀ 𝒱₀ m (main (F := F))
      (fun c b => entryV m c (Proc.devRef .tc b)) (fun _ => Pipeline.chain ([hostOps1].map StableHlo.seq)) := by
  have h := hmainP_around (Ix := Unit) (Name := ℕ) (U := UR sig nD τ) (Lvl := ℕ) pcfgs 0 defs₀ 𝒱₀ m (main (F := F))
    [hostOps0] [hostOps1] hostOps0_sub pre_fresh (fun c => main_chain c)
  exact h

variable (a : (p : Fin 1) → (pcfgs (F := F) p).Adm)

/-- The region run with one relational datum per device. At the end every windowed array is at contents the relation
    admits, and every bypassing buffer holds what the line after the region makes of such contents. -/
theorem run_tail (𝒱₀ : Variants)
    (rdat : (c : Dev nD) → RDat τ (Elt F) Unit ℕ (UR sig nD τ) ℕ (pin pcfgs a 0) c)
    (m : (ℓ : Loc nD τ sig) → Buf (Elt F) ℓ) (g : Dev nD → PrngReg)
    (hbody : ∀ c, (rdat c).BodyObligation defs₀ 𝒱₀ () Set.univ)
    (hshare : ∀ c w, (rdat c).share w = fullShare) (howed : ∀ c t, (rdat c).owed t = 0)
    (hA : ∀ c w, (rdat c).A w = entryV m c (Proc.devRef .tc (arrRef (pin pcfgs a 0).spec w)))
    (hpf : ∀ c k, entryV m c (Proc.devRef .tc ((pcfgs (F := F) 0).pre.ref k)) = (a 0).1 k)
    (hin : ∀ c, iprop(ΦA (pin pcfgs a 0).spec c ∗ ΦT (pcfgs (F := F) 0).pre (a 0).1 c) ⊢ (rdat c).Φ 0)
    (hout : ∀ c, (rdat c).Φ (Fin.last (pin pcfgs a 0).N) ⊢ ΦA (pin pcfgs a 0).spec c)
    (Q : PUnit × MemSt nD τ sig (Elt F) → Prop)
    (hQ : ∀ r : PUnit × MemSt nD τ sig (Elt F),
      (∀ c w, (rdat c).ArrAt w (pin pcfgs a 0).N (r.2.mem (((pin pcfgs a 0).spec w).arr.view.loc (c.tc : Thread nD τ)))) →
      (∀ c, ∃ A, (∀ w, (rdat c).ArrAt w (pin pcfgs a 0).N (A w)) ∧ ∀ b ∈ restRefsP sig (pcfgs (F := F) 0).pre (pin pcfgs a 0).spec,
        r.2.mem ((c.tc : Thread nD τ).loc b)
          = StableHlo.after hostOps1 (withArrays (pin pcfgs a 0).spec c (entryV m c) A) (Proc.devRef .tc b)) →
      r.2.sem = (fun _ => 0) → Q r) :
    θ_run defs (onTc (main (F := F))) (s₀ m g) Q := by
  classical
  have hopen : ∀ c, ((RDat.familyOf pcfgs a 0 rdat 0 c).arraysAt (pin pcfgs a 0).N : sProp 𝕄)
      ⊢ iprop(∃ A, ⌜∀ w, (rdat c).ArrAt w (pin pcfgs a 0).N (A w)⌝ ∗ (rdat c).arrays A) := fun c => by
    rw [RDat.familyOf_self]
    unfold RDat.arraysAt
    iintro H
    ihave H := (BI.bigSep_exists_pi Finset.univ (fun w G => iprop(⌜(rdat c).ArrAt w (pin pcfgs a 0).N G⌝
        ∗ ((pin pcfgs a 0).win w).arr.view.loc (c.tc : Thread nD τ)
            ↦[((pin pcfgs a 0).win w).arr.view.set]{(rdat c).share w} G))) $$ H
    icases H with ⟨%A, H⟩
    ihave H := (BI.bigSep_pure_sep Finset.univ (fun w => (rdat c).ArrAt w (pin pcfgs a 0).N (A w))
        (fun w => ((pin pcfgs a 0).win w).arr.view.loc (c.tc : Thread nD τ)
            ↦[((pin pcfgs a 0).win w).arr.view.set]{(rdat c).share w} A w)) $$ H
    icases H with ⟨%hAt, H⟩
    iexists A
    isplitr
    · ipureintro; exact fun w => hAt w (Finset.mem_univ w)
    · unfold RDat.arrays; iexact H
  have hclose : ∀ c A, (∀ w, (rdat c).ArrAt w (pin pcfgs a 0).N (A w)) →
      ((rdat c).arrays A : sProp 𝕄) ⊢ (RDat.familyOf pcfgs a 0 rdat 0 c).arraysAt (pin pcfgs a 0).N := fun c A hAt => by
    rw [RDat.familyOf_self]
    unfold RDat.arraysAt RDat.arrays
    refine BI.bigSep_mono fun w _ => ?_
    show (((pin pcfgs a 0).win w).arr.view.loc (c.tc : Thread nD τ)
        ↦[((pin pcfgs a 0).win w).arr.view.set]{(rdat c).share w} A w : sProp 𝕄)
      ⊢ iprop(∃ G, ⌜(rdat c).ArrAt w (pin pcfgs a 0).N G⌝ ∗ ((pin pcfgs a 0).win w).arr.view.loc (c.tc : Thread nD τ)
        ↦[((pin pcfgs a 0).win w).arr.view.set]{(rdat c).share w} G)
    iintro H
    iexists (A w)
    isplitr
    · ipureintro; exact hAt w
    · iexact H
  let kit : PLaunchFacts₀ (nD := nD) (τ := τ) (pcfgs (F := F)) 0 := launch0.to₀
  have hq : ∀ c w, ((pin pcfgs a 0).spec w).isOut = false → (rdat c).q w = shareOf (pin pcfgs a 0).spec w :=
    fun c w hw => (rdat c).q_eq_shareOf_of_share_full (launch0 (F := F)).win.arr_inj (hshare c) w hw
  exact RDat.θ_run_region_pf_tail_quiescent pcfgs a (RDat.familyOf pcfgs a 0 rdat) () (kit.cellOf_inj a) 0 kit.win
    (OwnSemFacts.none (pin pcfgs a 0).spec) kit.pre emb₁ defs₀ 𝒱₀ m g main
    (fun _ => Pipeline.chain ([hostOps1].map StableHlo.seq)) (fun c => by rw [RDat.familyOf_self]; exact hbody c)
    kit.block_pos kit.arr_whole kit.stage_whole (fun c t => by rw [RDat.familyOf_self]; exact howed c t)
    (G := fun _ => iprop(emp)) (u₀ := initOf (cells (pin pcfgs a) (kit.cellOf_inj a)) (launchToks (pin pcfgs a) (kit.cellOf_inj a)))
    (hu₀ := by
      iintro Hu; imodintro
      isplitl [Hu]
      · iapply (show (ownU _ : sProp 𝕄) ⊢ BI.own (emb₁ (initOf (cells (pin pcfgs a) (kit.cellOf_inj a))
          (launchToks (pin pcfgs a) (kit.cellOf_inj a)))) from .rfl)
        iexact Hu
      iapply (show (BI.emp : sProp 𝕄) ⊢ bigSep Finset.univ (fun _ : Dev nD => (BI.emp : sProp 𝕄)) from by rw [BI.bigSep_emp_const])
      iempintro)
    (V := fun c b => entryV m c (Proc.devRef .tc b)) (hmain := hmain m 𝒱₀)
    (hsplit := fun c => by
      rw [RDat.familyOf_self]
      exact (rdat c).arrays_split_shared kit.sharedIn kit.arr_whole (hq c) (fun b => entryV m c (Proc.devRef .tc b)) _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcfgs (F := F) 0).pre (pin pcfgs a 0).spec c
      (fun b => entryV m c (Proc.devRef .tc b)))
    (Z' := fun c => iprop(∃ A, ⌜∀ w, (rdat c).ArrAt w (pin pcfgs a 0).N (A w)⌝
      ∗ unscopedRestP (Ix := Unit) (Name := ℕ) (U := UR sig nD τ) (Lvl := ℕ) (pcfgs (F := F) 0).pre (pin pcfgs a 0).spec c
        (fun b => StableHlo.after hostOps1 (withArrays (pin pcfgs a 0).spec c (entryV m c) A) (Proc.devRef .tc b))))
    (hX := fun c => by
      iintro ⟨HU, -, -, Hp, -⟩; imodintro
      isplitl [Hp]
      · iexists _; iexact Hp
      iexact HU)
    (hin := fun c => by
      rw [RDat.familyOf_self]
      refine BIBase.Entails.trans ?_ (hin c)
      unfold ΦA ΦT
      iintro ⟨Hp, Ht, Hr⟩
      isplitr [Ht]
      · isplitl [Hr] <;> iassumption
      · iexact Ht)
    (hout := fun c => by
      rw [RDat.familyOf_self]
      refine BIBase.Entails.trans (hout c) ?_
      rw [ownSems0_none]
      unfold ΦA
      iintro ⟨Hr, Hp⟩
      isplitl [Hp]
      · iexact Hp
      isplitr
      · iempintro
      iexact Hr)
    (htail := fun c Q' => by
      iintro ⟨Hk, Hb, Ha, HZ⟩
      ihave Ha := (hopen c) $$ Ha
      icases Ha with ⟨%A, %hAt, Ha⟩
      have hB : (rdat c).arrays A = arrBufs (pin pcfgs a 0).spec c
          (fun b => withArrays (pin pcfgs a 0).spec c (entryV m c) A (Proc.devRef .tc b)) :=
        ((rdat c).arrBufs_eq_arrays kit.sharedIn kit.arr_whole (hq c) _ A fun w =>
          (withArrays_arr_shared (pin pcfgs a 0).spec c (entryV m c) A
            ((rdat c).ArrAt_sharedIn kit.sharedIn (entryV m c) (hA c) (pin pcfgs a 0).N A hAt) w).symm).symm
      iapply (tail_seqs_bufs_b pcfgs defs₀ 𝒱₀ (pcfgs (F := F) 0).pre (pin pcfgs a 0).spec c (entryV m c) A [hostOps1]
        tail_sub tail_fresh tail_keep Q')
      isplitl [Hk]
      · iintro ⟨Hb, Ha, Hu⟩
        iapply Hk
        isplitl [Hb]
        · iexact Hb
        isplitl [Ha]
        · iapply (hclose c A hAt); iapply (Entails.of_eq hB.symm); iexact Ha
        iexists A
        isplitr
        · ipureintro; exact hAt
        · iexact Hu
      · isplitl [Hb]
        · iexact Hb
        isplitl [Ha]
        · iapply (Entails.of_eq hB); iexact Ha
        iexact HZ)
    (QY := fun c s => ∃ A, (∀ w, (rdat c).ArrAt w (pin pcfgs a 0).N (A w))
      ∧ ∀ b ∈ restRefsP sig (pcfgs (F := F) 0).pre (pin pcfgs a 0).spec, s.mem ((c.tc : Thread nD τ).loc b)
          = StableHlo.after hostOps1 (withArrays (pin pcfgs a 0).spec c (entryV m c) A) (Proc.devRef .tc b))
    (hY := fun c s' => by
      iintro ⟨-, HZ, HS⟩
      icases HZ with ⟨%A, %hAt, HZ⟩
      unfold unscopedRestP
      ihave H := (pointsTo_read_all (restRefsP sig (pcfgs (F := F) 0).pre (pin pcfgs a 0).spec) (fun b => (c.tc : Thread nD τ).loc b)
        (fun b => StableHlo.after hostOps1 (withArrays (pin pcfgs a 0).spec c (entryV m c) A) (Proc.devRef .tc b)) s') $$ [HZ HS]
      · isplitl [HZ] <;> iassumption
      icases H with ⟨%hZ, HS⟩
      imodintro
      isplitr
      · ipureintro; exact ⟨A, hAt, fun b hb => hZ b hb⟩
      · iexact HS)
    (hQ := fun s h hz => hQ (⟨⟩, s) (fun c w => by simpa only [RDat.familyOf_self] using (h c).1 w)
      (fun c => (h c).2.2) hz)

end Cert.Proof

end
-- ==== Proof.Data.lean ====
/-
  The relational data of the region and its body obligation, at any family of predicates on the accumulator closed under
  the kernel's 416 runs of 256 rows.
-/
module

public import proofs.«01_k».proof.Proof.Body
public import proofs.«01_k».proof.Proof.Launch
public import Idealize.ShloMosaic.Lib.Pipeline.FrameBody
public import Idealize.ShloMosaic.Lib.Pipeline.ValueKit

@[expose] public section

noncomputable section

namespace Cert.Proof

open Cert.Kernel Cert.Kernel.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (a : (p : Fin 1) → (pcfgs (F := F) p).Adm) (V : Dev nD → Valuation τ sig (Elt F))
  (A : Dev nD → ℕ → Vec F S128x128 .f32 → Prop)

/-- The first and the last id of every run, as the kernel reads them. -/
abbrev lows : S416.Idx → Elt F .i32 := (a 0).1 (0 : Fin 2)
abbrev highs : S416.Idx → Elt F .i32 := (a 0).1 (1 : Fin 2)

/-- The arrays at the region's entry. -/
abbrev nodesV (c : Dev nD) : Vec F S100000x128 .f32 := V c (Proc.devRef .tc main_arg0)
abbrev idsV (c : Dev nD) : S106496x1.Idx → Elt F .i32 := V c (Proc.devRef .tc main_v3)
abbrev globV (c : Dev nD) : Vec F S128x128 .f32 := V c (Proc.devRef .tc main_v8)
abbrev w1V (c : Dev nD) : Vec F S128x128 .f32 := V c (Proc.devRef .tc main_v9)
abbrev w2V (c : Dev nD) : Vec F S128x128 .f32 := V c (Proc.devRef .tc main_v10)
abbrev biasV (c : Dev nD) : Vec F S1x128 .f32 := V c (Proc.devRef .tc main_v11)

/-- The ids of run `n`. -/
def idsRun (ids : S106496x1.Idx → Elt F .i32) (n : ℕ) : S256x1.Idx → Elt F .i32 :=
  fun y => ids (ix2 ⟨(256 * n + (y 0).val) % 106496, Nat.mod_lt _ (by decide)⟩ (y 1))

/-- `xr` is run `n` of the rows, as far as there are rows. -/
def RowsOf (nodes : Vec F S100000x128 .f32) (n : ℕ) (xr : Vec F S256x128 .f32) : Prop :=
  ∀ (y : S256x128.Idx) (h : 256 * n + (y 0).val < 100000), xr y = nodes (ix2 ⟨256 * n + (y 0).val, h⟩ (y 1))

/-- What a family of predicates on the accumulator must meet: true of the fill, kept by every run. -/
structure Closed : Prop where
  bounds : ∀ n < 416, (tw (lows a) n).toNat ≤ (tw (highs a) n).toNat ∧ (tw (highs a) n).toNat ≤ 100
  start : ∀ c, A c 0 fillv
  step : ∀ c, ∀ n < 416, ∀ xr, RowsOf (nodesV V c) n xr → ∀ f, A c n f →
    A c (n + 1) (runUpd (tw (lows a) n) (tw (highs a) n) (idsRun (idsV V c) n) xr f)

/-- What the output block may hold at the end. -/
def Out (c : Dev nD) (X : Vec F S128x128 .f32) : Prop :=
  ∃ f, A c 416 f ∧ X = outv f (globV V c) (w1V V c) (w2V V c) (biasV V c)

/-- The invariant before a point: the accumulator, the generator register, the two tables. -/
def inv (c : Dev nD) (n : ℕ) : sProp 𝕄 :=
  iprop((∃ f : Vec F S128x128 .f32, ⌜n ≠ 0 → A c (32 * n) f⌝ ∗ ((c : Thread nD τ).loc cc0_scratch0) ↦{fullShare} f)
    ∗ (∃ r, prngReg c r) ∗ prefHeld pre0 c (fun _ => fullShare.right) (a 0).1)

/-- The output block is written at the last point only; every other buffer is left as found. -/
def after (c : Dev nD) : (w : Fin 7) → Fin (pin pcfgs a 0).N → (Y X : (spec0 w).block.Idx → Elt F (spec0 w).elt) → Prop
  | 6, t, Y, X => (t.val = 12 → Out V A c X) ∧ (t.val ≠ 12 → X = Y)
  | _, _, Y, X => X = Y

def rdat (c : Dev nD) : RDat τ (Elt F) Unit ℕ (UR sig nD τ) ℕ (pin pcfgs a 0) c where
  A := fun w => V c (Proc.devRef .tc (arrRef (pin pcfgs a 0).spec w))
  after := after a V A c
  Φ := fun t => inv a A c t.val
  q := fun _ => fullShare
  owed := fun _ => 0

theorem after_in {c : Dev nD} {w : Fin 7} (hw : w ≠ 6) {t : Fin (pin pcfgs a 0).N} {Y X} (h : after a V A c w t Y X) : X = Y := by
  fin_cases w <;> first | exact h | exact absurd rfl hw

theorem point_val : ∀ t : Fin grid0.N, (grid0.coords t 0).val = t.val := by decide

theorem index0 : ∀ t : Fin grid0.N, cc0_transform_0 (grid0.coords t) 0 = t.val ∧ cc0_transform_0 (grid0.coords t) 1 = 0 := by
  decide

theorem index1 : ∀ t : Fin grid0.N, cc0_transform_1 (grid0.coords t) 0 = t.val ∧ cc0_transform_1 (grid0.coords t) 1 = 0 := by
  decide

/-- The uncut windows read alike at every point with one block index. -/
theorem found_in {c : Dev nD} (w : Fin 7) (hw : w ≠ 6) (t : Fin (pin pcfgs a 0).N) (Y) (h : (rdat a V A c).Finds w t Y) :
    ∃ d, Y = (rdat a V A c).fetched w t d := by
  refine (rdat a V A c).finds_in_eq_fetched w ?_ ?_ (fun t Y X h => after_in a V A hw h) t Y h
  · fin_cases w <;> first | rfl | exact absurd rfl hw
  · intro t t' ht
    fin_cases w <;> first | rfl | exact absurd rfl hw | skip
    show clip0_0 _ = clip0_0 _
    unfold clip0_0
    funext b
    rw [show cc0_transform_0 (grid0.coords t) = cc0_transform_0 (grid0.coords t') from ht]

/-- A fetch at a place the transfer reaches is the array's element there. -/
theorem fetched_at {c : Dev nD} (w : Fin 7) (t : Fin (pin pcfgs a 0).N) (d) (y : (spec0 w).block.Idx)
    (hm : ∀ b, (y b).val < ((pin pcfgs a 0).win w).xsize ((pin pcfgs a 0).grid.coords t) b) :
    (rdat a V A c).fetched w t d y = (rdat a V A c).blockOf w t fun b => ⟨(y b).val, hm b⟩ := by
  have h := (((pin pcfgs a 0).win w).moved_iff ((pin pcfgs a 0).grid.coords t) y).2 hm
  unfold RDat.fetched Window.fill
  rw [dif_pos h]

theorem found0 {c : Dev nD} (t : Fin (pin pcfgs a 0).N) (Y) (h : (rdat a V A c).Finds (0 : Fin 7) t Y) (j : ℕ) (hj : j < 32) :
    RowsOf (nodesV V c) (32 * t.val + j) (run (Y : Vec F S8192x128 .f32) j) := by
  obtain ⟨d, rfl⟩ := found_in a V A 0 (by decide) t Y h
  intro y hy
  have h0 := (y 0).isLt
  have h1 := (y 1).isLt
  change (y 0).val < 256 at h0
  refine (fetched_at a V A (0 : Fin 7) t d (ix2 ⟨(256 * j + (y 0).val) % 8192, Nat.mod_lt _ (by decide)⟩ (y 1)) ?_).trans ?_
  · intro b
    have hi := point_val t
    fin_cases b
    · show (256 * j + (y 0).val) % 8192 < Clip.extent (clip0_0 (grid0.coords t) 0) 8192
      unfold clip0_0
      rw [(index0 t).1]
      show (256 * j + (y 0).val) % 8192 < Clip.extent (Clip.of t.val 8192 100000) 8192
      unfold Clip.of
      split
      · show _ < 8192
        omega
      · show _ < 100000 - t.val * 8192
        omega
    · exact h1
  · refine congrArg (nodesV V c) (funext fun b => Fin.ext ?_)
    have hx0 : ((pin pcfgs a 0).win (0 : Fin 7)).index t 0 = t.val := (index0 t).1
    have hx1 : ((pin pcfgs a 0).win (0 : Fin 7)).index t 1 = 0 := (index0 t).2
    fin_cases b <;> blk_simp
    · rw [hx0]
      show t.val * 8192 + (256 * j + (y 0).val) % 8192 = 256 * (32 * t.val + j) + (y 0).val
      omega
    · rw [hx1]
      show 0 * 128 + (y 1).val = (y 1).val
      omega

theorem found1 {c : Dev nD} (t : Fin (pin pcfgs a 0).N) (Y) (h : (rdat a V A c).Finds (1 : Fin 7) t Y) (j : ℕ) (hj : j < 32) :
    run (Y : S8192x1.Idx → Elt F .i32) j = idsRun (idsV V c) (32 * t.val + j) := by
  obtain ⟨d, rfl⟩ := found_in a V A 1 (by decide) t Y h
  funext y
  have h0 := (y 0).isLt
  change (y 0).val < 256 at h0
  have ht : t.val < 13 := t.isLt
  refine (fetched_at a V A (1 : Fin 7) t d (ix2 ⟨(256 * j + (y 0).val) % 8192, Nat.mod_lt _ (by decide)⟩ (y 1)) (fun b => Fin.isLt _)).trans ?_
  refine congrArg (idsV V c) (funext fun b => Fin.ext ?_)
  have hx0 : ((pin pcfgs a 0).win (1 : Fin 7)).index t 0 = t.val := (index1 t).1
  have hx1 : ((pin pcfgs a 0).win (1 : Fin 7)).index t 1 = 0 := (index1 t).2
  fin_cases b <;> blk_simp
  · rw [hx0]
    show t.val * 8192 + (256 * j + (y 0).val) % 8192 = (256 * (32 * t.val + j) + (y 0).val) % 106496
    omega
  · rw [hx1]
    rfl

theorem found2 {c : Dev nD} (t : Fin (pin pcfgs a 0).N) (Y) (h : (rdat a V A c).Finds (2 : Fin 7) t Y) : Y = globV V c := by
  obtain ⟨d, rfl⟩ := found_in a V A 2 (by decide) t Y h
  funext y
  refine (fetched_at a V A (2 : Fin 7) t d y (fun b => (y b).isLt)).trans ?_
  exact congrArg (globV V c) (funext fun b => Fin.ext (by fin_cases b <;> blk_simp <;> (show 0 * _ + (y _).val = (y _).val; omega)))

theorem found3 {c : Dev nD} (t : Fin (pin pcfgs a 0).N) (Y) (h : (rdat a V A c).Finds (3 : Fin 7) t Y) : Y = w1V V c := by
  obtain ⟨d, rfl⟩ := found_in a V A 3 (by decide) t Y h
  funext y
  refine (fetched_at a V A (3 : Fin 7) t d y (fun b => (y b).isLt)).trans ?_
  exact congrArg (w1V V c) (funext fun b => Fin.ext (by fin_cases b <;> blk_simp <;> (show 0 * _ + (y _).val = (y _).val; omega)))

theorem found4 {c : Dev nD} (t : Fin (pin pcfgs a 0).N) (Y) (h : (rdat a V A c).Finds (4 : Fin 7) t Y) : Y = w2V V c := by
  obtain ⟨d, rfl⟩ := found_in a V A 4 (by decide) t Y h
  funext y
  refine (fetched_at a V A (4 : Fin 7) t d y (fun b => (y b).isLt)).trans ?_
  exact congrArg (w2V V c) (funext fun b => Fin.ext (by fin_cases b <;> blk_simp <;> (show 0 * _ + (y _).val = (y _).val; omega)))

theorem found5 {c : Dev nD} (t : Fin (pin pcfgs a 0).N) (Y) (h : (rdat a V A c).Finds (5 : Fin 7) t Y) : Y = biasV V c := by
  obtain ⟨d, rfl⟩ := found_in a V A 5 (by decide) t Y h
  funext y
  refine (fetched_at a V A (5 : Fin 7) t d y (fun b => (y b).isLt)).trans ?_
  exact congrArg (biasV V c) (funext fun b => Fin.ext (by
    fin_cases b <;> blk_simp
    · rfl
    · show 0 * _ + (y _).val = (y _).val; omega))

variable {a V A}

theorem pref_open (c : Dev nD) : (prefHeld pre0 c (fun _ => fullShare.right) (a 0).1 : sProp 𝕄)
    = iprop(owns (c : Thread nD τ) (Memref.whole main_v4) fullShare.right (lows a)
      ∗ owns (c : Thread nD τ) (Memref.whole main_v5) fullShare.right (highs a)) := by
  rw [owns_whole, owns_whole]
  exact bigSep_univ_eq_bigSepL [(0 : Fin 2), (1 : Fin 2)] (by decide) (by decide) _

theorem body_obligation (hcl : Closed a V A) (𝒱₀ : Variants) (c : Dev nD) :
    (rdat a V A c).BodyObligation defs₀ 𝒱₀ () Set.univ := by
  intro t Y hY
  have hi := point_val t
  refine BIBase.Entails.trans (sep_mono .rfl (sep_mono .rfl (Entails.of_eq (bigSep_W0 _)))) ?_
  have hb := body_wp (F := F) (Ix := Unit) (Name := ℕ) (U := UR sig nD τ) (Lvl := ℕ) (𝒱 := 𝒱₀) (c := c) (bd := none)
    (E := Set.univ) (T1 := lows a) (T2 := highs a)
    (x := Y (0 : Fin 7)) (ids := Y (1 : Fin 7)) (A := fun j => A c (32 * t.val + j)) (grid0.coords t)
    (arg1 := Memref.whole main_v4) (arg2 := Memref.whole main_v5)
    (arg3 := spec0_0.stage ((pin pcfgs a 0).slots t (0 : Fin 7))) (arg4 := spec0_1.stage ((pin pcfgs a 0).slots t (1 : Fin 7)))
    (arg5 := spec0_2.stage ((pin pcfgs a 0).slots t (2 : Fin 7))) (arg6 := spec0_3.stage ((pin pcfgs a 0).slots t (3 : Fin 7)))
    (arg7 := spec0_4.stage ((pin pcfgs a 0).slots t (4 : Fin 7))) (arg8 := spec0_5.stage ((pin pcfgs a 0).slots t (5 : Fin 7)))
    (arg9 := spec0_6.stage ((pin pcfgs a 0).slots t (6 : Fin 7))) (arg10 := Memref.whole cc0_scratch0)
    (g := Y (2 : Fin 7)) (w1 := Y (3 : Fin 7)) (w2 := Y (4 : Fin 7)) (b := Y (5 : Fin 7)) (o := Y (6 : Fin 7))
    (harg1 := Memref.isWhole_whole _) (harg2 := Memref.isWhole_whole _)
    (harg3 := hstage0_0 (((pin pcfgs a 0).slots t (0 : Fin 7)).cast nbuf0_0))
    (harg4 := hstage0_1 (((pin pcfgs a 0).slots t (1 : Fin 7)).cast nbuf0_1))
    (harg5 := hstage0_2 (((pin pcfgs a 0).slots t (2 : Fin 7)).cast nbuf0_2))
    (harg6 := hstage0_3 (((pin pcfgs a 0).slots t (3 : Fin 7)).cast nbuf0_3))
    (harg7 := hstage0_4 (((pin pcfgs a 0).slots t (4 : Fin 7)).cast nbuf0_4))
    (harg8 := hstage0_5 (((pin pcfgs a 0).slots t (5 : Fin 7)).cast nbuf0_5))
    (harg9 := hstage0_6 (((pin pcfgs a 0).slots t (6 : Fin 7)).cast nbuf0_6))
    (harg10 := Memref.isWhole_whole _)
    (P := fun f => t.val ≠ 0 → A c (32 * t.val) f)
    (by
      intro j hj
      rw [hi]
      exact hcl.bounds _ (by have : t.val < 13 := t.isLt; omega))
    (by
      intro j hj f hf
      rw [hi]
      have h1 := found1 a V A t _ (hY (1 : Fin 7)) j hj
      have h0 := found0 a V A t _ (hY (0 : Fin 7)) j hj
      have := hcl.step c (32 * t.val + j) (by have : t.val < 13 := t.isLt; omega) _ h0 f hf
      rw [← h1] at this
      exact this)
    (fun h0 => by
      rw [hi] at h0
      rw [h0]
      exact hcl.start c)
    (fun h0 f hf => by
      rw [hi] at h0
      exact hf h0)
  have hf := BIBase.Entails.trans
    (sep_mono hb (.refl (iprop((∃ r, prngReg c r) ∗ (rdat a V A c).owesAt () t.castSucc) : sProp 𝕄))) (wp_frame_r _ _ _)
  refine BIBase.Entails.trans ?_ (BIBase.Entails.trans hf (wp_mono _ _ _ fun _ =>
    BIBase.Entails.trans ?_ (sep_mono .rfl (sep_mono .rfl (Entails.of_eq (bigSep_W0 _).symm)))))
  · show iprop(inv a A c t.val ∗ _) ⊢ iprop(_ ∗ _)
    unfold inv Inv Rest
    rw [pref_open]
    simp only [owns_whole]
    iintro ⟨⟨Hs, Hp, Ht1, Ht2⟩, Hw, H0, H1, H2, H3, H4, H5, H6⟩
    icases Hs with ⟨%f, %hf, Hs⟩
    isplitr [Hp Hw]
    · iexists f
      isplitr
      · ipureintro; exact hf
      isplitl [Hs]; · iexact Hs
      isplitl [Ht1]; · iexact Ht1
      isplitl [Ht2]; · iexact Ht2
      isplitl [H0]; · iexact H0
      isplitl [H1]; · iexact H1
      isplitl [H6]; · iexact H6
      isplitl [H2]; · iexact H2
      isplitl [H3]; · iexact H3
      isplitl [H4]; · iexact H4
      iexact H5
    · isplitl [Hp]; · iexact Hp
      iexact Hw
  · show iprop(_ ∗ _) ⊢ iprop(inv a A c (t.val + 1) ∗ _)
    unfold inv Done Inv Rest
    rw [pref_open]
    simp only [owns_whole]
    iintro ⟨H, Hp, Hw⟩
    icases H with ⟨%o', %ho, %f, %hf, Hs, Ht1, Ht2, H0, H1, H6, H2, H3, H4, H5⟩
    isplitl [Hs Hp Ht1 Ht2]
    · isplitl [Hs]
      · iexists f
        isplitr
        · ipureintro
          intro _
          rw [Nat.mul_add]
          exact hf
        · iexact Hs
      isplitl [Hp]; · iexact Hp
      isplitl [Ht1]; · iexact Ht1
      iexact Ht2
    isplitl [Hw]; · iexact Hw
    isplitl [H0]
    · iexists _; isplitr
      · ipureintro; exact rfl
      · iexact H0
    isplitl [H1]
    · iexists _; isplitr
      · ipureintro; exact rfl
      · iexact H1
    isplitl [H2]
    · iexists _; isplitr
      · ipureintro; exact rfl
      · iexact H2
    isplitl [H3]
    · iexists _; isplitr
      · ipureintro; exact rfl
      · iexact H3
    isplitl [H4]
    · iexists _; isplitr
      · ipureintro; exact rfl
      · iexact H4
    isplitl [H5]
    · iexists _; isplitr
      · ipureintro; exact rfl
      · iexact H5
    iexists o'; isplitr
    · ipureintro
      refine ⟨fun h12 => ?_, fun h12 => ho.2 fun hc => h12 ?_⟩
      · obtain ⟨f', hf', rfl⟩ := ho.1 ((last_iff _).2 (hi.trans h12))
        refine ⟨f', ?_, ?_⟩
        · rw [h12] at hf'; exact hf'
        · rw [found2 a V A t _ (hY (2 : Fin 7)), found3 a V A t _ (hY (3 : Fin 7)), found4 a V A t _ (hY (4 : Fin 7)),
            found5 a V A t _ (hY (5 : Fin 7))]
      · exact hi.symm.trans ((last_iff _).1 hc)
    · iexact H6

end Cert.Proof

end
-- ==== Proof.Run.lean ====
/-
  The whole program run at a family of predicates closed under the kernel's runs: it ends with its arguments as they were
  and its result the first hundred rows of an admitted output block.
-/
module

public import proofs.«01_k».proof.Proof.Data
public import Idealize.ShloMosaic.Lib.StableHlo

@[expose] public section

noncomputable section

namespace Cert.Proof

open Cert.Kernel Cert.Kernel.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {a : (p : Fin 1) → (pcfgs (F := F) p).Adm} {V : Dev nD → Valuation τ sig (Elt F)}
  {A : Dev nD → ℕ → Vec F S128x128 .f32 → Prop}

theorem index6 : ∀ t : Fin grid0.N, cc0_transform_6 (grid0.coords t) = fun _ => 0 := by decide

theorem flush6 (t : Fin (pin pcfgs a 0).N) (h : t.val < 12) : ((pin pcfgs a 0).win (6 : Fin 7)).flush t = false := by
  unfold Window.flush
  rw [Bool.and_eq_false_iff]
  right
  rw [Bool.or_eq_false_iff]
  refine ⟨?_, ?_⟩
  · have hN : ((pcfgs 0).gridAt (a 0).1).N = 13 := N_0
    simp only [decide_eq_false_iff_not]
    omega
  · simp only [decide_eq_false_iff_not, not_exists, not_not]
    intro h1
    have h6 : cc0_transform_6 (grid0.coords ⟨t.val + 1, h1⟩) = cc0_transform_6 (grid0.coords t) :=
      (index6 _).trans (index6 _).symm
    exact h6

theorem flush6_last (t : Fin (pin pcfgs a 0).N) (h : t.val = 12) : ((pin pcfgs a 0).win (6 : Fin 7)).flush t = true := by
  unfold Window.flush
  rw [Bool.and_eq_true_iff]
  refine ⟨rfl, ?_⟩
  rw [Bool.or_eq_true_iff]
  left
  have hN : ((pcfgs 0).gridAt (a 0).1).N = 13 := N_0
  simp only [decide_eq_true_eq]
  omega

theorem emb6 (t : Fin (pin pcfgs a 0).N) (y : S128x128.Idx) : (((pin pcfgs a 0).win (6 : Fin 7)).blk t).view.emb y = y := by
  have h0 : ((pin pcfgs a 0).win (6 : Fin 7)).index t 0 = 0 := congrFun (index6 t) 0
  have h1 : ((pin pcfgs a 0).win (6 : Fin 7)).index t 1 = 0 := congrFun (index6 t) 1
  refine funext fun b => Fin.ext ?_
  fin_cases b <;> blk_simp
  · rw [h0]; show 0 * 128 + _ = _; omega
  · rw [h1]; show 0 * 128 + _ = _; omega

/-- The output window's block is its whole array. -/
theorem write_out (c : Dev nD) (t : Fin (pin pcfgs a 0).N)
    (G₀ : Buf (Elt F) (((pin pcfgs a 0).win (6 : Fin 7)).arr.view.loc (c.tc : Thread nD τ))) (X : Vec F S128x128 .f32) :
    (((pin pcfgs a 0).win (6 : Fin 7)).blk t).view.write (Elt F) G₀
      (((pin pcfgs a 0).win (6 : Fin 7)).cut ((pin pcfgs a 0).grid.coords t) X) Finset.univ = X := by
  funext y
  have h := View.write_emb_of_mem (v := (((pin pcfgs a 0).win (6 : Fin 7)).blk t).view) (Val := Elt F) G₀
      (((pin pcfgs a 0).win (6 : Fin 7)).cut ((pin pcfgs a 0).grid.coords t) X) (Finset.mem_univ y)
  rw [emb6] at h
  exact h

/-- The output array at the region's end. -/
theorem out_at {c : Dev nD} (G) (h : (rdat a V A c).ArrAt (6 : Fin 7) 13 G) : Out V A c G := by
  have hN : (pin pcfgs a 0).N = 13 := N_0
  unfold RDat.ArrAt at h
  dsimp only at h
  rw [dif_pos (show 12 < (pin pcfgs a 0).N by omega), if_pos (flush6_last _ rfl)] at h
  obtain ⟨G₀, X, -, hX, rfl⟩ := h
  obtain ⟨Y, -, hY⟩ := hX
  have hO : Out V A c X := hY.1 rfl
  rw [write_out]
  exact hO

/-- The tables as the region finds them. -/
def tabs (m : (ℓ : Loc nD τ sig) → Buf (Elt F) ℓ) : (p : Fin 1) → (pcfgs (F := F) p).Adm :=
  fun _ => ⟨fun k => entryV m 0 (Proc.devRef .tc (pre0.ref k)), trivial⟩

/-- The result from the output block. -/
def firstRows (X : Vec F S128x128 .f32) : Vec F S100x128 .f32 :=
  extractStridedSlice S100x128 ![0, 0] X slices_S128x128_S100x128_0_0

theorem entry_arg (m : (ℓ : Loc nD τ sig) → Buf (Elt F) ℓ) (c : Dev nD) (b : Ref sig .tc)
    (hb : b = main_arg0 ∨ b = main_arg1 ∨ b = main_arg2 ∨ b = main_arg3 ∨ b = main_arg4) :
    entryV m c (Proc.devRef .tc b) = m ((c : Thread nD τ).loc b) := by
  rcases hb with rfl | rfl | rfl | rfl | rfl <;> (unfold entryV; entry_read; rfl)

theorem mem_rest (b : Ref sig .tc) (hs : b.isScoped = false) (h : ∀ w, arrRef spec0 w ≠ b) (hp : ∀ k, pre0.ref k ≠ b) :
    b ∈ restRefsP sig pre0 spec0 := by
  refine Finset.mem_sdiff.2 ⟨mem_restRefs_of b hs h, ?_⟩
  simp only [Finset.mem_image, Finset.mem_univ, true_and, not_exists]
  exact hp

theorem run_main (m : (ℓ : Loc nD τ sig) → Buf (Elt F) ℓ) (g : Dev nD → PrngReg)
    (hcl : Closed (tabs m) (entryV m) A) :
    θ_run (defs (F := F)) (onTc (τ := τ) (main (F := F))) ⟨m, fun _ => 0, g⟩ fun r =>
      ((∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0)
      ∧ ∀ c : Dev nD, ∃ X, Out (entryV m) A c X ∧ r.2.mem ((c : Thread nD τ).loc main_v13) = firstRows X := by
  refine run_tail (tabs m) Variants.none (rdat (tabs m) (entryV m) A) m g (fun c => body_obligation hcl _ c) ?_ (fun _ _ => rfl)
    (fun _ _ => rfl) ?_ ?_ ?_ _ ?_
  · intro c w
    unfold RDat.share
    split <;> rfl
  · intro c k
    rw [Subsingleton.elim c 0]
    rfl
  · intro c
    show iprop(ΦA spec0 c ∗ prefHeld pre0 c (fun _ => fullShare.right) (tabs m 0).1) ⊢ inv (tabs m) A c 0
    unfold ΦA inv
    rw [scopedRest0_eq]
    iintro ⟨⟨⟨%f, Hs⟩, Hp⟩, Ht⟩
    isplitl [Hs]
    · iexists f
      isplitr
      · ipureintro; exact fun h => absurd rfl h
      · iexact Hs
    isplitl [Hp]
    · iexact Hp
    · iexact Ht
  · intro c
    show inv (tabs m) A c 13 ⊢ ΦA spec0 c
    unfold ΦA inv
    rw [scopedRest0_eq]
    iintro ⟨⟨%f, -, Hs⟩, Hp, -⟩
    isplitl [Hs]
    · iexists f; iexact Hs
    · iexact Hp
  · intro r hw hr hs
    have hkeep : ∀ (c : Dev nD) (b : Ref sig .tc), b.isScoped = false → (∀ w, arrRef spec0 w ≠ b) → (∀ k, pre0.ref k ≠ b) → b ≠ main_v13 →
        r.2.mem ((c : Thread nD τ).loc b) = entryV m c (Proc.devRef .tc b) := by
      intro c b h1 h2 h3 h4
      obtain ⟨W, hW, h⟩ := hr c
      rw [h b (mem_rest b h1 h2 h3), StableHlo.after_of_forall_not_mem, withArrays_of_ne _ _ _ _ b h2]
      intro op hop
      simp only [List.mem_singleton] at hop
      subst hop
      simp only [StableHlo.unary_writes, Finset.mem_singleton]
      exact StableHlo.devRef_ne_of_ne h4
    refine ⟨⟨fun c => ⟨?_, ?_, ?_, ?_, ?_⟩, hs⟩, fun c => ?_⟩
    · have h := hw c (0 : Fin 7)
      rw [RDat.ArrAt_in _ _ rfl] at h
      exact h.trans (entry_arg m c main_arg0 (Or.inl rfl))
    · rw [hkeep c main_arg1 rfl (by decide) (by decide) (by decide)]
      exact entry_arg m c _ (by simp)
    · rw [hkeep c main_arg2 rfl (by decide) (by decide) (by decide)]
      exact entry_arg m c _ (by simp)
    · rw [hkeep c main_arg3 rfl (by decide) (by decide) (by decide)]
      exact entry_arg m c _ (by simp)
    · rw [hkeep c main_arg4 rfl (by decide) (by decide) (by decide)]
      exact entry_arg m c _ (by simp)
    · obtain ⟨W, hW, h⟩ := hr c
      refine ⟨W (6 : Fin 7), out_at _ (hW (6 : Fin 7)), ?_⟩
      rw [h main_v13 (mem_rest _ rfl (by decide) (by decide))]
      have h12 := withArrays_arr (pin pcfgs (tabs m) 0).spec (launch0 (F := F)).win.arr_inj c (entryV m c) W (6 : Fin 7)
      rw [← h12]
      rfl

end Cert.Proof

end
-- ==== Proof.Ids.lean ====
/-
  What the precondition says of the segment ids, and what the host's padding and slicing make of them: the padded ids
  ascend and are at most 100, so every run's table entries bound its ids.
-/
module

public import proofs.«01_k».proof.Proof.Run
public import proofs.«01_k».proof.Pre_sorted_ids
public import Idealize.ShloMosaic.Lib.ReduceAll
public import Idealize.ShloMosaic.Lib.StableHlo.Predicate
public import Idealize.ShloMosaic.Lib.Routing.OpsSet
public import Idealize.ShloMosaic.Lib.Routing.OpsPair
public import Idealize.ShloMosaic.Lib.Pointwise

@[expose] public section

noncomputable section

namespace Cert.Proof

open Cert.Kernel Cert.Kernel.Gen
open Idealize.ShloMosaic Idealize.ShloMosaic.TcCoe Idealize.ShloMosaic.Pipeline

variable {F : FTy → Type} [FloatOps F]

/-- The ids name the hundred segments and ascend. -/
structure Sorted (ids : S100000.Idx → BitVec 32) : Prop where
  lt : ∀ r : Fin 100000, (ids (ix1 r)).toNat < 100
  mono : ∀ r s : Fin 100000, r ≤ s → (ids (ix1 r)).toNat ≤ (ids (ix1 s)).toNat

theorem toNat_lt_of_signed (x : BitVec 32) (h0 : 0 ≤ x.toInt) (h1 : x.toInt < 100) : x.toNat < 100 ∧ x.toInt = x.toNat := by
  rw [BitVec.toInt_eq_toNat_cond] at *
  split at * <;> omega

theorem sorted_of_pre [Cert.Pre_sorted_ids.Facts] (x0 : FVec F S100000x128 .f32) (ids : IVec S100000 32) (x2 : FVec F S100x128 .f32)
    (x3 : FVec F S256x128 .f32) (x4 : FVec F S128 .f32)
    (h : Cert.Pre_sorted_ids.fn x0 ids x2 x3 x4 = fun _ => 1#1) : Sorted ids := by
  have h := congrFun h ix0
  simp only [Cert.Pre_sorted_ids.fn, WordCmp.andi_at, IntOp.andi_eq_one] at h
  obtain ⟨⟨hge, hlt⟩, hmono⟩ := h
  have h0 : ∀ i, 0 ≤ (ids i).toInt := fun i => IntOp.cmpi_sge.1 (Host.reduce_andi_all _ _ _ _ _ hge i)
  have h1 : ∀ i, (ids i).toInt < 100 := fun i => IntOp.cmpi_slt.1 (Host.reduce_andi_all _ _ _ _ _ hlt i)
  have h2 := fun i => IntOp.cmpi_sle.1 (Host.reduce_andi_all _ _ _ _ _ hmono i)
  have hstep : ∀ n (hn : n + 1 < 100000), (ids (ix1 ⟨n, by omega⟩)).toNat ≤ (ids (ix1 ⟨n + 1, hn⟩)).toNat := by
    intro n hn
    have h3 : (ids (ix1 ⟨n, by omega⟩)).toInt ≤ (ids (ix1 ⟨n + 1, hn⟩)).toInt := by
      refine le_of_eq_of_le (congrArg (fun x => (ids x).toInt) (funext fun b => Fin.ext ?_))
        ((h2 (ix1 ⟨n, by omega⟩)).trans (le_of_eq (congrArg (fun x => (ids x).toInt) (funext fun b => Fin.ext ?_))))
      · fin_cases b
        show n = 0 + n
        omega
      · fin_cases b
        show 1 + n = n + 1
        omega
    rw [(toNat_lt_of_signed _ (h0 _) (h1 _)).2, (toNat_lt_of_signed _ (h0 _) (h1 _)).2] at h3
    exact_mod_cast h3
  refine ⟨fun r => (toNat_lt_of_signed _ (h0 _) (h1 _)).1, ?_⟩
  have key : ∀ d n (hn : n + d < 100000), (ids (ix1 ⟨n, by omega⟩)).toNat ≤ (ids (ix1 ⟨n + d, hn⟩)).toNat := by
    intro d
    induction d with
    | zero => exact fun n hn => le_rfl
    | succ d ih => exact fun n hn => (ih n (by omega)).trans (hstep (n + d) hn)
  intro r s hrs
  have := key (s.val - r.val) r.val (by omega)
  simpa only [Nat.add_sub_cancel' (Fin.le_iff_val_le_val.1 hrs)] using this

/-- Row `n`'s id, the padding rows' being 100. -/
def padAt (ids : S100000.Idx → BitVec 32) (n : ℕ) : BitVec 32 := if h : n < 100000 then ids (ix1 ⟨n, h⟩) else 100#32

theorem padAt_mono {ids : S100000.Idx → BitVec 32} (h : Sorted ids) (n k : ℕ) (hnk : n ≤ k) :
    (padAt ids n).toNat ≤ (padAt ids k).toNat := by
  unfold padAt
  split <;> split
  · exact h.mono _ _ hnk
  · exact (h.lt _).le
  · omega
  · exact le_rfl

theorem padAt_le {ids : S100000.Idx → BitVec 32} (h : Sorted ids) (n : ℕ) : (padAt ids n).toNat ≤ 100 := by
  unfold padAt
  split
  · exact (h.lt _).le
  · exact le_rfl

/-- The padded ids as the host makes them. -/
def padded (ids : S100000.Idx → BitVec 32) : S106496.Idx → BitVec 32 :=
  Host.scatter scatter_S106496_S1_S100000_0_n_0_0 (fun _ b => b)
    (broadcastInDim S106496 ![] bcast_S_S106496 (constantI S_ 32 100#32)) (broadcastInDim S1 ![] bcast_S_S1 (constantI S_ 32 0#32)) ids

theorem padded_lands (k : Fin 100000) (e : Fin 106496) :
    scatter_S106496_S1_S100000_0_n_0_0.resultIdx? (ix1 k) (broadcastInDim S1 ![] bcast_S_S1 (constantI S_ 32 0#32)) = some (ix1 e)
      ↔ k.val = e.val := by
  rw [show (ix1 e : S106496.Idx) = ix1 e from rfl]
  refine (Routing.resultIdx?_ix1 _ _ _ _).trans ?_
  have hs : scatter_S106496_S1_S100000_0_n_0_0.start (ix1 k) (broadcastInDim S1 ![] bcast_S_S1 (constantI S_ 32 0#32)) 0 = 0 := by
    rfl
  have hw : scatter_S106496_S1_S100000_0_n_0_0.window (ix1 k) 0 = k.val := by
    rfl
  rw [hs, hw]
  omega

theorem padded_at (ids : S100000.Idx → BitVec 32) (e : Fin 106496) : padded ids (ix1 e) = padAt ids e.val := by
  unfold padAt
  split
  · rename_i h
    refine Routing.scatter_set_hit _ _ _ _ _ _ ?_ (ix1 ⟨e.val, h⟩) ((padded_lands _ _).2 rfl)
    intro k hk
    rw [eq_ix1 k] at hk ⊢
    have := (padded_lands _ _).1 hk
    have hk : k 0 = ⟨e.val, h⟩ := Fin.ext this
    exact congrArg ids (congrArg ix1 hk)
  · rename_i h
    refine (Routing.scatter_set_miss _ _ _ _ _ ?_).trans rfl
    intro k hk
    rw [eq_ix1 k] at hk
    have h1 := (padded_lands _ _).1 hk
    have h2 := (k 0).isLt
    exact h (h1 ▸ h2)

variable (m : (ℓ : Loc nD τ sig) → Buf (Elt F) ℓ) (c : Dev nD)

abbrev argIds : S100000.Idx → BitVec 32 := m ((c : Thread nD τ).loc main_arg1)

theorem entry_ids (e : Fin 106496) (z : Fin 1) : idsV (entryV m) c (ix2 e z) = padAt (argIds m c) e.val := by
  have h : idsV (entryV m) c = shapeCast S106496x1 (padded (argIds m c)) shapeCasts_S106496_S106496x1 := by
    unfold idsV entryV
    entry_read
    rfl
  rw [h, ← padded_at]
  pointwise

section
attribute [local irreducible] entryV

theorem lows_tabs : lows (tabs m) = entryV m 0 (Proc.devRef .tc main_v4) := rfl
theorem highs_tabs : highs (tabs m) = entryV m 0 (Proc.devRef .tc main_v5) := rfl

end

theorem entry_low (n : ℕ) (hn : n < 416) : tw (lows (tabs m)) n = padAt (argIds m c) (256 * n) := by
  have h : lows (tabs m) = Host.slice S416 ![0] ![256] (padded (argIds m c)) slicesBy_S106496_S416_0s256 := by
    obtain rfl : c = 0 := Subsingleton.elim c 0
    rw [lows_tabs]
    unfold entryV
    entry_read
    rfl
  have h1 : n % 416 = n := Nat.mod_eq_of_lt hn
  unfold tw
  rw [h, show padAt (argIds m c) (256 * n) = padded (argIds m c) (ix1 ⟨256 * n, by omega⟩) from (padded_at (argIds m c) ⟨256 * n, by omega⟩).symm]
  refine congrArg (padded (argIds m c)) (funext fun b => Fin.ext ?_)
  fin_cases b
  show 0 + 256 * (n % 416) = 256 * n
  omega

theorem entry_high (n : ℕ) (hn : n < 416) : tw (highs (tabs m)) n = padAt (argIds m c) (256 * n + 255) := by
  have h : highs (tabs m) = Host.slice S416 ![255] ![256] (padded (argIds m c)) slicesBy_S106496_S416_255s256 := by
    obtain rfl : c = 0 := Subsingleton.elim c 0
    rw [highs_tabs]
    unfold entryV
    entry_read
    rfl
  have h1 : n % 416 = n := Nat.mod_eq_of_lt hn
  unfold tw
  rw [h, show padAt (argIds m c) (256 * n + 255) = padded (argIds m c) (ix1 ⟨256 * n + 255, by omega⟩) from (padded_at (argIds m c) ⟨256 * n + 255, by omega⟩).symm]
  refine congrArg (padded (argIds m c)) (funext fun b => Fin.ext ?_)
  fin_cases b
  show 255 + 256 * (n % 416) = 256 * n + 255
  omega

end Cert.Proof

end
-- ==== Proof.Frames.lean ====
/-
  The kernel's frame: under the precondition every run's bounds are met, whatever the accumulator holds.
-/
module

public import proofs.«01_k».proof.Proof.Ids
public import proofs.«01_k».proof.Defs
public import proofs.«01_k».proof.Proof.Gen.Pre_sorted_ids

@[expose] public section

noncomputable section

namespace Cert.Proof

open Cert.Kernel Cert.Kernel.Gen
open Idealize.ShloMosaic Idealize.ShloMosaic.TcCoe Idealize.ShloMosaic.Pipeline Idealize.SL.Sem

variable {F : FTy → Type} [FloatOps F]

theorem bounds_of_sorted (m : (ℓ : Loc nD τ sig) → Buf (Elt F) ℓ) (c : Dev nD) (h : Sorted (argIds m c)) (n : ℕ) (hn : n < 416) :
    (tw (lows (tabs m)) n).toNat ≤ (tw (highs (tabs m)) n).toNat ∧ (tw (highs (tabs m)) n).toNat ≤ 100 := by
  rw [entry_low m c n hn, entry_high m c n hn]
  exact ⟨padAt_mono h _ _ (by omega), padAt_le h _⟩

theorem closed_true (m : (ℓ : Loc nD τ sig) → Buf (Elt F) ℓ) (h : Sorted (argIds m 0)) :
    Closed (tabs m) (entryV m) fun _ _ _ => True :=
  ⟨bounds_of_sorted m 0 h, fun _ => trivial, fun _ _ _ _ _ _ _ => trivial⟩

theorem frame_kernel : Cert.quiescent_Kernel := by
  intro m g hp
  exact θ_run_mono (run_main m g (closed_true m (sorted_of_pre _ _ _ _ _ (hp 0)))) fun r h => h.1

end Cert.Proof

end
-- ==== Proof.Transport.lean ====
/-
  The idealized kernel's program is the kernel's program, effect by effect, so a run of the one is a run of the other.
-/
module

public import proofs.«01_k».proof.Kernel
public import proofs.«01_k».proof.KernelIdeal
public import proofs.«01_k».proof.Proof.Gen.Kernel
public import proofs.«01_k».proof.Proof.Gen.KernelIdeal
public import Idealize.ShloMosaic.Lib.Tactic
public import Idealize.ShloMosaic.Lib.Tactic.ProgEq
public import Idealize.ShloMosaic.PureOps.Ideal

@[expose] public section

noncomputable section

open Idealize.ShloMosaic Idealize.ShloMosaic.TcCoe Idealize.SL.Sem
open scoped Idealize.ShloMosaic.ProgEq

set_option maxHeartbeats 0 in
set_option maxRecDepth 100000 in
prog_eq Cert.Proof.kernel_same : Cert.Kernel.cc0__seg_kernel Cert.KernelIdeal.cc0__seg_kernel from Cert.Kernel to Cert.KernelIdeal at Ideal inferInstance by
  intros
  rfl

set_option maxHeartbeats 0 in
lift_eq Cert.Proof.base_same : Cert.Kernel.defs₀ Cert.KernelIdeal.defs₀ via Cert.Proof.kernel_same
  of Cert.Kernel.cc0__seg_kernel Cert.KernelIdeal.cc0__seg_kernel from Cert.Kernel to Cert.KernelIdeal at Ideal inferInstance

set_option maxHeartbeats 0 in
lift_eq Cert.Proof.defs_same : Cert.Kernel.defs Cert.KernelIdeal.defs via Cert.Proof.base_same
  of Cert.Kernel.defs₀ Cert.KernelIdeal.defs₀ from Cert.Kernel to Cert.KernelIdeal at Ideal inferInstance

namespace Cert.Proof

/-- The idealized kernel's definitions are the kernel's. -/
theorem defs_ideal : Cert.Kernel.defs (F := Ideal) = Cert.KernelIdeal.defs (F := Ideal) := defs_same Cert.KernelIdeal.Gen.facts

/-- The idealized kernel's main program is the kernel's. -/
theorem main_ideal : Cert.Kernel.main (F := Ideal) = Cert.KernelIdeal.main (F := Ideal) := by sl_kernel_rfl

/-- A run of the kernel is a run of the idealized kernel. -/
theorem run_ideal (s : MemSt Cert.Kernel.nD Cert.Kernel.τ Cert.Kernel.sig (Elt Ideal))
    (Q : PUnit × MemSt Cert.Kernel.nD Cert.Kernel.τ Cert.Kernel.sig (Elt Ideal) → Prop)
    (h : θ_run (Cert.Kernel.defs (F := Ideal)) (onTc (τ := Cert.Kernel.τ) (Cert.Kernel.main (F := Ideal))) s Q) :
    θ_run (Cert.KernelIdeal.defs (F := Ideal)) (onTc (τ := Cert.KernelIdeal.τ) (Cert.KernelIdeal.main (F := Ideal))) s Q := by
  rw [defs_ideal, main_ideal] at h
  exact h

end Cert.Proof

end
-- ==== Proof.IdealFrames.lean ====
/-
  The frames of the two idealized programs: the kernel's carried over, the reference's from its list of operations.
-/
module

public import proofs.«01_k».proof.Proof.Frames
public import proofs.«01_k».proof.Proof.Transport
public import proofs.«01_k».proof.Proof.Gen.ReferenceIdeal.Run

@[expose] public section

noncomputable section

namespace Cert.Proof

open Idealize.ShloMosaic Idealize.ShloMosaic.TcCoe Idealize.SL.Sem

theorem frame_ideal : Cert.quiescent_KernelIdeal := by
  intro m g hp
  exact run_ideal _ _ (θ_run_mono (run_main (F := Ideal) m g (closed_true m (sorted_of_pre _ _ _ _ _ (hp 0)))) fun r h => h.1)

theorem frame_reference : Cert.quiescent_ReferenceIdeal := fun m g _ =>
  θ_run_mono (Cert.ReferenceIdeal.Value.run (F := Ideal) m g) fun r h =>
    ⟨fun c => (h c).2, sem_eq_zero_of_no_sems (by decide) r.2⟩

theorem frame_reference_pre : Cert.quiescent_ReferenceIdeal_pre_sorted_ids := fun m g _ =>
  θ_run_mono (Cert.ReferenceIdeal.Value.run (F := Ideal) m g) fun r h =>
    ⟨fun c => (h c).2, sem_eq_zero_of_no_sems (by decide) r.2⟩

end Cert.Proof

end
-- ==== Proof.Raise.lean ====
/-
  What a run of rows does to the accumulator, over the extended reals. An entry of the accumulator is described by the
  numbers that bound it from above: after a run it is bounded by `z` exactly when it was before and the run's rows of
  its segment number are.
-/
module

public import proofs.«01_k».proof.Proof.Steps
public import Idealize.ShloMosaic.PureOps.Ideal.Laws

@[expose] public section

noncomputable section

namespace Cert.Proof

open Cert.Kernel Cert.Kernel.Gen
open Idealize.ShloMosaic

theorem ideal_bot : (Scalar.ofBits .f32 0xFF800000#32 : Ideal .f32) = (⊥ : EReal) := by
  show Ideal.ofBits .f32 0xFF800000#32 = ⊥
  simp [Ideal.ofBits, Ideal.ieee]

/-- A raised row is the greater of the two, entry by entry; the others stay. -/
theorem raiseRow_at (g : ℕ) (hg : g ≤ 127) (u : FVec Ideal S128 .f32) (f : Vec Ideal S128x128 .f32) (r d : Fin 128) :
    raiseRow g u f (ix2 r d) = if r.val = g then max (f (ix2 r d) : EReal) (u (ix1 d)) else f (ix2 r d) := by
  unfold raiseRow raise
  rw [dif_pos hg]
  split
  · rename_i h
    have hi : (ix2 r d : S128x128.Idx)
        = (Rect.unit (s := S128x128) ![g, 0] S1x128.size (row_inb hg)).emb (ix2 (0 : Fin 1) d : S1x128.Idx) := by
      funext a
      refine Fin.ext ?_
      match a with
      | ⟨0, _⟩ => show r.val = g + 1 * 0; omega
      | ⟨1, _⟩ => show d.val = 0 + 1 * d.val; omega
    have hu : shapeCast S1x128 u shapeCasts_S128_S1x128 (ix2 (0 : Fin 1) d : S1x128.Idx) = u (ix1 d) := by
      pointwise
    rw [hi, Rect.overlay_emb, shapeCast_self]
    show max _ (shapeCast S1x128 u shapeCasts_S128_S1x128 (ix2 (0 : Fin 1) d : S1x128.Idx)) = _
    rw [hu]
  · rename_i h
    refine Rect.overlay_of_not_mem _ _ _ fun hm => h ?_
    rw [← Rect.map_emb_univ, Finset.mem_map] at hm
    obtain ⟨x, -, hx⟩ := hm
    have h0 := congrArg (fun i : S128x128.Idx => (i 0).val) hx
    have hx0 : (x 0).val < 1 := (x 0).isLt
    have h1 : g + 1 * (x 0).val = r.val := h0
    omega

/-- A column's maximum is bounded when each entry of the column is. -/
theorem colMax_le (v : FVec Ideal S256x128 .f32) (d : Fin 128) (z : EReal) :
    (colMax v (ix1 d) : EReal) ≤ z ↔ ∀ e : Fin 256, (v (ix2 e d) : EReal) ≤ z := by
  have hc : colMax v (ix1 d) = (Finset.univ : Finset (Fin 256)).fold max (FloatOps.ofBits .f32 0xFF800000#32 : Ideal .f32)
      (v ∘ reduces_S256x128_S128.lift (ix1 d)) :=
    Ideal.multiReduction_maximumf_single v 0xFF800000#32 reduces_S256x128_S128 (.inl rfl) rfl (ix1 d)
  rw [hc]
  refine (Finset.fold_max_le (α := Fin 256) (β := EReal) z).trans ?_
  have hl : ∀ e : Fin 256, reduces_S256x128_S128.lift (ix1 d) e = (ix2 e d : S256x128.Idx) := by
    intro e
    funext a
    refine Fin.ext ?_
    refine (Shape.Reduces.lift_val reduces_S256x128_S128 (ix1 d) e a).trans ?_
    match a with
    | ⟨0, _⟩ => rfl
    | ⟨1, _⟩ => rfl
  constructor
  · intro h e
    have := h.2 e (Finset.mem_univ _)
    exact (congrArg (fun i => (v i : EReal)) (hl e)).symm.trans_le this
  · intro h
    refine ⟨?_, fun e _ => ?_⟩
    · show (Scalar.ofBits .f32 0xFF800000#32 : Ideal .f32) ≤ z
      rw [ideal_bot]; exact bot_le
    · exact (congrArg (fun i => (v i : EReal)) (hl e)).trans_le (h e)

/-- A run's rows of one segment number; the others are −∞. -/
theorem only_at (g : BitVec 32) (ids : IVec S256x1 32) (v : FVec Ideal S256x128 .f32) (e : Fin 256) (d : Fin 128) :
    (only g ids v (ix2 e d) : EReal) = if ids (ix2 e 0) = g then (v (ix2 e d) : EReal) else ⊥ := by
  have hb : broadcastTo S256x128 (shapeCast S256x1 (cmpi .eq (shapeCast S256x1 ids shapeCasts_S256x1_S256x1) (broadcast S256x1 g))
      shapeCasts_S256x1_S256x1) broadcasts_S256x1_S256x128 (ix2 e d) = BitVec.ofBool (ids (ix2 e 0) == g) := by
    rw [shapeCast_self, shapeCast_self]
    pointwise
    rfl
  show Scalar.select _ (v (ix2 e d)) (Scalar.ofBits .f32 0xFF800000#32 : Ideal .f32) = _
  rw [hb, ideal_bot]
  by_cases h : ids (ix2 e 0) = g
  · rw [if_pos h, beq_iff_eq.2 h]; rfl
  · rw [if_neg h, beq_eq_false_iff_ne.2 h]; rfl

/-- The accumulator after some segment numbers of a run. -/
theorem raised_le (lo : BitVec 32) (ids : IVec S256x1 32) (v : FVec Ideal S256x128 .f32) (f : Vec Ideal S128x128 .f32) (r d : Fin 128)
    (z : EReal) (n : ℕ) (hn : lo.toNat + n ≤ 101) :
    (raised lo ids v f n (ix2 r d) : EReal) ≤ z ↔ (f (ix2 r d) : EReal) ≤ z
      ∧ (lo.toNat ≤ r.val → r.val < lo.toNat + n → ∀ e : Fin 256, (ids (ix2 e 0)).toNat = r.val → (v (ix2 e d) : EReal) ≤ z) := by
  induction n with
  | zero => exact ⟨fun h => ⟨h, fun h1 h2 => absurd h1 (by omega)⟩, fun h => h.1⟩
  | succ n ih =>
    have ih := ih (by omega)
    have hiv : (Scf.iv lo 1#32 n).toNat = lo.toNat + n := iv_toNat (by omega)
    show (raiseRow _ _ (raised lo ids v f n) (ix2 r d) : EReal) ≤ z ↔ _
    rw [raiseRow_at _ (by omega)]
    split
    · rename_i h
      rw [max_le_iff, ih, colMax_le]
      have he : (∀ e : Fin 256, (only (Scf.iv lo 1#32 n) ids v (ix2 e d) : EReal) ≤ z)
          ↔ ∀ e : Fin 256, (ids (ix2 e 0)).toNat = r.val → (v (ix2 e d) : EReal) ≤ z := by
        refine forall_congr' fun e => ?_
        rw [only_at]
        split
        · rename_i h'
          exact ⟨fun a _ => a, fun a => a (by rw [h', h])⟩
        · rename_i h'
          exact ⟨fun _ a => absurd (BitVec.eq_of_toNat_eq (by rw [a, h])) h', fun _ => bot_le⟩
      rw [he]
      exact ⟨fun a => ⟨a.1.1, fun _ _ => a.2⟩, fun a => ⟨⟨a.1, fun _ h2 => absurd h2 (by omega)⟩, a.2 (by omega) (by omega)⟩⟩
    · rename_i h
      rw [ih]
      exact ⟨fun a => ⟨a.1, fun h1 h2 => a.2 h1 (by omega)⟩, fun a => ⟨a.1, fun h1 h2 => a.2 h1 (by omega)⟩⟩

/-- The accumulator after a run whose segment numbers lie between the two words read. -/
theorem runUpd_le {lo hi : BitVec 32} (h : lo.toNat ≤ hi.toNat) (h' : hi.toNat ≤ 100) (ids : IVec S256x1 32)
    (hids : ∀ e : Fin 256, lo.toNat ≤ (ids (ix2 e 0)).toNat ∧ (ids (ix2 e 0)).toNat ≤ hi.toNat)
    (v : FVec Ideal S256x128 .f32) (f : Vec Ideal S128x128 .f32) (r d : Fin 128) (z : EReal) :
    (runUpd lo hi ids v f (ix2 r d) : EReal) ≤ z ↔ (f (ix2 r d) : EReal) ≤ z
      ∧ ∀ e : Fin 256, (ids (ix2 e 0)).toNat = r.val → (v (ix2 e d) : EReal) ≤ z := by
  unfold runUpd
  split
  · rename_i heq
    subst heq
    rw [raiseRow_at _ (by omega)]
    split
    · rename_i hr
      rw [max_le_iff, colMax_le]
      exact and_congr_right fun _ => forall_congr' fun e => ⟨fun a _ => a, fun a => a (by have := hids e; omega)⟩
    · rename_i hr
      exact ⟨fun a => ⟨a, fun e he => absurd he (by have := hids e; omega)⟩, fun a => a.1⟩
  · rw [loop_trips h h', raised_le _ _ _ _ _ _ _ _ (by omega)]
    exact and_congr_right fun _ => ⟨fun a e he => a (by have := hids e; omega) (by have := hids e; omega) e he, fun a _ _ => a⟩

end Cert.Proof

end
-- ==== Proof.Segments.lean ====
/-
  The accumulator through the runs, over the extended reals: after `n` runs its entry for a graph and a feature is
  bounded exactly by the bounds of the graph's nodes among the first `256 n`.
-/
module

public import proofs.«01_k».proof.Proof.Raise
public import proofs.«01_k».proof.Proof.Ids

@[expose] public section

noncomputable section

namespace Cert.Proof

open Cert.Kernel Cert.Kernel.Gen
open Idealize.ShloMosaic Idealize.ShloMosaic.TcCoe Idealize.ShloMosaic.Pipeline

/-- The nodes, as the arguments give them. -/
abbrev argNodes (m : (ℓ : Loc nD τ sig) → Buf (Elt Ideal) ℓ) (c : Dev nD) : S100000x128.Idx → EReal :=
  m ((c : Thread nD τ).loc main_arg0)

/-- Every graph's row holds the least upper bound of the graph's nodes among the first `k`. -/
def SegMax (ids : S100000.Idx → BitVec 32) (nodes : S100000x128.Idx → EReal) (k : ℕ) (f : S128x128.Idx → EReal) : Prop :=
  ∀ (g d : Fin 128) (z : EReal), g.val < 100 →
    (f (ix2 g d) ≤ z ↔ ∀ r : Fin 100000, r.val < k → (ids (ix1 r)).toNat = g.val → nodes (ix2 r d) ≤ z)

theorem segMax_fill (ids : S100000.Idx → BitVec 32) (nodes : S100000x128.Idx → EReal) :
    SegMax ids nodes 0 (fillv (F := Ideal)) := by
  intro g d z _
  have hf : (fillv (F := Ideal) (ix2 g d) : EReal) = ⊥ := by
    unfold fillv
    rw [shapeCast_self]
    exact ideal_bot
  rw [hf]
  exact ⟨fun _ r h => absurd h (by omega), fun _ => bot_le⟩

/-- One run of rows, whose ids are the padded ids, takes the first `256 n` nodes to the first `256 (n + 1)`. -/
theorem segMax_run {ids : S100000.Idx → BitVec 32} (hs : Sorted ids) (nodes : Vec Ideal S100000x128 .f32) {n : ℕ}
    {lo hi : BitVec 32} (hlo : lo = padAt ids (256 * n)) (hhi : hi = padAt ids (256 * n + 255)) {ir : IVec S256x1 32}
    (hir : ∀ e : Fin 256, ir (ix2 e 0) = padAt ids (256 * n + e.val)) {xr : FVec Ideal S256x128 .f32} (hx : RowsOf nodes n xr)
    {f : Vec Ideal S128x128 .f32} (hf : SegMax ids nodes (256 * n) f) :
    SegMax ids nodes (256 * (n + 1)) (runUpd lo hi ir xr f) := by
  subst hlo hhi
  intro g d z hg
  rw [runUpd_le (padAt_mono hs _ _ (by omega)) (padAt_le hs _) ir (fun e => by
    rw [hir e]; exact ⟨padAt_mono hs _ _ (by omega), padAt_mono hs _ _ (by have := e.isLt; omega)⟩), hf g d z hg]
  constructor
  · intro h r hr he
    by_cases hk : r.val < 256 * n
    · exact h.1 r hk he
    · have hr' := r.isLt
      have hp : padAt ids (256 * n + (r.val - 256 * n)) = ids (ix1 r) := by
        unfold padAt
        rw [dif_pos (by omega)]
        exact congrArg (fun q => ids (ix1 q)) (Fin.ext (by show 256 * n + (r.val - 256 * n) = r.val; omega))
      have hb := h.2 ⟨r.val - 256 * n, by omega⟩ (by rw [hir, hp]; exact he)
      have hv := hx (ix2 ⟨r.val - 256 * n, by omega⟩ d) (by show 256 * n + (r.val - 256 * n) < 100000; omega)
      rw [hv] at hb
      have hq : (⟨256 * n + (r.val - 256 * n), by omega⟩ : Fin 100000) = r := Fin.ext (by show 256 * n + (r.val - 256 * n) = r.val; omega)
      have hb' : (nodes (ix2 ⟨256 * n + (r.val - 256 * n), by omega⟩ d) : EReal) ≤ z := hb
      rwa [hq] at hb'
  · intro h
    refine ⟨fun r hr he => h r (by omega) he, fun e he => ?_⟩
    have hee := e.isLt
    rw [hir] at he
    have hlt : 256 * n + e.val < 100000 := by
      by_contra hc
      unfold padAt at he
      rw [dif_neg hc] at he
      have : (100#32 : BitVec 32).toNat = 100 := rfl
      omega
    have hp : padAt ids (256 * n + e.val) = ids (ix1 ⟨256 * n + e.val, hlt⟩) := by
      unfold padAt
      rw [dif_pos hlt]
    rw [hp] at he
    have hv : xr (ix2 e d) = nodes (ix2 ⟨256 * n + e.val, hlt⟩ d) := hx (ix2 e d) hlt
    rw [hv]
    exact h _ (by show 256 * n + e.val < _; omega) he

/-- The family of predicates the kernel's runs keep. -/
theorem closed_seg (m : (ℓ : Loc nD τ sig) → Buf (Elt Ideal) ℓ) (hs : ∀ c, Sorted (argIds m c)) :
    Closed (tabs m) (entryV m) fun c n f => SegMax (argIds m c) (argNodes m c) (256 * n) f where
  bounds n hn := by
    rw [entry_low m 0 n hn, entry_high m 0 n hn]
    exact ⟨padAt_mono (hs 0) _ _ (by omega), padAt_le (hs 0) _⟩
  start c := segMax_fill _ _
  step c n hn xr hx f hf := by
    have hn' : nodesV (entryV m) c = m ((c : Thread nD τ).loc main_arg0) := entry_arg m c main_arg0 (.inl rfl)
    rw [hn'] at hx
    refine segMax_run (hs c) (m ((c : Thread nD τ).loc main_arg0)) (entry_low m c n hn) (entry_high m c n hn) (fun e => ?_) hx hf
    have he := e.isLt
    show idsV (entryV m) c (ix2 ⟨(256 * n + e.val) % 106496, _⟩ 0) = _
    rw [entry_ids]
    exact congrArg (padAt (argIds m c)) (Nat.mod_eq_of_lt (by omega))

end Cert.Proof

end
-- ==== Proof.Output.lean ====
/-
  The kernel's result over the extended reals, entry by entry: the accumulator's row times the upper half of the
  weights, plus the globals' row times the lower half, plus the bias.
-/
module

public import proofs.«01_k».proof.Proof.Segments
public import Idealize.ShloMosaic.Lib.MatmulPlain

@[expose] public section

noncomputable section

namespace Cert.Proof

open Cert.Kernel Cert.Kernel.Gen
open Idealize.ShloMosaic Idealize.ShloMosaic.TcCoe Idealize.ShloMosaic.Pipeline

/-- A product of two 128 × 128 blocks into zeros. -/
theorem product_at (x w : FVec Ideal S128x128 .f32) (r d : Fin 128) :
    (matmul dot_S128x128_S128x128_S128x128_1_0_0_1_n_n none x w (constant S128x128 .f32 0x00000000#32) (ix2 r d) : EReal)
      = ∑ k : Fin 128, (x (ix2 r k) : EReal) * w (ix2 k d) := by
  refine (Ideal.matmul_plain_apply (M := 128) (K := 128) (N := 128) none x w (constant S128x128 .f32 0x00000000#32) r d).trans ?_
  show Ideal.ofBits .f32 0x00000000#32 + _ = _
  rw [Ideal.ofBits_zero_f32, zero_add]
  rfl

theorem row_real : ∀ r : Fin 128, IntOp.cmpi .slt (BitVec.ofNat 32 r.val) 128#32 = 1#1 := by decide

/-- No row of the accumulator is masked at the end. -/
theorem mask_at (f : Vec Ideal S128x128 .f32) (r k : Fin 128) :
    select (broadcastTo S128x128 (shapeCast S128x1 (cmpi .slt (iota .tc S128x1 32 [0] iota_S128x1_d0_w32)
        (broadcast S128x1 128#32)) shapeCasts_S128x1_S128x1) broadcasts_S128x1_S128x128) f
        (broadcast S128x128 (Scalar.ofBits .f32 0x00000000#32) : FVec Ideal S128x128 .f32) (ix2 r k) = f (ix2 r k) := by
  have hb : broadcastTo S128x128 (shapeCast S128x1 (cmpi .slt (iota .tc S128x1 32 [0] iota_S128x1_d0_w32)
        (broadcast S128x1 128#32)) shapeCasts_S128x1_S128x1) broadcasts_S128x1_S128x128 (ix2 r k) = 1#1 := by
    rw [shapeCast_self]
    refine Eq.trans ?_ (row_real r)
    pointwise
  show Scalar.select _ _ _ = _
  rw [hb]
  rfl

theorem outv_at (f g w1 w2 : Vec Ideal S128x128 .f32) (b : Vec Ideal S1x128 .f32) (r d : Fin 128) :
    (outv f g w1 w2 b (ix2 r d) : EReal)
      = (∑ k : Fin 128, (f (ix2 r k) : EReal) * w1 (ix2 k d)) + (∑ k : Fin 128, (g (ix2 r k) : EReal) * w2 (ix2 k d)) + b (ix2 0 d) := by
  have hb : broadcastTo S128x128 (shapeCast S1x128 b shapeCasts_S1x128_S1x128) broadcasts_S1x128_S128x128 (ix2 r d) = b (ix2 0 d) := by
    rw [shapeCast_self]
    pointwise
  unfold outv
  show ((matmul (F := Ideal) _ _ _ _ _ (ix2 r d) : EReal) + matmul (F := Ideal) _ _ _ _ _ (ix2 r d)) + broadcastTo _ _ _ (ix2 r d) = _
  rw [hb, product_at, product_at]
  refine congrArg (fun s : EReal => s + b (ix2 0 d)) (congrArg₂ (fun s t : EReal => s + t)
    (Finset.sum_congr rfl fun k _ => congrArg₂ (fun s t : EReal => s * t) (mask_at f r k) ?_)
    (Finset.sum_congr rfl fun k _ => congrArg₂ (fun s t : EReal => s * t) ?_ ?_)) <;> rw [shapeCast_self]

/-! ## The arrays the region reads -/

variable (m : (ℓ : Loc nD τ sig) → Buf (Elt Ideal) ℓ) (c : Dev nD)

/-- The globals, padded by rows of zeros. -/
def globals (x : FVec Ideal S100x128 .f32) : FVec Ideal S128x128 .f32 :=
  Host.scatter scatter_S128x128_S1_S100x128_01_n_0_0 (fun _ b => b)
    (broadcastInDim S128x128 ![] bcast_S_S128x128 (constant S_ .f32 0x00000000#32)) (broadcastInDim S1 ![] bcast_S_S1 (constantI S_ 32 0#32)) x

theorem globals_lands (p : Fin 100) (q : Fin 128) (r k : Fin 128) :
    scatter_S128x128_S1_S100x128_01_n_0_0.resultIdx? (ix2 p q) (broadcastInDim S1 ![] bcast_S_S1 (constantI S_ 32 0#32)) = some (ix2 r k)
      ↔ p.val = r.val ∧ q.val = k.val := by
  refine (Routing.resultIdx?_ix2 _ _ _ _ _).trans ?_
  have hs0 : scatter_S128x128_S1_S100x128_01_n_0_0.start (ix2 p q) (broadcastInDim S1 ![] bcast_S_S1 (constantI S_ 32 0#32)) 0 = 0 := rfl
  have hs1 : scatter_S128x128_S1_S100x128_01_n_0_0.start (ix2 p q) (broadcastInDim S1 ![] bcast_S_S1 (constantI S_ 32 0#32)) 1 = 0 := rfl
  have hw0 : scatter_S128x128_S1_S100x128_01_n_0_0.window (ix2 p q) 0 = p.val := rfl
  have hw1 : scatter_S128x128_S1_S100x128_01_n_0_0.window (ix2 p q) 1 = q.val := rfl
  rw [hs0, hs1, hw0, hw1]
  omega

theorem globals_at (x : FVec Ideal S100x128 .f32) (r : Fin 100) (k : Fin 128) :
    globals x (ix2 (r.castLE (by decide)) k) = x (ix2 r k) := by
  refine Routing.scatter_set_hit _ _ _ _ _ _ ?_ (ix2 r k) ((globals_lands _ _ _ _).2 ⟨rfl, rfl⟩)
  intro i hi
  rw [eq_ix2 i] at hi ⊢
  obtain ⟨h0, h1⟩ := (globals_lands _ _ _ _).1 hi
  have e0 : i 0 = r := Fin.ext h0
  have e1 : i 1 = k := Fin.ext h1
  rw [e0, e1]

theorem entry_glob (r : Fin 100) (k : Fin 128) :
    globV (entryV m) c (ix2 (r.castLE (by decide)) k) = m ((c : Thread nD τ).loc main_arg2) (ix2 r k) := by
  have h : globV (entryV m) c = globals (m ((c : Thread nD τ).loc main_arg2)) := by
    unfold globV entryV
    entry_read
    rfl
  rw [h, globals_at]

theorem entry_upper (k d : Fin 128) :
    w1V (entryV m) c (ix2 k d) = m ((c : Thread nD τ).loc main_arg3) (ix2 (k.castLE (by decide)) d) := by
  have h : w1V (entryV m) c = extractStridedSlice S128x128 ![0, 0] (m ((c : Thread nD τ).loc main_arg3)) slices_S256x128_S128x128_0_0 := by
    unfold w1V entryV
    entry_read
    rfl
  rw [h]
  refine congrArg (m ((c : Thread nD τ).loc main_arg3)) (funext fun b => Fin.ext ?_)
  match b with
  | ⟨0, _⟩ => show 0 + k.val = k.val; omega
  | ⟨1, _⟩ => show 0 + d.val = d.val; omega

theorem entry_lower (k d : Fin 128) :
    w2V (entryV m) c (ix2 k d) = m ((c : Thread nD τ).loc main_arg3) (ix2 (k.natAdd 128) d) := by
  have h : w2V (entryV m) c = extractStridedSlice S128x128 ![128, 0] (m ((c : Thread nD τ).loc main_arg3)) slices_S256x128_S128x128_128_0 := by
    unfold w2V entryV
    entry_read
    rfl
  rw [h]
  refine congrArg (m ((c : Thread nD τ).loc main_arg3)) (funext fun b => Fin.ext ?_)
  match b with
  | ⟨0, _⟩ => rfl
  | ⟨1, _⟩ => show 0 + d.val = d.val; omega

theorem entry_bias (d : Fin 128) : biasV (entryV m) c (ix2 0 d) = m ((c : Thread nD τ).loc main_arg4) (ix1 d) := by
  have h : biasV (entryV m) c = shapeCast S1x128 (m ((c : Thread nD τ).loc main_arg4)) shapeCasts_S128_S1x128 := by
    unfold biasV entryV
    entry_read
    rfl
  rw [h]
  pointwise

end Cert.Proof

end
-- ==== Proof.Reference.lean ====
/-
  The reference's result over the extended reals, entry by entry: a graph's greatest nodes times the upper half of the
  weights, plus the globals' row times the lower half, plus the bias.
-/
module

public import proofs.«01_k».proof.Proof.Gen.ReferenceIdeal.Read
public import Idealize.ShloMosaic.PureOps.Ideal.Laws
public import Idealize.ShloMosaic.Lib.Pointwise
public import Idealize.ShloMosaic.Lib.Pipeline.Value

@[expose] public section

noncomputable section

namespace Cert.Proof.Ref

open Cert.ReferenceIdeal Cert.ReferenceIdeal.Gen Cert.ReferenceIdeal.Read
open Idealize.ShloMosaic

variable (x0 : FVec Ideal S100000x128 .f32) (x1 : IVec S100000 32) (x2 : FVec Ideal S100x128 .f32) (x3 : FVec Ideal S256x128 .f32)
  (x4 : FVec Ideal S128 .f32)

theorem ideal_bot : (FloatOps.ofBits .f32 0xFF800000#32 : Ideal .f32) = (⊥ : EReal) := by
  show Ideal.ofBits .f32 0xFF800000#32 = ⊥
  simp [Ideal.ofBits, Ideal.ieee]

/-- A node's entry where its id is the graph's; −∞ elsewhere. -/
theorem member_at (g : Fin 100) (r : Fin 100000) (d : Fin 128) :
    (val_main_v8 (F := Ideal) x0 x1 (ix3 g r d) : EReal) = if (x1 (ix1 r)).toNat = g.val then (x0 (ix2 r d) : EReal) else ⊥ := by
  have hc : val_main_call0_v1 (F := Ideal) x1 (ix3 g r d) = BitVec.ofBool (x1 (ix1 r) == BitVec.ofNat 32 g.val) := by
    rw [val_main_call0_v1_apply, val_main_v6_apply, val_main_v5_apply, val_main_v3_apply, val_main_v0_apply, val_main_v4_apply,
      val_main_v2_apply, val_main_v1_apply]
    show IntOp.cmpi .eq _ _ = IntOp.cmpi .eq _ _
    refine congrArg₂ (IntOp.cmpi .eq) (congrArg x1 ?_) rfl
    funext a
    match a with
    | ⟨0, _⟩ => rfl
  have hx : val_main_call0_v2 (F := Ideal) x0 (ix3 g r d) = x0 (ix2 r d) := by
    rw [val_main_call0_v2_apply, val_main_v7_apply]
    refine congrArg x0 (funext fun a => ?_)
    match a with
    | ⟨0, _⟩ => rfl
    | ⟨1, _⟩ => rfl
  have hn : val_main_call0_v3 (F := Ideal) (ix3 g r d) = (⊥ : EReal) := ideal_bot
  rw [val_main_v8_apply, hc, hx, hn]
  have hg := g.isLt
  by_cases h : (x1 (ix1 r)).toNat = g.val
  · rw [if_pos h, beq_iff_eq.2 (BitVec.eq_of_toNat_eq (by rw [h, BitVec.toNat_ofNat]; omega))]; rfl
  · rw [if_neg h, beq_eq_false_iff_ne.2 fun e => h (by rw [e, BitVec.toNat_ofNat]; omega)]; rfl

/-- A graph's greatest node, by its upper bounds. -/
theorem max_le (g : Fin 100) (d : Fin 128) (z : EReal) :
    (val_main_v9 (F := Ideal) x0 x1 (ix2 g d) : EReal) ≤ z
      ↔ ∀ r : Fin 100000, (x1 (ix1 r)).toNat = g.val → (x0 (ix2 r d) : EReal) ≤ z := by
  have hr : S100x100000x128.Reduces [1] S100x128 := by decide
  have hv : val_main_v9 (F := Ideal) x0 x1 (ix2 g d)
      = (Finset.univ : Finset (Fin 100000)).fold max (val_main_cst_0 (F := Ideal) (Shape.Idx.first h_S_))
        (val_main_v8 (F := Ideal) x0 x1 ∘ hr.lift (ix2 g d)) :=
    Host.reduce_eq_fold_single (FloatOps.maximumf (F := Ideal) (φ := .f32)) (val_main_v8 (F := Ideal) x0 x1) (val_main_cst_0 (F := Ideal))
      reducesTo_S100x100000x128_S100x128_d1 hr h_S_ (ix2 g d)
  have hl : ∀ r : Fin 100000, hr.lift (ix2 g d) r = (ix3 g r d : S100x100000x128.Idx) := by
    intro r
    funext a
    refine Fin.ext ?_
    refine (Shape.Reduces.lift_val hr (ix2 g d) r a).trans ?_
    match a with
    | ⟨0, _⟩ => rfl
    | ⟨1, _⟩ => rfl
    | ⟨2, _⟩ => rfl
  have hm : ∀ r : Fin 100000, ((val_main_v8 (F := Ideal) x0 x1 ∘ hr.lift (ix2 g d)) r : EReal)
      = if (x1 (ix1 r)).toNat = g.val then (x0 (ix2 r d) : EReal) else ⊥ := fun r =>
    (congrArg (val_main_v8 (F := Ideal) x0 x1) (hl r)).trans (member_at x0 x1 g r d)
  rw [hv]
  refine (Finset.fold_max_le (α := Fin 100000) (β := EReal) z).trans ?_
  constructor
  · intro h r he
    have h1 := h.2 r (Finset.mem_univ _)
    rwa [hm r, if_pos he] at h1
  · intro h
    refine ⟨?_, fun r _ => ?_⟩
    · rw [show (val_main_cst_0 (F := Ideal) (Shape.Idx.first h_S_) : EReal) = ⊥ from ideal_bot]
      exact bot_le
    · rw [hm r]
      split
      · exact h r (by assumption)
      · exact bot_le

theorem joined_left (g : Fin 100) (k : Fin 128) :
    val_main_v10 (F := Ideal) x0 x1 x2 (ix2 g (k.castLE (by decide))) = val_main_v9 (F := Ideal) x0 x1 (ix2 g k) := by
  unfold val_main_v10
  generalize val_main_v9 (F := Ideal) x0 x1 = y
  refine concatenate_pair_apply_left (t := S100x256) (s₁ := S100x128) (s₂ := S100x128) 1 y x2
    concatenates_S100x128_S100x128_S100x256_d1 (ix2 g (k.castLE (by decide))) rfl (ix2 g k) fun b => ?_
  match b with
  | ⟨0, _⟩ => rfl
  | ⟨1, _⟩ => rfl

theorem joined_right (g : Fin 100) (k : Fin 128) :
    val_main_v10 (F := Ideal) x0 x1 x2 (ix2 g (k.natAdd 128)) = x2 (ix2 g k) := by
  unfold val_main_v10
  generalize val_main_v9 (F := Ideal) x0 x1 = y
  refine concatenate_pair_apply_right (t := S100x256) (s₁ := S100x128) (s₂ := S100x128) 1 y x2
    concatenates_S100x128_S100x128_S100x256_d1 (ix2 g (k.natAdd 128)) rfl rfl (ix2 g k) (fun b hb => ?_) ?_
  · match b with
    | ⟨0, _⟩ => rfl
    | ⟨1, _⟩ => exact absurd rfl hb
  · show k.val + 128 = 128 + k.val
    omega

theorem result_at (g : Fin 100) (d : Fin 128) :
    (val_main_v14 (F := Ideal) x0 x1 x2 x3 x4 (ix2 g d) : EReal)
      = (∑ k : Fin 128, (val_main_v9 (F := Ideal) x0 x1 (ix2 g k) : EReal) * x3 (ix2 (k.castLE (by decide)) d))
        + (∑ k : Fin 128, (x2 (ix2 g k) : EReal) * x3 (ix2 (k.natAdd 128) d)) + x4 (ix1 d) := by
  have hl : ∀ k : Fin 256, lidx_main_v11 (ix2 g d) k = (ix2 g k : S100x256.Idx) := fun k => funext fun a => by
    match a with
    | ⟨0, _⟩ => rfl
    | ⟨1, _⟩ => rfl
  have hr : ∀ k : Fin 256, ridx_main_v11 (ix2 g d) k = (ix2 k d : S256x128.Idx) := fun k => funext fun a => by
    match a with
    | ⟨0, _⟩ => rfl
    | ⟨1, _⟩ => rfl
  have hb : val_main_v13 (F := Ideal) x4 (ix2 g d) = x4 (ix1 d) := by
    rw [val_main_v13_apply, val_main_v12_apply]
    refine congrArg x4 (funext fun a => ?_)
    match a with
    | ⟨0, _⟩ => rfl
  rw [val_main_v14_apply, hb, val_main_v11_apply]
  show (∑ k : Fin 256, _ : EReal) + _ = _
  refine congrArg (fun s : EReal => s + x4 (ix1 d)) ?_
  refine (Fin.sum_univ_add (a := 128) (b := 128) _).trans (congrArg₂ (fun s t : EReal => s + t)
    (Finset.sum_congr rfl fun k _ => ?_) (Finset.sum_congr rfl fun k _ => ?_))
  · rw [hl, hr]
    exact congrArg (fun s : EReal => s * x3 (ix2 (k.castLE (by decide)) d)) (joined_left x0 x1 x2 g k)
  · rw [hl, hr]
    exact congrArg (fun s : EReal => s * x3 (ix2 (k.natAdd 128) d)) (joined_right x0 x1 x2 g k)

end Cert.Proof.Ref

end
-- ==== Proof.Algebraic.lean ====
/-
  The idealized kernel and the idealized reference end with equal results.
-/
module

public import proofs.«01_k».proof.Proof.IdealFrames
public import proofs.«01_k».proof.Proof.Output
public import proofs.«01_k».proof.Proof.Reference

@[expose] public section

noncomputable section

namespace Cert.Proof

open Cert.Kernel Cert.Kernel.Gen
open Idealize.ShloMosaic Idealize.ShloMosaic.TcCoe Idealize.ShloMosaic.Pipeline Idealize.SL.Sem

/-- The reference's result of a memory's arguments. -/
def result (m : (ℓ : Loc nD τ sig) → Buf (Elt Ideal) ℓ) (c : Dev nD) : FVec Ideal S100x128 .f32 :=
  Cert.ReferenceIdeal.Read.val_main_v14 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem rows_at (X : Vec Ideal S128x128 .f32) (g : Fin 100) (d : Fin 128) :
    firstRows X (ix2 g d) = X (ix2 (g.castLE (by decide)) d) := by
  refine congrArg X (funext fun b => Fin.ext ?_)
  match b with
  | ⟨0, _⟩ => show 0 + g.val = g.val; omega
  | ⟨1, _⟩ => show 0 + d.val = d.val; omega

/-- What the kernel leaves is the reference's result. -/
theorem out_result (m : (ℓ : Loc nD τ sig) → Buf (Elt Ideal) ℓ) (c : Dev nD) (X : Vec Ideal S128x128 .f32)
    (h : Out (entryV m) (fun c n f => SegMax (argIds m c) (argNodes m c) (256 * n) f) c X) : firstRows X = result m c := by
  obtain ⟨f, hf, rfl⟩ := h
  funext i
  obtain ⟨g, d, rfl⟩ : ∃ (g : Fin 100) (d : Fin 128), i = ix2 g d := ⟨i 0, i 1, eq_ix2 i⟩
  have hmax : ∀ k : Fin 128, (f (ix2 (g.castLE (by decide)) k) : EReal)
      = Cert.ReferenceIdeal.Read.val_main_v9 (F := Ideal) (m ((c : Thread nD τ).loc main_arg0)) (m ((c : Thread nD τ).loc main_arg1)) (ix2 g k) :=
    fun k => eq_of_forall_ge_iff fun z => (hf _ _ z g.isLt).trans
      (Iff.trans ⟨fun a r he => a r (by have := r.isLt; omega) he, fun a r _ he => a r he⟩ (Ref.max_le _ _ g k z).symm)
  refine (rows_at _ g d).trans ?_
  refine (outv_at _ _ _ _ _ _ _).trans ((Ref.result_at _ _ _ _ _ g d).trans ?_).symm
  refine congrArg₂ (fun s t : EReal => s + t) (congrArg₂ (fun s t : EReal => s + t) (Finset.sum_congr rfl fun k _ => ?_)
    (Finset.sum_congr rfl fun k _ => ?_)) (entry_bias m c d).symm
  · exact congrArg₂ (fun s t : EReal => s * t) (hmax k).symm (entry_upper m c k d).symm
  · exact congrArg₂ (fun s t : EReal => s * t) (entry_glob m c g k).symm (entry_lower m c k d).symm

theorem algebraic : Cert.algebraic_KernelIdeal_ReferenceIdeal := by
  intro m g m' g' hp ha
  refine ⟨fun c => result m c, ?_, ?_⟩
  · exact run_ideal _ _ (θ_run_mono (run_main (F := Ideal) m g (closed_seg m fun c => sorted_of_pre _ _ _ _ _ (hp c))) fun r h c => by
      obtain ⟨X, hX, hr⟩ := h.2 c
      exact ⟨hr.trans (out_result m c X hX), h.1.1 c⟩)
  · refine θ_run_mono (Cert.ReferenceIdeal.Value.run (F := Ideal) m' g') fun r h c => ⟨(h c).1.trans ?_, (h c).2⟩
    obtain ⟨h0, h1, h2, h3, h4⟩ := ha c
    rw [h0, h1, h2, h3, h4]
    exact Cert.ReferenceIdeal.Read.val_main_v14_eq (F := Ideal) _ _ _ _ _

end Cert.Proof

end
-- ==== Proof.lean ====
/-
  The proof of `Cert.Claim`: the frames of the kernel, of its idealization and of the reference, and
  the equality of the two idealized results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.ReferenceIdeal
public import proofs.«01_k».proof.Proof.Gen.Pre_sorted_ids
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_sorted_ids.Gen.facts,
    frame_kernel, frame_ideal, frame_reference, frame_reference_pre, trivial, algebraic⟩

end Cert.Proof

end
